-- ==== Defs.lean ====
def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdRefIdeal (m : (ℓ : Loc Cert.RetFwdRefIdeal.nD Cert.RetFwdRefIdeal.τ Cert.RetFwdRefIdeal.sig) → Buf (Elt Ideal) ℓ) : Prop :=
  True

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def Pre_RetBwdRefIdeal (m : (ℓ : Loc Cert.RetBwdRefIdeal.nD Cert.RetBwdRefIdeal.τ Cert.RetBwdRefIdeal.sig) → Buf (Elt Ideal) ℓ) : Prop :=
  True

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0)
      ∧ r.2.mem ((c.tc : Thread Cert.RetFwd.nD Cert.RetFwd.τ).loc Cert.RetFwd.main_arg1) = m ((c.tc : Thread Cert.RetFwd.nD Cert.RetFwd.τ).loc Cert.RetFwd.main_arg1))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1))
      ∧ r.2.sem = fun _ => 0)

def quiescent_RetFwdRefIdeal [hRetFwdRefIdeal : Cert.RetFwdRefIdeal.Facts] : Prop :=
  ∀ (m : (ℓ : Loc Cert.RetFwdRefIdeal.nD Cert.RetFwdRefIdeal.τ Cert.RetFwdRefIdeal.sig) → Buf (Elt Ideal) ℓ) (g : Dev Cert.RetFwdRefIdeal.nD → PrngReg), Pre_RetFwdRefIdeal m →
    θ_run (Cert.RetFwdRefIdeal.defs (F := Ideal)) (onTc (τ := Cert.RetFwdRefIdeal.τ) (Cert.RetFwdRefIdeal.main (F := Ideal))) ⟨m, fun _ => 0, g⟩ (fun r => (∀ c : Dev Cert.RetFwdRefIdeal.nD,
      r.2.mem ((c.tc : Thread Cert.RetFwdRefIdeal.nD Cert.RetFwdRefIdeal.τ).loc Cert.RetFwdRefIdeal.main_arg0) = m ((c.tc : Thread Cert.RetFwdRefIdeal.nD Cert.RetFwdRefIdeal.τ).loc Cert.RetFwdRefIdeal.main_arg0)
      ∧ r.2.mem ((c.tc : Thread Cert.RetFwdRefIdeal.nD Cert.RetFwdRefIdeal.τ).loc Cert.RetFwdRefIdeal.main_arg1) = m ((c.tc : Thread Cert.RetFwdRefIdeal.nD Cert.RetFwdRefIdeal.τ).loc Cert.RetFwdRefIdeal.main_arg1))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1)
      ∧ r.2.mem ((c.tc : Thread Cert.RetBwd.nD Cert.RetBwd.τ).loc Cert.RetBwd.main_arg2) = m ((c.tc : Thread Cert.RetBwd.nD Cert.RetBwd.τ).loc Cert.RetBwd.main_arg2)
      ∧ r.2.mem ((c.tc : Thread Cert.RetBwd.nD Cert.RetBwd.τ).loc Cert.RetBwd.main_arg3) = m ((c.tc : Thread Cert.RetBwd.nD Cert.RetBwd.τ).loc Cert.RetBwd.main_arg3))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
      ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3))
      ∧ r.2.sem = fun _ => 0)

def quiescent_RetBwdRefIdeal [hRetBwdRefIdeal : Cert.RetBwdRefIdeal.Facts] : Prop :=
  ∀ (m : (ℓ : Loc Cert.RetBwdRefIdeal.nD Cert.RetBwdRefIdeal.τ Cert.RetBwdRefIdeal.sig) → Buf (Elt Ideal) ℓ) (g : Dev Cert.RetBwdRefIdeal.nD → PrngReg), Pre_RetBwdRefIdeal m →
    θ_run (Cert.RetBwdRefIdeal.defs (F := Ideal)) (onTc (τ := Cert.RetBwdRefIdeal.τ) (Cert.RetBwdRefIdeal.main (F := Ideal))) ⟨m, fun _ => 0, g⟩ (fun r => (∀ c : Dev Cert.RetBwdRefIdeal.nD,
      r.2.mem ((c.tc : Thread Cert.RetBwdRefIdeal.nD Cert.RetBwdRefIdeal.τ).loc Cert.RetBwdRefIdeal.main_arg0) = m ((c.tc : Thread Cert.RetBwdRefIdeal.nD Cert.RetBwdRefIdeal.τ).loc Cert.RetBwdRefIdeal.main_arg0)
      ∧ r.2.mem ((c.tc : Thread Cert.RetBwdRefIdeal.nD Cert.RetBwdRefIdeal.τ).loc Cert.RetBwdRefIdeal.main_arg1) = m ((c.tc : Thread Cert.RetBwdRefIdeal.nD Cert.RetBwdRefIdeal.τ).loc Cert.RetBwdRefIdeal.main_arg1)
      ∧ r.2.mem ((c.tc : Thread Cert.RetBwdRefIdeal.nD Cert.RetBwdRefIdeal.τ).loc Cert.RetBwdRefIdeal.main_arg2) = m ((c.tc : Thread Cert.RetBwdRefIdeal.nD Cert.RetBwdRefIdeal.τ).loc Cert.RetBwdRefIdeal.main_arg2)
      ∧ r.2.mem ((c.tc : Thread Cert.RetBwdRefIdeal.nD Cert.RetBwdRefIdeal.τ).loc Cert.RetBwdRefIdeal.main_arg3) = m ((c.tc : Thread Cert.RetBwdRefIdeal.nD Cert.RetBwdRefIdeal.τ).loc Cert.RetBwdRefIdeal.main_arg3))
      ∧ r.2.sem = fun _ => 0)

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v2)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v2) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v4) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v5) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_RetFwd_RetFwdIdeal : Prop :=
  True

def algebraic_RetFwdIdeal_RetFwdRefIdeal [hRetFwdIdeal : Cert.RetFwdIdeal.Facts] [hRetFwdRefIdeal : Cert.RetFwdRefIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RetFwdRefIdeal.nD Cert.RetFwdRefIdeal.τ Cert.RetFwdRefIdeal.sig) → Buf (Elt Ideal) ℓ) (g' : Dev Cert.RetFwdRefIdeal.nD → PrngReg), Pre_RetFwdIdeal m →
    (∀ c : Dev Cert.RetFwdIdeal.nD,
      m' ((c.tc : Thread Cert.RetFwdRefIdeal.nD Cert.RetFwdRefIdeal.τ).loc Cert.RetFwdRefIdeal.main_arg0) = m ((c.tc : Thread Cert.RetFwdIdeal.nD Cert.RetFwdIdeal.τ).loc Cert.RetFwdIdeal.main_arg0)
      ∧ m' ((c.tc : Thread Cert.RetFwdRefIdeal.nD Cert.RetFwdRefIdeal.τ).loc Cert.RetFwdRefIdeal.main_arg1) = m ((c.tc : Thread Cert.RetFwdIdeal.nD Cert.RetFwdIdeal.τ).loc Cert.RetFwdIdeal.main_arg1)) →
    ∃ (v0 : (c : Dev Cert.RetFwdIdeal.nD) → Buf (Elt Ideal) ((c.tc : Thread Cert.RetFwdIdeal.nD Cert.RetFwdIdeal.τ).loc Cert.RetFwdIdeal.main_v18)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v18) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
          ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1))
      ∧ θ_run (Cert.RetFwdRefIdeal.defs (F := Ideal)) (onTc (τ := Cert.RetFwdRefIdeal.τ) (Cert.RetFwdRefIdeal.main (F := Ideal))) ⟨m', fun _ => 0, g'⟩ (fun r => ∀ c : Dev Cert.RetFwdRefIdeal.nD,
          r.2.mem ((c.tc : Thread Cert.RetFwdRefIdeal.nD Cert.RetFwdRefIdeal.τ).loc Cert.RetFwdRefIdeal.main_v189) = v0 c
          ∧ r.2.mem ((c.tc : Thread Cert.RetFwdRefIdeal.nD Cert.RetFwdRefIdeal.τ).loc Cert.RetFwdRefIdeal.main_arg0) = m' ((c.tc : Thread Cert.RetFwdRefIdeal.nD Cert.RetFwdRefIdeal.τ).loc Cert.RetFwdRefIdeal.main_arg0)
          ∧ r.2.mem ((c.tc : Thread Cert.RetFwdRefIdeal.nD Cert.RetFwdRefIdeal.τ).loc Cert.RetFwdRefIdeal.main_arg1) = m' ((c.tc : Thread Cert.RetFwdRefIdeal.nD Cert.RetFwdRefIdeal.τ).loc Cert.RetFwdRefIdeal.main_arg1))

def preserves_RetBwd_RetBwdIdeal : Prop :=
  True

def algebraic_RetBwdIdeal_RetBwdRefIdeal [hRetBwdIdeal : Cert.RetBwdIdeal.Facts] [hRetBwdRefIdeal : Cert.RetBwdRefIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg)
    (m' : (ℓ : Loc Cert.RetBwdRefIdeal.nD Cert.RetBwdRefIdeal.τ Cert.RetBwdRefIdeal.sig) → Buf (Elt Ideal) ℓ) (g' : Dev Cert.RetBwdRefIdeal.nD → PrngReg), Pre_RetBwdIdeal m →
    (∀ c : Dev Cert.RetBwdIdeal.nD,
      m' ((c.tc : Thread Cert.RetBwdRefIdeal.nD Cert.RetBwdRefIdeal.τ).loc Cert.RetBwdRefIdeal.main_arg0) = m ((c.tc : Thread Cert.RetBwdIdeal.nD Cert.RetBwdIdeal.τ).loc Cert.RetBwdIdeal.main_arg0)
      ∧ m' ((c.tc : Thread Cert.RetBwdRefIdeal.nD Cert.RetBwdRefIdeal.τ).loc Cert.RetBwdRefIdeal.main_arg1) = m ((c.tc : Thread Cert.RetBwdIdeal.nD Cert.RetBwdIdeal.τ).loc Cert.RetBwdIdeal.main_arg1)
      ∧ m' ((c.tc : Thread Cert.RetBwdRefIdeal.nD Cert.RetBwdRefIdeal.τ).loc Cert.RetBwdRefIdeal.main_arg2) = m ((c.tc : Thread Cert.RetBwdIdeal.nD Cert.RetBwdIdeal.τ).loc Cert.RetBwdIdeal.main_arg2)
      ∧ m' ((c.tc : Thread Cert.RetBwdRefIdeal.nD Cert.RetBwdRefIdeal.τ).loc Cert.RetBwdRefIdeal.main_arg3) = m ((c.tc : Thread Cert.RetBwdIdeal.nD Cert.RetBwdIdeal.τ).loc Cert.RetBwdIdeal.main_arg3)) →
    ∃ (v0 : (c : Dev Cert.RetBwdIdeal.nD) → Buf (Elt Ideal) ((c.tc : Thread Cert.RetBwdIdeal.nD Cert.RetBwdIdeal.τ).loc Cert.RetBwdIdeal.main_v19)),
      θ_run (Cert.RetBwdIdeal.defs (F := Ideal)) (onTc (τ := Cert.RetBwdIdeal.τ) (Cert.RetBwdIdeal.main (F := Ideal))) ⟨m, fun _ => 0, g⟩ (fun r => ∀ c : Dev Cert.RetBwdIdeal.nD,
          r.2.mem ((c.tc : Thread Cert.RetBwdIdeal.nD Cert.RetBwdIdeal.τ).loc Cert.RetBwdIdeal.main_v19) = v0 c
          ∧ r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
          ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
          ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
          ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3))
      ∧ θ_run (Cert.RetBwdRefIdeal.defs (F := Ideal)) (onTc (τ := Cert.RetBwdRefIdeal.τ) (Cert.RetBwdRefIdeal.main (F := Ideal))) ⟨m', fun _ => 0, g'⟩ (fun r => ∀ c : Dev Cert.RetBwdRefIdeal.nD,
          r.2.mem ((c.tc : Thread Cert.RetBwdRefIdeal.nD Cert.RetBwdRefIdeal.τ).loc Cert.RetBwdRefIdeal.main_v161) = v0 c
          ∧ r.2.mem ((c.tc : Thread Cert.RetBwdRefIdeal.nD Cert.RetBwdRefIdeal.τ).loc Cert.RetBwdRefIdeal.main_arg0) = m' ((c.tc : Thread Cert.RetBwdRefIdeal.nD Cert.RetBwdRefIdeal.τ).loc Cert.RetBwdRefIdeal.main_arg0)
          ∧ r.2.mem ((c.tc : Thread Cert.RetBwdRefIdeal.nD Cert.RetBwdRefIdeal.τ).loc Cert.RetBwdRefIdeal.main_arg1) = m' ((c.tc : Thread Cert.RetBwdRefIdeal.nD Cert.RetBwdRefIdeal.τ).loc Cert.RetBwdRefIdeal.main_arg1)
          ∧ r.2.mem ((c.tc : Thread Cert.RetBwdRefIdeal.nD Cert.RetBwdRefIdeal.τ).loc Cert.RetBwdRefIdeal.main_arg2) = m' ((c.tc : Thread Cert.RetBwdRefIdeal.nD Cert.RetBwdRefIdeal.τ).loc Cert.RetBwdRefIdeal.main_arg2)
          ∧ r.2.mem ((c.tc : Thread Cert.RetBwdRefIdeal.nD Cert.RetBwdRefIdeal.τ).loc Cert.RetBwdRefIdeal.main_arg3) = m' ((c.tc : Thread Cert.RetBwdRefIdeal.nD Cert.RetBwdRefIdeal.τ).loc Cert.RetBwdRefIdeal.main_arg3))

def Claim : Prop :=
  ∃ (hEvIn : Cert.EvIn.Facts) (hEvInIdeal : Cert.EvInIdeal.Facts) (hEvInRefIdeal : Cert.EvInRefIdeal.Facts) (hOutProj : Cert.OutProj.Facts) (hOutProjIdeal : Cert.OutProjIdeal.Facts) (hOutProjRefIdeal : Cert.OutProjRefIdeal.Facts) (hOdIn : Cert.OdIn.Facts) (hOdInIdeal : Cert.OdInIdeal.Facts) (hOdInRefIdeal : Cert.OdInRefIdeal.Facts) (hRetFwd : Cert.RetFwd.Facts) (hRetFwdIdeal : Cert.RetFwdIdeal.Facts) (hRetFwdRefIdeal : Cert.RetFwdRefIdeal.Facts) (hRetBwd : Cert.RetBwd.Facts) (hRetBwdIdeal : Cert.RetBwdIdeal.Facts) (hRetBwdRefIdeal : Cert.RetBwdRefIdeal.Facts),
    quiescent_EvIn (hEvIn := hEvIn)
    ∧ quiescent_EvInIdeal (hEvInIdeal := hEvInIdeal)
    ∧ quiescent_EvInRefIdeal (hEvInRefIdeal := hEvInRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_RetFwd (hRetFwd := hRetFwd)
    ∧ quiescent_RetFwdIdeal (hRetFwdIdeal := hRetFwdIdeal)
    ∧ quiescent_RetFwdRefIdeal (hRetFwdRefIdeal := hRetFwdRefIdeal)
    ∧ quiescent_RetBwd (hRetBwd := hRetBwd)
    ∧ quiescent_RetBwdIdeal (hRetBwdIdeal := hRetBwdIdeal)
    ∧ quiescent_RetBwdRefIdeal (hRetBwdRefIdeal := hRetBwdRefIdeal)
    ∧ preserves_EvIn_EvInIdeal
    ∧ algebraic_EvInIdeal_EvInRefIdeal (hEvInIdeal := hEvInIdeal) (hEvInRefIdeal := hEvInRefIdeal)
    ∧ preserves_OutProj_OutProjIdeal
    ∧ algebraic_OutProjIdeal_OutProjRefIdeal (hOutProjIdeal := hOutProjIdeal) (hOutProjRefIdeal := hOutProjRefIdeal)
    ∧ preserves_OdIn_OdInIdeal
    ∧ algebraic_OdInIdeal_OdInRefIdeal (hOdInIdeal := hOdInIdeal) (hOdInRefIdeal := hOdInRefIdeal)
    ∧ preserves_RetFwd_RetFwdIdeal
    ∧ algebraic_RetFwdIdeal_RetFwdRefIdeal (hRetFwdIdeal := hRetFwdIdeal) (hRetFwdRefIdeal := hRetFwdRefIdeal)
    ∧ preserves_RetBwd_RetBwdIdeal
    ∧ algebraic_RetBwdIdeal_RetBwdRefIdeal (hRetBwdIdeal := hRetBwdIdeal) (hRetBwdRefIdeal := hRetBwdRefIdeal)
-- ==== EvIn.lean ====
abbrev S2x8192x4096 : Shape := ⟨3, ![2, 8192, 4096]⟩
abbrev S1x4096x14336 : Shape := ⟨3, ![1, 4096, 14336]⟩
abbrev S16384x4096 : Shape := ⟨2, ![16384, 4096]⟩
abbrev S112x16384x128 : Shape := ⟨3, ![112, 16384, 128]⟩
abbrev S1024x4096 : Shape := ⟨2, ![1024, 4096]⟩
abbrev S1x4096x512 : Shape := ⟨3, ![1, 4096, 512]⟩
abbrev S4x1024x128 : Shape := ⟨3, ![4, 1024, 128]⟩
abbrev S4096x512 : Shape := ⟨2, ![4096, 512]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S2x8192x4096, .f32⟩
  | .hbm, ⟨1, _⟩ => ⟨S1x4096x14336, .f32⟩
  | .hbm, ⟨2, _⟩ => ⟨S16384x4096, .f32⟩
  | .hbm, ⟨3, _⟩ => ⟨S16384x4096, .bf16⟩
  | .hbm, ⟨4, _⟩ => ⟨S112x16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S4x1024x128, .bf16⟩
  | .local _ .vmem, ⟨5, _⟩ => ⟨S4x1024x128, .bf16⟩
  | .local _ .vmem, ⟨6, _⟩ => ⟨S4096x512, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![28, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvInRefIdeal.lean ====
abbrev S2x8192x4096 : Shape := ⟨3, ![2, 8192, 4096]⟩
abbrev S1x4096x14336 : Shape := ⟨3, ![1, 4096, 14336]⟩
abbrev S4096x14336 : Shape := ⟨2, ![4096, 14336]⟩
abbrev S2x8192x14336 : Shape := ⟨3, ![2, 8192, 14336]⟩
abbrev S16384x112x128 : Shape := ⟨3, ![16384, 112, 128]⟩
abbrev S112x16384x128 : Shape := ⟨3, ![112, 16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1x4096x14336, .f32⟩
  | .hbm, ⟨2, _⟩ => ⟨S4096x14336, .f32⟩
  | .hbm, ⟨3, _⟩ => ⟨S2x8192x14336, .f32⟩
  | .hbm, ⟨4, _⟩ => ⟨S16384x112x128, .f32⟩
  | .hbm, ⟨5, _⟩ => ⟨S112x16384x128, .f32⟩
  | .hbm, ⟨6, _⟩ => ⟨S112x16384x128, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S16384x4096 : Shape := ⟨2, ![16384, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OdIn.lean ====
abbrev S16384x4096 : Shape := ⟨2, ![16384, 4096]⟩
abbrev S1x4096x20480 : Shape := ⟨3, ![1, 4096, 20480]⟩
abbrev S160x16384x128 : Shape := ⟨3, ![160, 16384, 128]⟩
abbrev S1024x4096 : Shape := ⟨2, ![1024, 4096]⟩
abbrev S1x4096x512 : Shape := ⟨3, ![1, 4096, 512]⟩
abbrev S4x1024x128 : Shape := ⟨3, ![4, 1024, 128]⟩
abbrev S4096x512 : Shape := ⟨2, ![4096, 512]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S160x16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S4x1024x128, .bf16⟩
  | .local _ .vmem, ⟨5, _⟩ => ⟨S4x1024x128, .bf16⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OdInRefIdeal.lean ====
abbrev S16384x4096 : Shape := ⟨2, ![16384, 4096]⟩
abbrev S1x4096x20480 : Shape := ⟨3, ![1, 4096, 20480]⟩
abbrev S4096x20480 : Shape := ⟨2, ![4096, 20480]⟩
abbrev S16384x20480 : Shape := ⟨2, ![16384, 20480]⟩
abbrev S16384x160x128 : Shape := ⟨3, ![16384, 160, 128]⟩
abbrev S160x16384x128 : Shape := ⟨3, ![160, 16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x20480, .f32⟩
  | .hbm, ⟨2, _⟩ => ⟨S16384x4096, .f32⟩
  | .hbm, ⟨3, _⟩ => ⟨S4096x20480, .f32⟩
  | .hbm, ⟨4, _⟩ => ⟨S16384x20480, .f32⟩
  | .hbm, ⟨5, _⟩ => ⟨S16384x160x128, .f32⟩
  | .hbm, ⟨6, _⟩ => ⟨S160x16384x128, .f32⟩
  | .hbm, ⟨7, _⟩ => ⟨S160x16384x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== RetFwd.lean ====
abbrev S112x16384x128 : Shape := ⟨3, ![112, 16384, 128]⟩
abbrev S2x8 : Shape := ⟨2, ![2, 8]⟩
abbrev S_ : Shape := ⟨0, ![]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16x16384x128 : Shape := ⟨3, ![16, 16384, 128]⟩
abbrev S2x1024x128 : Shape := ⟨3, ![2, 1024, 128]⟩
abbrev S1024x128 : Shape := ⟨2, ![1024, 128]⟩
abbrev S256x256 : Shape := ⟨2, ![256, 256]⟩
abbrev S1x1 : Shape := ⟨2, ![1, 1]⟩
abbrev S128x256 : Shape := ⟨2, ![128, 256]⟩
abbrev S128x128 : Shape := ⟨2, ![128, 128]⟩
abbrev S1x128x128 : Shape := ⟨3, ![1, 128, 128]⟩

abbrev nBuf : Space → Nat
  | .hbm => 45
  | .vmem => 13
  | .smem => 1
  | _ => 0

abbrev bufTy : (tb : Table) → Fin (tcTables nBuf tb) → BufTy
  | .hbm, ⟨0, _⟩ => ⟨S112x16384x128, .bf16⟩
  | .hbm, ⟨1, _⟩ => ⟨S2x8, .f32⟩
  | .hbm, ⟨2, _⟩ => ⟨S2x8, .f32⟩
  | .hbm, ⟨3, _⟩ => ⟨S_, .f32⟩
  | .hbm, ⟨4, _⟩ => ⟨S2x8, .f32⟩
  | .hbm, ⟨5, _⟩ => ⟨S2x8, .f32⟩
  | .hbm, ⟨6, _⟩ => ⟨S2x8, .f32⟩
  | .hbm, ⟨7, _⟩ => ⟨S2x8, .f32⟩
  | .hbm, ⟨8, _⟩ => ⟨S2x8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S127, .f32⟩
  | .hbm, ⟨17, _⟩ => ⟨S_, .f32⟩
  | .hbm, ⟨18, _⟩ => ⟨S127, .f32⟩
  | .hbm, ⟨19, _⟩ => ⟨S127, .f32⟩
  | .hbm, ⟨20, _⟩ => ⟨S1, .f32⟩
  | .hbm, ⟨21, _⟩ => ⟨S_, .f32⟩
  | .hbm, ⟨22, _⟩ => ⟨S127, .f32⟩
  | .hbm, ⟨23, _⟩ => ⟨S127, .f32⟩
  | .hbm, ⟨24, _⟩ => ⟨S127, .f32⟩
  | .hbm, ⟨25, _⟩ => ⟨S127, .f32⟩
  | .hbm, ⟨26, _⟩ => ⟨S1, .f32⟩
  | .hbm, ⟨27, _⟩ => ⟨S127, .f32⟩
  | .hbm, ⟨28, _⟩ => ⟨S127, .f32⟩
  | .hbm, ⟨29, _⟩ => ⟨S127, .f32⟩
  | .hbm, ⟨30, _⟩ => ⟨S1, .f32⟩
  | .hbm, ⟨31, _⟩ => ⟨S128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S8192, .f32⟩
  | .hbm, ⟨37, _⟩ => ⟨S8192x1, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S16x16384x128, .f32⟩
  | .local _ .vmem, ⟨0, _⟩ => ⟨S2x1024x128, .bf16⟩
  | .local _ .vmem, ⟨1, _⟩ => ⟨S2x1024x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x1024x128, .bf16⟩
  | .local _ .vmem, ⟨5, _⟩ => ⟨S2x1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S2x1024x128, .f32⟩
  | .local _ .vmem, ⟨11, _⟩ => ⟨S2x1024x128, .f32⟩
  | .local _ .vmem, ⟨12, _⟩ => ⟨S256x256, .f32⟩
  | .local _ .smem, ⟨0, _⟩ => ⟨S2x8, .f32⟩
  | _, _ => ⟨S112x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_cst : Ref sig .tc := ⟨.hbm, 14, rfl⟩
abbrev main_call0_v3 : Ref sig .tc := ⟨.hbm, 15, rfl⟩
abbrev main_call0_v4 : Ref sig .tc := ⟨.hbm, 16, rfl⟩
abbrev main_call0_cst_0 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_v6 : Ref sig .tc := ⟨.hbm, 31, rfl⟩
abbrev main_v7 : Ref sig .tc := ⟨.hbm, 32, rfl⟩
abbrev main_cst_2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 2 → Nat :=
  let c0 : Index := 0#32
  let arg1 : BitVec 32 := BitVec.ofNat 32 (i 1).val
  let v3 : Index := Scalar.indexCast arg1
  ![0, v3.toNat]
def k0_off2 (i : grid0.Coords) : Fin 2 → Nat :=
  let c1 : Index := 1#32
  let arg1 : BitVec 32 := BitVec.ofNat 32 (i 1).val
  let v30 : Index := Scalar.indexCast arg1
  ![1, v30.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c8_i32 : BitVec 32 := 8#32
  let v1 : BitVec 32 := Scalar.muli arg0 c8_i32
  let v2 : BitVec 32 := Scalar.addi v1 arg2
  let c0_i32_0 : BitVec 32 := 0#32
  let c0_i32_1 : BitVec 32 := 0#32
  ![v0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c8_i32_0 : BitVec 32 := 8#32
  let v1 : BitVec 32 := Scalar.muli arg0 c8_i32_0
  let v2 : BitVec 32 := Scalar.addi v1 arg2
  let c0_i32 : BitVec 32 := 0#32
  let c0_i32_1 : BitVec 32 := 0#32
  ![v0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c8_i32 : BitVec 32 := 8#32
  let v1 : BitVec 32 := Scalar.muli arg0 c8_i32
  let v2 : BitVec 32 := Scalar.addi v1 arg2
  let c0_i32 : BitVec 32 := 0#32
  let c0_i32_0 : BitVec 32 := 0#32
  ![v0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== RetFwdRefIdeal.lean ====
abbrev S112x16384x128 : Shape := ⟨3, ![112, 16384, 128]⟩
abbrev S2x8 : Shape := ⟨2, ![2, 8]⟩
abbrev S_ : Shape := ⟨0, ![]⟩
abbrev S16x16384x128 : Shape := ⟨3, ![16, 16384, 128]⟩
abbrev S8x2x2x8192x128 : Shape := ⟨5, ![8, 2, 2, 8192, 128]⟩
abbrev S2x8x8192x2x128 : Shape := ⟨5, ![2, 8, 8192, 2, 128]⟩
abbrev S2x8x8192x256 : Shape := ⟨4, ![2, 8, 8192, 256]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S2x8x8192x128 : Shape := ⟨4, ![2, 8, 8192, 128]⟩
abbrev S1x1x8192x128 : Shape := ⟨4, ![1, 1, 8192, 128]⟩
abbrev S1x8 : Shape := ⟨2, ![1, 8]⟩
abbrev S8 : Shape := ⟨1, ![8]⟩
abbrev S2x8x64x128x256 : Shape := ⟨5, ![2, 8, 64, 128, 256]⟩
abbrev S128x1 : Shape := ⟨2, ![128, 1]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S2x8x64x128x128 : Shape := ⟨5, ![2, 8, 64, 128, 128]⟩
abbrev S8x1x128x128 : Shape := ⟨4, ![8, 1, 128, 128]⟩
abbrev S1x8x1x128x128 : Shape := ⟨5, ![1, 8, 1, 128, 128]⟩
abbrev S8x1x1x1 : Shape := ⟨4, ![8, 1, 1, 1]⟩
abbrev S1x1x128x1 : Shape := ⟨4, ![1, 1, 128, 1]⟩
abbrev S8x1x128x1 : Shape := ⟨4, ![8, 1, 128, 1]⟩
abbrev S1x8x1x128x1 : Shape := ⟨5, ![1, 8, 1, 128, 1]⟩
abbrev S2x8x64x256x256 : Shape := ⟨5, ![2, 8, 64, 256, 256]⟩
abbrev S1x8x1x1 : Shape := ⟨4, ![1, 8, 1, 1]⟩
abbrev S2x8x256x256 : Shape := ⟨4, ![2, 8, 256, 256]⟩
abbrev S64x2x8x128x256 : Shape := ⟨5, ![64, 2, 8, 128, 256]⟩
abbrev S64x2x8x256x256 : Shape := ⟨5, ![64, 2, 8, 256, 256]⟩
abbrev S1x2x8x128x256 : Shape := ⟨5, ![1, 2, 8, 128, 256]⟩
abbrev S2x8x128x256 : Shape := ⟨4, ![2, 8, 128, 256]⟩
abbrev S1x2x8x256x256 : Shape := ⟨5, ![1, 2, 8, 256, 256]⟩

abbrev nBuf : Space → Nat
  | .hbm => 297
  | .vmem => 0
  | .smem => 0
  | _ => 0

abbrev hbmTy0_0 (i : Nat) : BufTy := match i % 128 with
  | 0 => ⟨S112x16384x128, .bf16⟩
  | 1 => ⟨S2x8, .f32⟩
  | 2 => ⟨S2x8, .f32⟩
  | 3 => ⟨S_, .f32⟩
  | 4 => ⟨S2x8, .f32⟩
  | 5 => ⟨S2x8, .f32⟩
  | 6 => ⟨S2x8, .f32⟩
  | 7 => ⟨S2x8, .f32⟩
  | 8 => ⟨S2x8, .f32⟩
  | 9 => ⟨S16x16384x128, .bf16⟩
  | 10 => ⟨S16x16384x128, .f32⟩
  | 11 => ⟨S8x2x2x8192x128, .f32⟩
  | 12 => ⟨S2x8x8192x2x128, .f32⟩
  | 13 => ⟨S2x8x8192x256, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S127, .f32⟩
  | 22 => ⟨S_, .f32⟩
  | 23 => ⟨S127, .f32⟩
  | 24 => ⟨S127, .f32⟩
  | 25 => ⟨S1, .f32⟩
  | 26 => ⟨S_, .f32⟩
  | 27 => ⟨S127, .f32⟩
  | 28 => ⟨S127, .f32⟩
  | 29 => ⟨S127, .f32⟩
  | 30 => ⟨S127, .f32⟩
  | 31 => ⟨S1, .f32⟩
  | 32 => ⟨S127, .f32⟩
  | 33 => ⟨S127, .f32⟩
  | 34 => ⟨S127, .f32⟩
  | 35 => ⟨S1, .f32⟩
  | 36 => ⟨S128, .f32⟩
  | 37 => ⟨S128, .f32⟩
  | 38 => ⟨S_, .f32⟩
  | 39 => ⟨S128, .f32⟩
  | 40 => ⟨S128, .f32⟩
  | 41 => ⟨S8192, .f32⟩
  | 42 => ⟨S8192x1, .f32⟩
  | 43 => ⟨S1x128, .f32⟩
  | 44 => ⟨S8192x128, .f32⟩
  | 45 => ⟨S8192x128, .f32⟩
  | 46 => ⟨S8192x128, .f32⟩
  | 47 => ⟨S8192x128, .f32⟩
  | 48 => ⟨S8192x128, .f32⟩
  | 49 => ⟨S2x8x8192x128, .f32⟩
  | 50 => ⟨S2x8x8192x128, .f32⟩
  | 51 => ⟨S1x1x8192x128, .f32⟩
  | 52 => ⟨S2x8x8192x128, .f32⟩
  | 53 => ⟨S2x8x8192x128, .f32⟩
  | 54 => ⟨S1x1x8192x128, .f32⟩
  | 55 => ⟨S2x8x8192x128, .f32⟩
  | 56 => ⟨S2x8x8192x128, .f32⟩
  | 57 => ⟨S2x8x8192x128, .f32⟩
  | 58 => ⟨S1x1x8192x128, .f32⟩
  | 59 => ⟨S2x8x8192x128, .f32⟩
  | 60 => ⟨S2x8x8192x128, .f32⟩
  | 61 => ⟨S1x1x8192x128, .f32⟩
  | 62 => ⟨S2x8x8192x128, .f32⟩
  | 63 => ⟨S2x8x8192x128, .f32⟩
  | 64 => ⟨S2x8x8192x128, .f32⟩
  | 65 => ⟨S2x8x8192x256, .f32⟩
  | 66 => ⟨S16x16384x128, .bf16⟩
  | 67 => ⟨S16x16384x128, .f32⟩
  | 68 => ⟨S8x2x2x8192x128, .f32⟩
  | 69 => ⟨S2x8x8192x2x128, .f32⟩
  | 70 => ⟨S2x8x8192x256, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S127, .f32⟩
  | 79 => ⟨S_, .f32⟩
  | 80 => ⟨S127, .f32⟩
  | 81 => ⟨S127, .f32⟩
  | 82 => ⟨S1, .f32⟩
  | 83 => ⟨S_, .f32⟩
  | 84 => ⟨S127, .f32⟩
  | 85 => ⟨S127, .f32⟩
  | 86 => ⟨S127, .f32⟩
  | 87 => ⟨S127, .f32⟩
  | 88 => ⟨S1, .f32⟩
  | 89 => ⟨S127, .f32⟩
  | 90 => ⟨S127, .f32⟩
  | 91 => ⟨S127, .f32⟩
  | 92 => ⟨S1, .f32⟩
  | 93 => ⟨S128, .f32⟩
  | 94 => ⟨S128, .f32⟩
  | 95 => ⟨S_, .f32⟩
  | 96 => ⟨S128, .f32⟩
  | 97 => ⟨S128, .f32⟩
  | 98 => ⟨S8192, .f32⟩
  | 99 => ⟨S8192x1, .f32⟩
  | 100 => ⟨S1x128, .f32⟩
  | 101 => ⟨S8192x128, .f32⟩
  | 102 => ⟨S8192x128, .f32⟩
  | 103 => ⟨S8192x128, .f32⟩
  | 104 => ⟨S8192x128, .f32⟩
  | 105 => ⟨S8192x128, .f32⟩
  | 106 => ⟨S2x8x8192x128, .f32⟩
  | 107 => ⟨S2x8x8192x128, .f32⟩
  | 108 => ⟨S1x1x8192x128, .f32⟩
  | 109 => ⟨S2x8x8192x128, .f32⟩
  | 110 => ⟨S2x8x8192x128, .f32⟩
  | 111 => ⟨S1x1x8192x128, .f32⟩
  | 112 => ⟨S2x8x8192x128, .f32⟩
  | 113 => ⟨S2x8x8192x128, .f32⟩
  | 114 => ⟨S2x8x8192x128, .f32⟩
  | 115 => ⟨S1x1x8192x128, .f32⟩
  | 116 => ⟨S2x8x8192x128, .f32⟩
  | 117 => ⟨S2x8x8192x128, .f32⟩
  | 118 => ⟨S1x1x8192x128, .f32⟩
  | 119 => ⟨S2x8x8192x128, .f32⟩
  | 120 => ⟨S2x8x8192x128, .f32⟩
  | 121 => ⟨S2x8x8192x128, .f32⟩
  | 122 => ⟨S2x8x8192x256, .f32⟩
  | 123 => ⟨S_, .f32⟩
  | 124 => ⟨S2x8x8192x256, .f32⟩
  | 125 => ⟨S2x8x8192x256, .f32⟩
  | 126 => ⟨S16x16384x128, .bf16⟩
  | 127 => ⟨S16x16384x128, .f32⟩
  | _ => ⟨S112x16384x128, .bf16⟩

abbrev hbmTy0_1 (i : Nat) : BufTy := match i % 128 with
  | 0 => ⟨S8x2x2x8192x128, .f32⟩
  | 1 => ⟨S2x8x8192x2x128, .f32⟩
  | 2 => ⟨S2x8x8192x256, .f32⟩
  | 3 => ⟨S1x8, .f32⟩
  | 4 => ⟨S8, .f32⟩
  | 5 => ⟨S2x8x64x128x256, .f32⟩
  | 6 => ⟨S2x8x64x128x256, .f32⟩
  | 7 => ⟨S2x8x64x128x256, .f32⟩
  | 8 => ⟨S128, .f32⟩
  | 9 => ⟨S128x1, .f32⟩
  | 10 => ⟨S1x128, .f32⟩
  | 11 => ⟨S128x128, .f32⟩
  | 12 => ⟨S128x128, .f32⟩
  | 13 => ⟨S128x128, .f32⟩
  | 14 => ⟨S_, .f32⟩
  | 15 => ⟨S128x128, .f32⟩
  | 16 => ⟨S128x128, .i1⟩
  | 17 => ⟨S1x128x128, .i1⟩
  | 18 => ⟨S8x1x1, .f32⟩
  | 19 => ⟨S_, .f32⟩
  | 20 => ⟨S128x128, .f32⟩
  | 21 => ⟨S128x128, .f32⟩
  | 22 => ⟨S1x128x128, .f32⟩
  | 23 => ⟨S8x128x128, .f32⟩
  | 24 => ⟨S8x128x128, .f32⟩
  | 25 => ⟨S8x128x128, .f32⟩
  | 26 => ⟨S8x128x128, .f32⟩
  | 27 => ⟨S_, .f32⟩
  | 28 => ⟨S_, .f32⟩
  | 29 => ⟨S8x128x128, .i1⟩
  | 30 => ⟨S8x128x128, .f32⟩
  | 31 => ⟨S8x128x128, .f32⟩
  | 32 => ⟨S2x8x64x128x128, .f32⟩
  | 33 => ⟨S8x1x128x128, .f32⟩
  | 34 => ⟨S1x8x1x128x128, .f32⟩
  | 35 => ⟨S2x8x64x128x128, .f32⟩
  | 36 => ⟨S2x8x64x128x128, .f32⟩
  | 37 => ⟨S2x8x64x128x256, .f32⟩
  | 38 => ⟨S2x8x8192x256, .f32⟩
  | 39 => ⟨S2x8x8192x256, .f32⟩
  | 40 => ⟨S2x8x8192x256, .f32⟩
  | 41 => ⟨S2x8x8192x256, .f32⟩
  | 42 => ⟨S1x8, .f32⟩
  | 43 => ⟨S8, .f32⟩
  | 44 => ⟨S2x8x64x128x256, .f32⟩
  | 45 => ⟨S2x8x64x128x256, .f32⟩
  | 46 => ⟨S2x8x64x128x256, .f32⟩
  | 47 => ⟨S128, .f32⟩
  | 48 => ⟨S128x1, .f32⟩
  | 49 => ⟨S1x128, .f32⟩
  | 50 => ⟨S128x128, .f32⟩
  | 51 => ⟨S128x128, .f32⟩
  | 52 => ⟨S128x128, .f32⟩
  | 53 => ⟨S_, .f32⟩
  | 54 => ⟨S128x128, .f32⟩
  | 55 => ⟨S128x128, .i1⟩
  | 56 => ⟨S1x128x128, .i1⟩
  | 57 => ⟨S8x1x1, .f32⟩
  | 58 => ⟨S_, .f32⟩
  | 59 => ⟨S128x128, .f32⟩
  | 60 => ⟨S128x128, .f32⟩
  | 61 => ⟨S1x128x128, .f32⟩
  | 62 => ⟨S8x128x128, .f32⟩
  | 63 => ⟨S8x128x128, .f32⟩
  | 64 => ⟨S8x128x128, .f32⟩
  | 65 => ⟨S8x128x128, .f32⟩
  | 66 => ⟨S_, .f32⟩
  | 67 => ⟨S_, .f32⟩
  | 68 => ⟨S8x128x128, .i1⟩
  | 69 => ⟨S8x128x128, .f32⟩
  | 70 => ⟨S8x128x128, .f32⟩
  | 71 => ⟨S2x8x64x128x128, .f32⟩
  | 72 => ⟨S8x1x128x128, .f32⟩
  | 73 => ⟨S1x8x1x128x128, .f32⟩
  | 74 => ⟨S2x8x64x128x128, .f32⟩
  | 75 => ⟨S2x8x64x128x128, .f32⟩
  | 76 => ⟨S2x8x64x128x256, .f32⟩
  | 77 => ⟨S2x8x8192x256, .f32⟩
  | 78 => ⟨S2x8x8192x256, .f32⟩
  | 79 => ⟨S2x8x8192x256, .f32⟩
  | 80 => ⟨S1x8, .f32⟩
  | 81 => ⟨S8, .f32⟩
  | 82 => ⟨S2x8x64x128x256, .f32⟩
  | 83 => ⟨S2x8x64x128x256, .f32⟩
  | 84 => ⟨S2x8x64x128x256, .f32⟩
  | 85 => ⟨S2x8x64x128x256, .f32⟩
  | 86 => ⟨S128, .f32⟩
  | 87 => ⟨S8x1x1x1, .f32⟩
  | 88 => ⟨S_, .f32⟩
  | 89 => ⟨S128, .f32⟩
  | 90 => ⟨S128, .f32⟩
  | 91 => ⟨S1x1x128x1, .f32⟩
  | 92 => ⟨S8x1x128x1, .f32⟩
  | 93 => ⟨S8x1x128x1, .f32⟩
  | 94 => ⟨S8x1x128x1, .f32⟩
  | 95 => ⟨S8x1x128x1, .f32⟩
  | 96 => ⟨S1x8x1x128x1, .f32⟩
  | 97 => ⟨S2x8x64x128x256, .f32⟩
  | 98 => ⟨S2x8x64x128x256, .f32⟩
  | 99 => ⟨S2x8x64x256x256, .f32⟩
  | 100 => ⟨S_, .f32⟩
  | 101 => ⟨S8, .f32⟩
  | 102 => ⟨S8, .f32⟩
  | 103 => ⟨S8, .f32⟩
  | 104 => ⟨S1x8x1x1, .f32⟩
  | 105 => ⟨S_, .f32⟩
  | 106 => ⟨S128, .f32⟩
  | 107 => ⟨S128, .f32⟩
  | 108 => ⟨S1x1x128x1, .f32⟩
  | 109 => ⟨S8x1x128x1, .f32⟩
  | 110 => ⟨S8x1x128x1, .f32⟩
  | 111 => ⟨S8x1x128x1, .f32⟩
  | 112 => ⟨S8x1x128x1, .f32⟩
  | 113 => ⟨S1x8x1x128x1, .f32⟩
  | 114 => ⟨S2x8x64x128x256, .f32⟩
  | 115 => ⟨S2x8x64x128x256, .f32⟩
  | 116 => ⟨S_, .f32⟩
  | 117 => ⟨S2x8x256x256, .f32⟩
  | 118 => ⟨S64x2x8x128x256, .f32⟩
  | 119 => ⟨S64x2x8x256x256, .f32⟩
  | 120 => ⟨S64x2x8x128x256, .f32⟩
  | 121 => ⟨S_, .f32⟩
  | 122 => ⟨S64x2x8x128x256, .f32⟩
  | 123 => ⟨S_, .i32⟩
  | 124 => ⟨S64x2x8x128x256, .f32⟩
  | 125 => ⟨S64x2x8x256x256, .f32⟩
  | 126 => ⟨S64x2x8x128x256, .f32⟩
  | 127 => ⟨S1x8x1x1, .f32⟩
  | _ => ⟨S112x16384x128, .bf16⟩

abbrev hbmTy0_2 (i : Nat) : BufTy := match i % 128 with
  | 0 => ⟨S_, .i32⟩
  | 1 => ⟨S2x8x256x256, .f32⟩
  | 2 => ⟨S64x2x8x128x256, .f32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S1x2x8x128x256, .f32⟩
  | 10 => ⟨S2x8x128x256, .f32⟩
  | 11 => ⟨S_, .i32⟩
  | 12 => ⟨S_, .i32⟩
  | 13 => ⟨S_, .i32⟩
  | 14 => ⟨S_, .i32⟩
  | 15 => ⟨S1x2x8x256x256, .f32⟩
  | 16 => ⟨S2x8x256x256, .f32⟩
  | 17 => ⟨S_, .i32⟩
  | 18 => ⟨S_, .i32⟩
  | 19 => ⟨S_, .i32⟩
  | 20 => ⟨S_, .i32⟩
  | 21 => ⟨S1x2x8x128x256, .f32⟩
  | 22 => ⟨S2x8x128x256, .f32⟩
  | 23 => ⟨S2x8x256x256, .f32⟩
  | 24 => ⟨S2x8x256x256, .f32⟩
  | 25 => ⟨S2x8x256x256, .f32⟩
  | 26 => ⟨S2x8x128x256, .f32⟩
  | 27 => ⟨S2x8x128x256, .f32⟩
  | 28 => ⟨S1x2x8x128x256, .f32⟩
  | 29 => ⟨S_, .i32⟩
  | 30 => ⟨S_, .i32⟩
  | 31 => ⟨S_, .i32⟩
  | 32 => ⟨S_, .i32⟩
  | 33 => ⟨S64x2x8x128x256, .f32⟩
  | 34 => ⟨S_, .i32⟩
  | 35 => ⟨S_, .i32⟩
  | 36 => ⟨S2x8x64x128x256, .f32⟩
  | 37 => ⟨S2x8x8192x256, .f32⟩
  | 38 => ⟨S2x8x8192x2x128, .f32⟩
  | 39 => ⟨S8x2x2x8192x128, .f32⟩
  | 40 => ⟨S16x16384x128, .f32⟩
  | _ => ⟨S112x16384x128, .bf16⟩

abbrev hbmTy (i : Nat) : BufTy := match i / 128 with
  | 0 => hbmTy0_0 i
  | 1 => hbmTy0_1 i
  | 2 => hbmTy0_2 i
  | _ => ⟨S112x16384x128, .bf16⟩

abbrev bufTy : (tb : Table) → Fin (tcTables nBuf tb) → BufTy
  | .hbm, ⟨i, _⟩ => hbmTy i
  | _, _ => ⟨S112x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_cst : Ref sig .tc := ⟨.hbm, 19, rfl⟩
abbrev main_call0_v3 : Ref sig .tc := ⟨.hbm, 20, rfl⟩
abbrev main_call0_v4 : Ref sig .tc := ⟨.hbm, 21, rfl⟩
abbrev main_call0_cst_0 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_cst_1 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_v11 : Ref sig .tc := ⟨.hbm, 36, rfl⟩
abbrev main_v12 : Ref sig .tc := ⟨.hbm, 37, rfl⟩
abbrev main_cst_2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_cst_4 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_cst : Ref sig .tc := ⟨.hbm, 76, rfl⟩
abbrev main_call1_v3 : Ref sig .tc := ⟨.hbm, 77, rfl⟩
abbrev main_call1_v4 : Ref sig .tc := ⟨.hbm, 78, rfl⟩
abbrev main_call1_cst_0 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_v13 : Ref sig .tc := ⟨.hbm, 89, rfl⟩
abbrev main_call1_v14 : Ref sig .tc := ⟨.hbm, 90, rfl⟩
abbrev main_call1_v15 : Ref sig .tc := ⟨.hbm, 91, rfl⟩
abbrev main_call1_v16 : Ref sig .tc := ⟨.hbm, 92, rfl⟩
abbrev main_v45 : Ref sig .tc := ⟨.hbm, 93, rfl⟩
abbrev main_v46 : Ref sig .tc := ⟨.hbm, 94, rfl⟩
abbrev main_cst_5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_6 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_7 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_8 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_9 : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_10 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_11 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_12 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_cst_13 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_cst_14 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_cst_15 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_cst_16 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_17 : Ref sig .tc := ⟨.hbm, 249, rfl⟩
abbrev main_v183 : Ref sig .tc := ⟨.hbm, 250, rfl⟩
abbrev main_c : Ref sig .tc := ⟨.hbm, 251, rfl⟩
abbrev main_v184_0 : Ref sig .tc := ⟨.hbm, 252, rfl⟩
abbrev main_v184_1 : Ref sig .tc := ⟨.hbm, 253, rfl⟩
abbrev main_v184_2 : Ref sig .tc := ⟨.hbm, 254, rfl⟩
abbrev main_v184_3 : Ref sig .tc := ⟨.hbm, 255, rfl⟩
abbrev main_v184_4 : Ref sig .tc := ⟨.hbm, 256, rfl⟩
abbrev main_v184_5 : Ref sig .tc := ⟨.hbm, 257, rfl⟩
abbrev main_v184_6 : Ref sig .tc := ⟨.hbm, 258, rfl⟩
abbrev main_while0c_c_24 : Ref sig .tc := ⟨.hbm, 259, rfl⟩
abbrev main_while0c_v190 : Ref sig .tc := ⟨.hbm, 260, rfl⟩
abbrev main_while0b_call8_c : Ref sig .tc := ⟨.hbm, 261, rfl⟩
abbrev main_while0b_call8_c_0 : Ref sig .tc := ⟨.hbm, 262, rfl⟩
abbrev main_while0b_call8_c_1 : Ref sig .tc := ⟨.hbm, 263, rfl⟩
abbrev main_while0b_call8_c_2 : Ref sig .tc := ⟨.hbm, 264, rfl⟩
abbrev main_while0b_call8_v0 : Ref sig .tc := ⟨.hbm, 265, rfl⟩
abbrev main_while0b_v190 : Ref sig .tc := ⟨.hbm, 266, rfl⟩
abbrev main_while0b_call9_c : Ref sig .tc := ⟨.hbm, 267, rfl⟩
abbrev main_while0b_call9_c_0 : Ref sig .tc := ⟨.hbm, 268, rfl⟩
abbrev main_while0b_call9_c_1 : Ref sig .tc := ⟨.hbm, 269, rfl⟩
abbrev main_while0b_call9_c_2 : Ref sig .tc := ⟨.hbm, 270, rfl⟩
abbrev main_while0b_call9_v0 : Ref sig .tc := ⟨.hbm, 271, rfl⟩
abbrev main_while0b_v191 : Ref sig .tc := ⟨.hbm, 272, rfl⟩
abbrev main_while0b_call10_c : Ref sig .tc := ⟨.hbm, 273, rfl⟩
abbrev main_while0b_call10_c_0 : Ref sig .tc := ⟨.hbm, 274, rfl⟩
abbrev main_while0b_call10_c_1 : Ref sig .tc := ⟨.hbm, 275, rfl⟩
abbrev main_while0b_call10_c_2 : Ref sig .tc := ⟨.hbm, 276, rfl⟩
abbrev main_while0b_call10_v0 : Ref sig .tc := ⟨.hbm, 277, rfl⟩
abbrev main_while0b_v192 : Ref sig .tc := ⟨.hbm, 278, rfl⟩
abbrev main_while0b_v193 : Ref sig .tc := ⟨.hbm, 279, rfl⟩
abbrev main_while0b_v194 : Ref sig .tc := ⟨.hbm, 280, rfl⟩
abbrev main_while0b_v195 : Ref sig .tc := ⟨.hbm, 281, rfl⟩
abbrev main_while0b_v196 : Ref sig .tc := ⟨.hbm, 282, rfl⟩
abbrev main_while0b_v197 : Ref sig .tc := ⟨.hbm, 283, rfl⟩
abbrev main_while0b_call11_v0 : Ref sig .tc := ⟨.hbm, 284, rfl⟩
abbrev main_while0b_call11_c : Ref sig .tc := ⟨.hbm, 285, rfl⟩
abbrev main_while0b_call11_c_0 : Ref sig .tc := ⟨.hbm, 286, rfl⟩
abbrev main_while0b_call11_c_1 : Ref sig .tc := ⟨.hbm, 287, rfl⟩
abbrev main_while0b_call11_c_2 : Ref sig .tc := ⟨.hbm, 288, rfl⟩
abbrev main_while0b_v198 : Ref sig .tc := ⟨.hbm, 289, rfl⟩
abbrev main_while0b_c_24 : Ref sig .tc := ⟨.hbm, 290, rfl⟩
abbrev main_while0b_v199 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩

abbrev nD : Nat := 1
abbrev τ : Topo := Topo.v7x

variable {F : FTy → Type} [FloatOps F]

abbrev main_while0_count : Scf.Loop 32 := ⟨0#32, 64#32, 1#32⟩
-- ==== RetBwd.lean ====
abbrev S112x16384x128 : Shape := ⟨3, ![112, 16384, 128]⟩
abbrev S16x16384x128 : Shape := ⟨3, ![16, 16384, 128]⟩
abbrev S2x8 : Shape := ⟨2, ![2, 8]⟩
abbrev S2048 : Shape := ⟨1, ![2048]⟩
abbrev S_ : Shape := ⟨0, ![]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x2048 : Shape := ⟨2, ![1, 2048]⟩
abbrev S16384x2048 : Shape := ⟨2, ![16384, 2048]⟩
abbrev S2x1024x128 : Shape := ⟨3, ![2, 1024, 128]⟩
abbrev S1024x128 : Shape := ⟨2, ![1024, 128]⟩
abbrev S1x256 : Shape := ⟨2, ![1, 256]⟩
abbrev S1024x256 : Shape := ⟨2, ![1024, 256]⟩
abbrev S256x256 : Shape := ⟨2, ![256, 256]⟩
abbrev S1x1 : Shape := ⟨2, ![1, 1]⟩
abbrev S128x256 : Shape := ⟨2, ![128, 256]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 48
  | .vmem => 19
  | .smem => 1
  | _ => 0

abbrev bufTy : (tb : Table) → Fin (tcTables nBuf tb) → BufTy
  | .hbm, ⟨0, _⟩ => ⟨S112x16384x128, .bf16⟩
  | .hbm, ⟨1, _⟩ => ⟨S16x16384x128, .f32⟩
  | .hbm, ⟨2, _⟩ => ⟨S2x8, .f32⟩
  | .hbm, ⟨3, _⟩ => ⟨S2048, .f32⟩
  | .hbm, ⟨4, _⟩ => ⟨S2x8, .f32⟩
  | .hbm, ⟨5, _⟩ => ⟨S_, .f32⟩
  | .hbm, ⟨6, _⟩ => ⟨S2x8, .f32⟩
  | .hbm, ⟨7, _⟩ => ⟨S2x8, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S127, .f32⟩
  | .hbm, ⟨19, _⟩ => ⟨S_, .f32⟩
  | .hbm, ⟨20, _⟩ => ⟨S127, .f32⟩
  | .hbm, ⟨21, _⟩ => ⟨S127, .f32⟩
  | .hbm, ⟨22, _⟩ => ⟨S1, .f32⟩
  | .hbm, ⟨23, _⟩ => ⟨S_, .f32⟩
  | .hbm, ⟨24, _⟩ => ⟨S127, .f32⟩
  | .hbm, ⟨25, _⟩ => ⟨S127, .f32⟩
  | .hbm, ⟨26, _⟩ => ⟨S127, .f32⟩
  | .hbm, ⟨27, _⟩ => ⟨S127, .f32⟩
  | .hbm, ⟨28, _⟩ => ⟨S1, .f32⟩
  | .hbm, ⟨29, _⟩ => ⟨S127, .f32⟩
  | .hbm, ⟨30, _⟩ => ⟨S127, .f32⟩
  | .hbm, ⟨31, _⟩ => ⟨S127, .f32⟩
  | .hbm, ⟨32, _⟩ => ⟨S1, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S8192, .f32⟩
  | .hbm, ⟨39, _⟩ => ⟨S8192x1, .f32⟩
  | .hbm, ⟨40, _⟩ => ⟨S1x128, .f32⟩
  | .hbm, ⟨41, _⟩ => ⟨S8192x128, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S1x2048, .f32⟩
  | .hbm, ⟨47, _⟩ => ⟨S16384x2048, .bf16⟩
  | .local _ .vmem, ⟨0, _⟩ => ⟨S2x1024x128, .bf16⟩
  | .local _ .vmem, ⟨1, _⟩ => ⟨S2x1024x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x1024x128, .bf16⟩
  | .local _ .vmem, ⟨5, _⟩ => ⟨S2x1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S2x1024x128, .f32⟩
  | .local _ .vmem, ⟨11, _⟩ => ⟨S2x1024x128, .f32⟩
  | .local _ .vmem, ⟨12, _⟩ => ⟨S2x1024x128, .bf16⟩
  | .local _ .vmem, ⟨13, _⟩ => ⟨S2x1024x128, .bf16⟩
  | .local _ .vmem, ⟨14, _⟩ => ⟨S1x256, .f32⟩
  | .local _ .vmem, ⟨15, _⟩ => ⟨S1x256, .f32⟩
  | .local _ .vmem, ⟨16, _⟩ => ⟨S1024x256, .bf16⟩
  | .local _ .vmem, ⟨17, _⟩ => ⟨S1024x256, .bf16⟩
  | .local _ .vmem, ⟨18, _⟩ => ⟨S256x256, .f32⟩
  | .local _ .smem, ⟨0, _⟩ => ⟨S2x8, .f32⟩
  | _, _ => ⟨S112x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 2 → Nat :=
  let c1 : Index := 1#32
  let arg1 : BitVec 32 := BitVec.ofNat 32 (i 1).val
  let v3 : Index := Scalar.indexCast arg1
  ![1, v3.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c8_i32 : BitVec 32 := 8#32
  let v1 : BitVec 32 := Scalar.muli arg0 c8_i32
  let c7_i32 : BitVec 32 := 7#32
  let v2 : BitVec 32 := Scalar.subi c7_i32 arg2
  let v3 : BitVec 32 := Scalar.addi v1 v2
  let c0_i32_0 : BitVec 32 := 0#32
  let c0_i32_1 : BitVec 32 := 0#32
  ![v0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c8_i32_0 : BitVec 32 := 8#32
  let v1 : BitVec 32 := Scalar.muli arg0 c8_i32_0
  let c7_i32 : BitVec 32 := 7#32
  let v2 : BitVec 32 := Scalar.subi c7_i32 arg2
  let v3 : BitVec 32 := Scalar.addi v1 v2
  let c0_i32 : BitVec 32 := 0#32
  let c0_i32_1 : BitVec 32 := 0#32
  ![v0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c8_i32 : BitVec 32 := 8#32
  let v1 : BitVec 32 := Scalar.muli arg0 c8_i32
  let c7_i32 : BitVec 32 := 7#32
  let v2 : BitVec 32 := Scalar.subi c7_i32 arg2
  let v3 : BitVec 32 := Scalar.addi v1 v2
  let c0_i32 : BitVec 32 := 0#32
  let c0_i32_0 : BitVec 32 := 0#32
  ![v0.toNat, v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  let c0_i32_0 : BitVec 32 := 0#32
  ![arg1.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c8_i32 : BitVec 32 := 8#32
  let v1 : BitVec 32 := Scalar.muli arg0 c8_i32
  let c7_i32 : BitVec 32 := 7#32
  let v2 : BitVec 32 := Scalar.subi c7_i32 arg2
  let v3 : BitVec 32 := Scalar.addi v1 v2
  let c0_i32 : BitVec 32 := 0#32
  let c0_i32_0 : BitVec 32 := 0#32
  ![v0.toNat, v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let v2 : BitVec 32 := Scalar.addi v0 v1
  let c0_i32 : BitVec 32 := 0#32
  ![v2.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S2x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== RetBwdRefIdeal.lean ====
abbrev S112x16384x128 : Shape := ⟨3, ![112, 16384, 128]⟩
abbrev S16x16384x128 : Shape := ⟨3, ![16, 16384, 128]⟩
abbrev S2x8 : Shape := ⟨2, ![2, 8]⟩
abbrev S2048 : Shape := ⟨1, ![2048]⟩
abbrev S_ : Shape := ⟨0, ![]⟩
abbrev S8x2x2x8192x128 : Shape := ⟨5, ![8, 2, 2, 8192, 128]⟩
abbrev S2x8x8192x2x128 : Shape := ⟨5, ![2, 8, 8192, 2, 128]⟩
abbrev S2x8x8192x256 : Shape := ⟨4, ![2, 8, 8192, 256]⟩
abbrev S127 : Shape := ⟨1, ![127]⟩
abbrev S1 : Shape := ⟨1, ![1]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S2x8x8192x128 : Shape := ⟨4, ![2, 8, 8192, 128]⟩
abbrev S1x1x8192x128 : Shape := ⟨4, ![1, 1, 8192, 128]⟩
abbrev S1x8 : Shape := ⟨2, ![1, 8]⟩
abbrev S8 : Shape := ⟨1, ![8]⟩
abbrev S2x8x64x128x256 : Shape := ⟨5, ![2, 8, 64, 128, 256]⟩
abbrev S8x1x1x1 : Shape := ⟨4, ![8, 1, 1, 1]⟩
abbrev S1x1x128x1 : Shape := ⟨4, ![1, 1, 128, 1]⟩
abbrev S8x1x128x1 : Shape := ⟨4, ![8, 1, 128, 1]⟩
abbrev S1x8x1x128x1 : Shape := ⟨5, ![1, 8, 1, 128, 1]⟩
abbrev S2x8x64x256x256 : Shape := ⟨5, ![2, 8, 64, 256, 256]⟩
abbrev S1x8x1x1 : Shape := ⟨4, ![1, 8, 1, 1]⟩
abbrev S2x8x256x256 : Shape := ⟨4, ![2, 8, 256, 256]⟩
abbrev S64x2x8x128x256 : Shape := ⟨5, ![64, 2, 8, 128, 256]⟩
abbrev S64x2x8x256x256 : Shape := ⟨5, ![64, 2, 8, 256, 256]⟩
abbrev S1x2x8x128x256 : Shape := ⟨5, ![1, 2, 8, 128, 256]⟩
abbrev S2x8x128x256 : Shape := ⟨4, ![2, 8, 128, 256]⟩
abbrev S1x2x8x256x256 : Shape := ⟨5, ![1, 2, 8, 256, 256]⟩
abbrev S2x8x8192 : Shape := ⟨3, ![2, 8, 8192]⟩
abbrev S2x8x8192x1 : Shape := ⟨4, ![2, 8, 8192, 1]⟩
abbrev S8x256 : Shape := ⟨2, ![8, 256]⟩
abbrev S1x8x1x256 : Shape := ⟨4, ![1, 8, 1, 256]⟩
abbrev S2x8192x8x256 : Shape := ⟨4, ![2, 8192, 8, 256]⟩
abbrev S16384x2048 : Shape := ⟨2, ![16384, 2048]⟩

abbrev nBuf : Space → Nat
  | .hbm => 272
  | .vmem => 0
  | .smem => 0
  | _ => 0

abbrev hbmTy0_0 (i : Nat) : BufTy := match i % 128 with
  | 0 => ⟨S112x16384x128, .bf16⟩
  | 1 => ⟨S16x16384x128, .f32⟩
  | 2 => ⟨S2x8, .f32⟩
  | 3 => ⟨S2048, .f32⟩
  | 4 => ⟨S2x8, .f32⟩
  | 5 => ⟨S_, .f32⟩
  | 6 => ⟨S2x8, .f32⟩
  | 7 => ⟨S2x8, .f32⟩
  | 8 => ⟨S2x8, .f32⟩
  | 9 => ⟨S2x8, .f32⟩
  | 10 => ⟨S2x8, .f32⟩
  | 11 => ⟨S16x16384x128, .bf16⟩
  | 12 => ⟨S16x16384x128, .f32⟩
  | 13 => ⟨S8x2x2x8192x128, .f32⟩
  | 14 => ⟨S2x8x8192x2x128, .f32⟩
  | 15 => ⟨S2x8x8192x256, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S127, .f32⟩
  | 24 => ⟨S_, .f32⟩
  | 25 => ⟨S127, .f32⟩
  | 26 => ⟨S127, .f32⟩
  | 27 => ⟨S1, .f32⟩
  | 28 => ⟨S_, .f32⟩
  | 29 => ⟨S127, .f32⟩
  | 30 => ⟨S127, .f32⟩
  | 31 => ⟨S127, .f32⟩
  | 32 => ⟨S127, .f32⟩
  | 33 => ⟨S1, .f32⟩
  | 34 => ⟨S127, .f32⟩
  | 35 => ⟨S127, .f32⟩
  | 36 => ⟨S127, .f32⟩
  | 37 => ⟨S1, .f32⟩
  | 38 => ⟨S128, .f32⟩
  | 39 => ⟨S128, .f32⟩
  | 40 => ⟨S_, .f32⟩
  | 41 => ⟨S128, .f32⟩
  | 42 => ⟨S128, .f32⟩
  | 43 => ⟨S8192, .f32⟩
  | 44 => ⟨S8192x1, .f32⟩
  | 45 => ⟨S1x128, .f32⟩
  | 46 => ⟨S8192x128, .f32⟩
  | 47 => ⟨S8192x128, .f32⟩
  | 48 => ⟨S8192x128, .f32⟩
  | 49 => ⟨S8192x128, .f32⟩
  | 50 => ⟨S8192x128, .f32⟩
  | 51 => ⟨S2x8x8192x128, .f32⟩
  | 52 => ⟨S2x8x8192x128, .f32⟩
  | 53 => ⟨S1x1x8192x128, .f32⟩
  | 54 => ⟨S2x8x8192x128, .f32⟩
  | 55 => ⟨S2x8x8192x128, .f32⟩
  | 56 => ⟨S1x1x8192x128, .f32⟩
  | 57 => ⟨S2x8x8192x128, .f32⟩
  | 58 => ⟨S2x8x8192x128, .f32⟩
  | 59 => ⟨S2x8x8192x128, .f32⟩
  | 60 => ⟨S1x1x8192x128, .f32⟩
  | 61 => ⟨S2x8x8192x128, .f32⟩
  | 62 => ⟨S2x8x8192x128, .f32⟩
  | 63 => ⟨S1x1x8192x128, .f32⟩
  | 64 => ⟨S2x8x8192x128, .f32⟩
  | 65 => ⟨S2x8x8192x128, .f32⟩
  | 66 => ⟨S2x8x8192x128, .f32⟩
  | 67 => ⟨S2x8x8192x256, .f32⟩
  | 68 => ⟨S16x16384x128, .bf16⟩
  | 69 => ⟨S16x16384x128, .f32⟩
  | 70 => ⟨S8x2x2x8192x128, .f32⟩
  | 71 => ⟨S2x8x8192x2x128, .f32⟩
  | 72 => ⟨S2x8x8192x256, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S127, .f32⟩
  | 81 => ⟨S_, .f32⟩
  | 82 => ⟨S127, .f32⟩
  | 83 => ⟨S127, .f32⟩
  | 84 => ⟨S1, .f32⟩
  | 85 => ⟨S_, .f32⟩
  | 86 => ⟨S127, .f32⟩
  | 87 => ⟨S127, .f32⟩
  | 88 => ⟨S127, .f32⟩
  | 89 => ⟨S127, .f32⟩
  | 90 => ⟨S1, .f32⟩
  | 91 => ⟨S127, .f32⟩
  | 92 => ⟨S127, .f32⟩
  | 93 => ⟨S127, .f32⟩
  | 94 => ⟨S1, .f32⟩
  | 95 => ⟨S128, .f32⟩
  | 96 => ⟨S128, .f32⟩
  | 97 => ⟨S_, .f32⟩
  | 98 => ⟨S128, .f32⟩
  | 99 => ⟨S128, .f32⟩
  | 100 => ⟨S8192, .f32⟩
  | 101 => ⟨S8192x1, .f32⟩
  | 102 => ⟨S1x128, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S2x8x8192x128, .f32⟩
  | 109 => ⟨S2x8x8192x128, .f32⟩
  | 110 => ⟨S1x1x8192x128, .f32⟩
  | 111 => ⟨S2x8x8192x128, .f32⟩
  | 112 => ⟨S2x8x8192x128, .f32⟩
  | 113 => ⟨S1x1x8192x128, .f32⟩
  | 114 => ⟨S2x8x8192x128, .f32⟩
  | 115 => ⟨S2x8x8192x128, .f32⟩
  | 116 => ⟨S2x8x8192x128, .f32⟩
  | 117 => ⟨S1x1x8192x128, .f32⟩
  | 118 => ⟨S2x8x8192x128, .f32⟩
  | 119 => ⟨S2x8x8192x128, .f32⟩
  | 120 => ⟨S1x1x8192x128, .f32⟩
  | 121 => ⟨S2x8x8192x128, .f32⟩
  | 122 => ⟨S2x8x8192x128, .f32⟩
  | 123 => ⟨S2x8x8192x128, .f32⟩
  | 124 => ⟨S2x8x8192x256, .f32⟩
  | 125 => ⟨S_, .f32⟩
  | 126 => ⟨S2x8x8192x256, .f32⟩
  | 127 => ⟨S2x8x8192x256, .f32⟩
  | _ => ⟨S112x16384x128, .bf16⟩

abbrev hbmTy0_1 (i : Nat) : BufTy := match i % 128 with
  | 0 => ⟨S16x16384x128, .bf16⟩
  | 1 => ⟨S16x16384x128, .f32⟩
  | 2 => ⟨S8x2x2x8192x128, .f32⟩
  | 3 => ⟨S2x8x8192x2x128, .f32⟩
  | 4 => ⟨S2x8x8192x256, .f32⟩
  | 5 => ⟨S2x8x8192x256, .f32⟩
  | 6 => ⟨S2x8x8192x256, .f32⟩
  | 7 => ⟨S2x8x8192x256, .f32⟩
  | 8 => ⟨S1x8, .f32⟩
  | 9 => ⟨S8, .f32⟩
  | 10 => ⟨S8x2x2x8192x128, .f32⟩
  | 11 => ⟨S2x8x8192x2x128, .f32⟩
  | 12 => ⟨S2x8x8192x256, .f32⟩
  | 13 => ⟨S2x8x8192x256, .f32⟩
  | 14 => ⟨S2x8x64x128x256, .f32⟩
  | 15 => ⟨S2x8x64x128x256, .f32⟩
  | 16 => ⟨S2x8x64x128x256, .f32⟩
  | 17 => ⟨S2x8x64x128x256, .f32⟩
  | 18 => ⟨S128, .f32⟩
  | 19 => ⟨S8x1x1x1, .f32⟩
  | 20 => ⟨S_, .f32⟩
  | 21 => ⟨S128, .f32⟩
  | 22 => ⟨S128, .f32⟩
  | 23 => ⟨S1x1x128x1, .f32⟩
  | 24 => ⟨S8x1x128x1, .f32⟩
  | 25 => ⟨S8x1x128x1, .f32⟩
  | 26 => ⟨S8x1x128x1, .f32⟩
  | 27 => ⟨S8x1x128x1, .f32⟩
  | 28 => ⟨S1x8x1x128x1, .f32⟩
  | 29 => ⟨S2x8x64x128x256, .f32⟩
  | 30 => ⟨S2x8x64x128x256, .f32⟩
  | 31 => ⟨S2x8x64x256x256, .f32⟩
  | 32 => ⟨S_, .f32⟩
  | 33 => ⟨S8, .f32⟩
  | 34 => ⟨S8, .f32⟩
  | 35 => ⟨S8, .f32⟩
  | 36 => ⟨S1x8x1x1, .f32⟩
  | 37 => ⟨S_, .f32⟩
  | 38 => ⟨S128, .f32⟩
  | 39 => ⟨S128, .f32⟩
  | 40 => ⟨S1x1x128x1, .f32⟩
  | 41 => ⟨S8x1x128x1, .f32⟩
  | 42 => ⟨S8x1x128x1, .f32⟩
  | 43 => ⟨S8x1x128x1, .f32⟩
  | 44 => ⟨S8x1x128x1, .f32⟩
  | 45 => ⟨S1x8x1x128x1, .f32⟩
  | 46 => ⟨S2x8x64x128x256, .f32⟩
  | 47 => ⟨S2x8x64x128x256, .f32⟩
  | 48 => ⟨S_, .f32⟩
  | 49 => ⟨S2x8x256x256, .f32⟩
  | 50 => ⟨S64x2x8x128x256, .f32⟩
  | 51 => ⟨S64x2x8x256x256, .f32⟩
  | 52 => ⟨S64x2x8x128x256, .f32⟩
  | 53 => ⟨S_, .f32⟩
  | 54 => ⟨S64x2x8x128x256, .f32⟩
  | 55 => ⟨S_, .i32⟩
  | 56 => ⟨S64x2x8x128x256, .f32⟩
  | 57 => ⟨S64x2x8x256x256, .f32⟩
  | 58 => ⟨S64x2x8x128x256, .f32⟩
  | 59 => ⟨S1x8x1x1, .f32⟩
  | 60 => ⟨S_, .i32⟩
  | 61 => ⟨S2x8x256x256, .f32⟩
  | 62 => ⟨S64x2x8x128x256, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S1x2x8x128x256, .f32⟩
  | 70 => ⟨S2x8x128x256, .f32⟩
  | 71 => ⟨S_, .i32⟩
  | 72 => ⟨S_, .i32⟩
  | 73 => ⟨S_, .i32⟩
  | 74 => ⟨S_, .i32⟩
  | 75 => ⟨S1x2x8x256x256, .f32⟩
  | 76 => ⟨S2x8x256x256, .f32⟩
  | 77 => ⟨S_, .i32⟩
  | 78 => ⟨S_, .i32⟩
  | 79 => ⟨S_, .i32⟩
  | 80 => ⟨S_, .i32⟩
  | 81 => ⟨S1x2x8x128x256, .f32⟩
  | 82 => ⟨S2x8x128x256, .f32⟩
  | 83 => ⟨S2x8x256x256, .f32⟩
  | 84 => ⟨S2x8x256x256, .f32⟩
  | 85 => ⟨S2x8x256x256, .f32⟩
  | 86 => ⟨S2x8x128x256, .f32⟩
  | 87 => ⟨S2x8x128x256, .f32⟩
  | 88 => ⟨S1x2x8x128x256, .f32⟩
  | 89 => ⟨S_, .i32⟩
  | 90 => ⟨S_, .i32⟩
  | 91 => ⟨S_, .i32⟩
  | 92 => ⟨S_, .i32⟩
  | 93 => ⟨S64x2x8x128x256, .f32⟩
  | 94 => ⟨S_, .i32⟩
  | 95 => ⟨S_, .i32⟩
  | 96 => ⟨S2x8x64x128x256, .f32⟩
  | 97 => ⟨S2x8x8192x256, .f32⟩
  | 98 => ⟨S2x8x8192x256, .f32⟩
  | 99 => ⟨S_, .f32⟩
  | 100 => ⟨S2x8x8192, .f32⟩
  | 101 => ⟨S2x8x8192x1, .f32⟩
  | 102 => ⟨S_, .f32⟩
  | 103 => ⟨S2x8x8192x1, .f32⟩
  | 104 => ⟨S2x8x8192x1, .f32⟩
  | 105 => ⟨S2x8x8192x256, .f32⟩
  | 106 => ⟨S2x8x8192x256, .f32⟩
  | 107 => ⟨S2x8x8192x256, .f32⟩
  | 108 => ⟨S_, .f32⟩
  | 109 => ⟨S2x8x8192, .f32⟩
  | 110 => ⟨S2x8x8192x1, .f32⟩
  | 111 => ⟨S_, .f32⟩
  | 112 => ⟨S2x8x8192x1, .f32⟩
  | 113 => ⟨S2x8x8192x1, .f32⟩
  | 114 => ⟨S2x8x8192x256, .f32⟩
  | 115 => ⟨S2x8x8192x256, .f32⟩
  | 116 => ⟨S_, .f32⟩
  | 117 => ⟨S2x8x8192x1, .f32⟩
  | 118 => ⟨S2x8x8192x1, .f32⟩
  | 119 => ⟨S2x8x8192x1, .f32⟩
  | 120 => ⟨S2x8x8192x256, .f32⟩
  | 121 => ⟨S2x8x8192x256, .f32⟩
  | 122 => ⟨S16x16384x128, .bf16⟩
  | 123 => ⟨S16x16384x128, .f32⟩
  | 124 => ⟨S8x2x2x8192x128, .f32⟩
  | 125 => ⟨S2x8x8192x2x128, .f32⟩
  | 126 => ⟨S2x8x8192x256, .f32⟩
  | 127 => ⟨S8x256, .f32⟩
  | _ => ⟨S112x16384x128, .bf16⟩

abbrev hbmTy0_2 (i : Nat) : BufTy := match i % 128 with
  | 0 => ⟨S1x8x1x256, .f32⟩
  | 1 => ⟨S2x8x8192x256, .f32⟩
  | 2 => ⟨S2x8x8192x256, .f32⟩
  | 3 => ⟨S2x8x8192x256, .f32⟩
  | 4 => ⟨S2x8x8192x256, .f32⟩
  | 5 => ⟨S_, .f32⟩
  | 6 => ⟨S2x8x8192x256, .f32⟩
  | 7 => ⟨S2x8x8192x256, .f32⟩
  | 8 => ⟨S_, .f32⟩
  | 9 => ⟨S2x8x8192x256, .f32⟩
  | 10 => ⟨S2x8x8192x256, .f32⟩
  | 11 => ⟨S2x8x8192x256, .f32⟩
  | 12 => ⟨S2x8x8192x256, .f32⟩
  | 13 => ⟨S2x8192x8x256, .f32⟩
  | 14 => ⟨S16384x2048, .f32⟩
  | 15 => ⟨S16384x2048, .bf16⟩
  | _ => ⟨S112x16384x128, .bf16⟩

abbrev hbmTy (i : Nat) : BufTy := match i / 128 with
  | 0 => hbmTy0_0 i
  | 1 => hbmTy0_1 i
  | 2 => hbmTy0_2 i
  | _ => ⟨S112x16384x128, .bf16⟩

abbrev bufTy : (tb : Table) → Fin (tcTables nBuf tb) → BufTy
  | .hbm, ⟨i, _⟩ => hbmTy i
  | _, _ => ⟨S112x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_cst : Ref sig .tc := ⟨.hbm, 21, rfl⟩
abbrev main_call0_v3 : Ref sig .tc := ⟨.hbm, 22, rfl⟩
abbrev main_call0_v4 : Ref sig .tc := ⟨.hbm, 23, rfl⟩
abbrev main_call0_cst_0 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_3 : Ref sig .tc := ⟨.hbm, 73, rfl⟩
abbrev main_cst_4 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_cst : Ref sig .tc := ⟨.hbm, 78, rfl⟩
abbrev main_call1_v3 : Ref sig .tc := ⟨.hbm, 79, rfl⟩
abbrev main_call1_v4 : Ref sig .tc := ⟨.hbm, 80, rfl⟩
abbrev main_call1_cst_0 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_v13 : Ref sig .tc := ⟨.hbm, 91, rfl⟩
abbrev main_call1_v14 : Ref sig .tc := ⟨.hbm, 92, rfl⟩
abbrev main_call1_v15 : Ref sig .tc := ⟨.hbm, 93, rfl⟩
abbrev main_call1_v16 : Ref sig .tc := ⟨.hbm, 94, rfl⟩
abbrev main_v45 : Ref sig .tc := ⟨.hbm, 95, rfl⟩
abbrev main_v46 : Ref sig .tc := ⟨.hbm, 96, rfl⟩
abbrev main_cst_5 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_cst_6 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_cst_7 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_cst_8 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_9 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_10 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_11 : Ref sig .tc := ⟨.hbm, 181, rfl⟩
abbrev main_v125 : Ref sig .tc := ⟨.hbm, 182, rfl⟩
abbrev main_c : Ref sig .tc := ⟨.hbm, 183, rfl⟩
abbrev main_v126_0 : Ref sig .tc := ⟨.hbm, 184, rfl⟩
abbrev main_v126_1 : Ref sig .tc := ⟨.hbm, 185, rfl⟩
abbrev main_v126_2 : Ref sig .tc := ⟨.hbm, 186, rfl⟩
abbrev main_v126_3 : Ref sig .tc := ⟨.hbm, 187, rfl⟩
abbrev main_v126_4 : Ref sig .tc := ⟨.hbm, 188, rfl⟩
abbrev main_v126_5 : Ref sig .tc := ⟨.hbm, 189, rfl⟩
abbrev main_v126_6 : Ref sig .tc := ⟨.hbm, 190, rfl⟩
abbrev main_while0c_c_23 : Ref sig .tc := ⟨.hbm, 191, rfl⟩
abbrev main_while0c_v162 : Ref sig .tc := ⟨.hbm, 192, rfl⟩
abbrev main_while0b_call6_c : Ref sig .tc := ⟨.hbm, 193, rfl⟩
abbrev main_while0b_call6_c_0 : Ref sig .tc := ⟨.hbm, 194, rfl⟩
abbrev main_while0b_call6_c_1 : Ref sig .tc := ⟨.hbm, 195, rfl⟩
abbrev main_while0b_call6_c_2 : Ref sig .tc := ⟨.hbm, 196, rfl⟩
abbrev main_while0b_call6_v0 : Ref sig .tc := ⟨.hbm, 197, rfl⟩
abbrev main_while0b_v162 : Ref sig .tc := ⟨.hbm, 198, rfl⟩
abbrev main_while0b_call7_c : Ref sig .tc := ⟨.hbm, 199, rfl⟩
abbrev main_while0b_call7_c_0 : Ref sig .tc := ⟨.hbm, 200, rfl⟩
abbrev main_while0b_call7_c_1 : Ref sig .tc := ⟨.hbm, 201, rfl⟩
abbrev main_while0b_call7_c_2 : Ref sig .tc := ⟨.hbm, 202, rfl⟩
abbrev main_while0b_call7_v0 : Ref sig .tc := ⟨.hbm, 203, rfl⟩
abbrev main_while0b_v163 : Ref sig .tc := ⟨.hbm, 204, rfl⟩
abbrev main_while0b_call8_c : Ref sig .tc := ⟨.hbm, 205, rfl⟩
abbrev main_while0b_call8_c_0 : Ref sig .tc := ⟨.hbm, 206, rfl⟩
abbrev main_while0b_call8_c_1 : Ref sig .tc := ⟨.hbm, 207, rfl⟩
abbrev main_while0b_call8_c_2 : Ref sig .tc := ⟨.hbm, 208, rfl⟩
abbrev main_while0b_call8_v0 : Ref sig .tc := ⟨.hbm, 209, rfl⟩
abbrev main_while0b_v164 : Ref sig .tc := ⟨.hbm, 210, rfl⟩
abbrev main_while0b_v165 : Ref sig .tc := ⟨.hbm, 211, rfl⟩
abbrev main_while0b_v166 : Ref sig .tc := ⟨.hbm, 212, rfl⟩
abbrev main_while0b_v167 : Ref sig .tc := ⟨.hbm, 213, rfl⟩
abbrev main_while0b_v168 : Ref sig .tc := ⟨.hbm, 214, rfl⟩
abbrev main_while0b_v169 : Ref sig .tc := ⟨.hbm, 215, rfl⟩
abbrev main_while0b_call9_v0 : Ref sig .tc := ⟨.hbm, 216, rfl⟩
abbrev main_while0b_call9_c : Ref sig .tc := ⟨.hbm, 217, rfl⟩
abbrev main_while0b_call9_c_0 : Ref sig .tc := ⟨.hbm, 218, rfl⟩
abbrev main_while0b_call9_c_1 : Ref sig .tc := ⟨.hbm, 219, rfl⟩
abbrev main_while0b_call9_c_2 : Ref sig .tc := ⟨.hbm, 220, rfl⟩
abbrev main_while0b_v170 : Ref sig .tc := ⟨.hbm, 221, rfl⟩
abbrev main_while0b_c_23 : Ref sig .tc := ⟨.hbm, 222, rfl⟩
abbrev main_while0b_v171 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_cst_12 : Ref sig .tc := ⟨.hbm, 227, rfl⟩
abbrev main_v130 : Ref sig .tc := ⟨.hbm, 228, rfl⟩
abbrev main_v131 : Ref sig .tc := ⟨.hbm, 229, rfl⟩
abbrev main_cst_13 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_v135 : Ref sig .tc := ⟨.hbm, 234, rfl⟩
abbrev main_v136 : Ref sig .tc := ⟨.hbm, 235, rfl⟩
abbrev main_cst_14 : Ref sig .tc := ⟨.hbm, 236, rfl⟩
abbrev main_v137 : Ref sig .tc := ⟨.hbm, 237, rfl⟩
abbrev main_v138 : Ref sig .tc := ⟨.hbm, 238, rfl⟩
abbrev main_cst_15 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_cst_16 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_call11_v0 : Ref sig .tc := ⟨.hbm, 259, rfl⟩
abbrev main_call11_v1 : Ref sig .tc := ⟨.hbm, 260, rfl⟩
abbrev main_call11_cst : Ref sig .tc := ⟨.hbm, 261, rfl⟩
abbrev main_call11_v2 : Ref sig .tc := ⟨.hbm, 262, rfl⟩
abbrev main_call11_v3 : Ref sig .tc := ⟨.hbm, 263, rfl⟩
abbrev main_call11_cst_0 : Ref sig .tc := ⟨.hbm, 264, rfl⟩
abbrev main_call11_v4 : Ref sig .tc := ⟨.hbm, 265, rfl⟩
abbrev main_call11_v5 : Ref sig .tc := ⟨.hbm, 266, rfl⟩
abbrev main_v157 : Ref sig .tc := ⟨.hbm, 267, rfl⟩
abbrev main_v158 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩

abbrev nD : Nat := 1
abbrev τ : Topo := Topo.v7x

variable {F : FTy → Type} [FloatOps F]

abbrev main_while0_count : Scf.Loop 32 := ⟨0#32, 64#32, 1#32⟩
-- ==== Proof.EvInValue.lean ====
/- The even layer's input projection, read at the ideal values.

   The grid walks the weight's 28 column blocks of 512, and inside each the sixteen row blocks of 1024 tokens. At a
   column block's first row block the kernel rounds the weight block into a scratch buffer; every row block multiplies its
   tokens by what the scratch holds and stores the 512 columns as four slabs of 128. So slab `h` of the result holds, at a
   token and a lane `l`, the product of the token's row with the weight's column `128 h + l`. -/
module

public import proofs.«01_k».proof.Proof.Gen.EvInIdeal.Value
public import proofs.«01_k».proof.Proof.Gen.EvInRefIdeal.Read
public import Idealize.ShloMosaic.Lib.ValueIdx
public import Idealize.ShloMosaic.Lib.Pipeline.ValueKit.Tiles
public import Idealize.ShloMosaic.PureOps.Ideal.Laws

@[expose] public section

set_option maxRecDepth 16384

noncomputable section

namespace Cert.EvInIdeal.Product

open Cert.EvInIdeal Cert.EvInIdeal.Gen Cert.EvInIdeal.Value
open Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-! ## What the body leaves -/

/-- Entry (token, column) of a block's 512 columns that slab `y 0` keeps at lane `y 2`. -/
abbrev column (y : S4x1024x128.Idx) : S1024x512.Idx := fun a => match a with
  | ⟨0, _⟩ => ⟨(y 1).val, (y 1).isLt⟩
  | ⟨1, _⟩ => ⟨(y 0).val * 128 + (y 2).val, by
      have h0 : (y 0).val < 4 := (y 0).isLt
      have h2 : (y 2).val < 128 := (y 2).isLt
      show (y 0).val * 128 + (y 2).val < 512
      omega⟩

/-- Four slabs of one product: at an index, the product's entry there, rounded. -/
def slabs (p : FVec F S1024x512 .f32) : FVec F S4x1024x128 .bf16 :=
  fun y => FloatOps.truncf .bf16 bitsLt_bf16_f32 (p (column y))

/-- One stored slab, where it holds the index `y`: columns `off` to `off + 127` of the product, rounded. -/
theorem slab_at (p : FVec F S1024x512 .f32) (y : S4x1024x128.Idx) (h off : Nat)
    (hs : S1024x512.Slices ![0, off] S1024x128) (hoff : off = h * 128)
    (x : S1x1024x128.Idx) (hx : ∀ a, (y a : Nat) = (![h, 0, 0] : Fin 3 → Nat) a + x a) :
    (shapeCast S1x1024x128 (truncf .bf16 (extractStridedSlice S1024x128 ![0, off] p hs) bitsLt_bf16_f32 : FVec F S1024x128 .bf16)
      shapeCasts_S1024x128_S1x1024x128) x = slabs p y := by
  have x0 : (x 0).val < 1 := (x 0).isLt
  have x1 : (x 1).val < 1024 := (x 1).isLt
  have x2 : (x 2).val < 128 := (x 2).isLt
  have e0 : (y 0).val = h + (x 0).val := hx 0
  have e1 : (y 1).val = 0 + (x 1).val := hx 1
  have e2 : (y 2).val = 0 + (x 2).val := hx 2
  rw [shapeCast_apply _ shapeCasts_S1024x128_S1x1024x128 x (ValueIdx.ix2 (⟨(x 1).val, x1⟩ : Fin 1024) (⟨(x 2).val, x2⟩ : Fin 128)) (by
    rewrite [Shape.rowMajor_val_three, Shape.rowMajor_val_two]
    show (x 1).val * 128 + (x 2).val = ((x 0).val * 1024 + (x 1).val) * 128 + (x 2).val
    omega)]
  show FloatOps.truncf .bf16 bitsLt_bf16_f32 (extractStridedSlice S1024x128 ![0, off] p hs _) = FloatOps.truncf .bf16 bitsLt_bf16_f32 (p (column y))
  refine congrArg _ ?_
  exact extractStridedSlice_apply _ p hs _ (column y) (fun a => by
    match a with
    | ⟨0, _⟩ => show (y 1).val = 0 + (x 1).val; omega
    | ⟨1, _⟩ => show (y 0).val * 128 + (y 2).val = off + (x 2).val; omega)

section Cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S4x1024x128 .bf16) (h4 : a4.IsWhole)
  (a5 : Memref sig .tc .vmem S4096x512 .bf16) (h5 : a5.IsWhole) (x : Vec F S1024x4096 .bf16) (w : Vec F S1x4096x512 .f32)

/-- At every other point the scratch keeps what it held. -/
theorem scratch_B (hc : ¬cond0_0 i) (s : Vec F S4096x512 .bf16) : sout0_B_0 c i a2 h2 a3 h3 a4 h4 a5 h5 hc x w s = s := rfl

/-- At a column block's first point the scratch ends holding the rounded weight block. -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) zero2]
  simp only [View.readAt_eq_ld, h3.read_unread, View.ld_unit_zero (S := S1x4096x512) zero3]

/-- There the output block is the product with the rounded weight block just stored, in four slabs. -/
theorem out_A (hc : cond0_0 i) : out0_A_2 c i a2 h2 a3 h3 a4 h4 a5 h5 hc x w = slabs (k0_pay2 x (k0_pay1 w)) := by
  unfold out0_A_2
  rw [View.read_writes_eq_canon _ _ _ (cover0_A_2 c i a2 h2 a3 h3 a4 h4 a5 h5 hc x w)]
  funext y
  have hcov := cover0_A_2 c i a2 h2 a3 h3 a4 h4 a5 h5 hc x w y
  revert hcov
  unfold kernelRun0_A
  dsimp only
  sl_unfold_words
  rw [View.readCov_unit_zero (S := S4096x512) _ zero2]
  simp only [View.readAt_eq_ld, h2.read_unread, h3.read_unread, View.ld_unit_zero (S := S1024x4096) zero2,
    View.ld_unit_zero (S := S1x4096x512) zero3]
  intro hcov
  refine View.canon_eq_of_allAt _ y _ hcov ?_
  refine View.allAt_cons_unit _ _ _ _ _ (fun z hz => slab_at _ y 3 384 slices_S1024x512_o0_384_S1024x128 rfl z hz) ?_
  refine View.allAt_cons_unit _ _ _ _ _ (fun z hz => slab_at _ y 2 256 slices_S1024x512_o0_256_S1024x128 rfl z hz) ?_
  refine View.allAt_cons_unit _ _ _ _ _ (fun z hz => slab_at _ y 1 128 slices_S1024x512_o0_128_S1024x128 rfl z hz) ?_
  exact View.allAt_cons_unit _ _ _ _ _ (fun z hz => slab_at _ y 0 0 slices_S1024x512_o0_0_S1024x128 rfl z hz) (View.allAt_nil _ _)

/-- At every other point it is the product with what the scratch held, in four slabs. -/
theorem out_B (hc : ¬cond0_0 i) (s : Vec F S4096x512 .bf16) :
    out0_B_2 c i a2 h2 a3 h3 a4 h4 a5 h5 hc x w s = slabs (k0_pay2 x s) := by
  unfold out0_B_2
  rw [View.read_writes_eq_canon _ _ _ (cover0_B_2 c i a2 h2 a3 h3 a4 h4 a5 h5 hc x w s)]
  funext y
  have hcov := cover0_B_2 c i a2 h2 a3 h3 a4 h4 a5 h5 hc x w s y
  revert hcov
  unfold kernelRun0_B
  dsimp only
  sl_unfold_words
  simp only [View.readAt_eq_ld, h2.read_unread, h5.read_unread, View.ld_unit_zero (S := S1024x4096) zero2,
    View.ld_unit_zero (S := S4096x512) zero2]
  intro hcov
  refine View.canon_eq_of_allAt _ y _ hcov ?_
  refine View.allAt_cons_unit _ _ _ _ _ (fun z hz => slab_at _ y 3 384 slices_S1024x512_o0_384_S1024x128 rfl z hz) ?_
  refine View.allAt_cons_unit _ _ _ _ _ (fun z hz => slab_at _ y 2 256 slices_S1024x512_o0_256_S1024x128 rfl z hz) ?_
  refine View.allAt_cons_unit _ _ _ _ _ (fun z hz => slab_at _ y 1 128 slices_S1024x512_o0_128_S1024x128 rfl z hz) ?_
  exact View.allAt_cons_unit _ _ _ _ _ (fun z hz => slab_at _ y 0 0 slices_S1024x512_o0_0_S1024x128 rfl z hz) (View.allAt_nil _ _)

end Cases

/-! ## The blocks a point sees -/

/-- Point `t` is at column block `t / 16` of the weight and at row block `t % 16` of the tokens. -/
theorem index_facts : ∀ t : Fin cfg0.N,
    win0_0.index t (0 : Fin 2) = t.val % 16 ∧ win0_0.index t (1 : Fin 2) = 0
    ∧ win0_1.index t (0 : Fin 3) = 0 ∧ win0_1.index t (1 : Fin 3) = 0 ∧ win0_1.index t (2 : Fin 3) = t.val / 16 :=
  (by decide +kernel : ∀ t : Fin grid0.N, _)

/-- The tokens the call reads: the input with its batch and sequence axes joined, rounded. -/
def tokens (c : Dev nD) : Vec F S16384x4096 .bf16 :=
  truncf .bf16 (shapeCast S16384x4096 (m ((c : Thread nD τ).loc main_arg0)) shapeCasts_S2x8192x4096_S16384x4096) bitsLt_bf16_f32

theorem tokens_at_entry (c : Dev nD) : V m c main_v1 = tokens m c := by
  show StableHlo.after hostOps0 _ (Proc.devRef .tc main_v1) = _
  after_results
  rfl

/-- The weight the call reads is the argument. -/
theorem weight_at_entry (c : Dev nD) : V m c main_arg1 = m ((c : Thread nD τ).loc main_arg1) := by
  show StableHlo.after hostOps0 _ (Proc.devRef .tc main_arg1) = _
  after_results

/-- The tokens' block at a point, read at an index. -/
theorem tokens_apply (c : Dev nD) (t : Fin cfg0.N) (y : S1024x4096.Idx) (z : S16384x4096.Idx)
    (h0 : (z 0).val = t.val % 16 * 1024 + (y 0).val) (h1 : (z 1).val = (y 1).val) :
    iblk m c 0 t y = tokens m c z := by
  obtain ⟨e0, e1, -⟩ := index_facts t
  rw [← tokens_at_entry]
  show V m c main_v1 (((cfg0.win 0).blk t).view.emb y) = _
  refine congrArg _ (funext fun a => Fin.ext ?_)
  match a with
  | ⟨0, _⟩ => show win0_0.index t (0 : Fin 2) * 1024 + 1 * (y 0).val = (z 0).val; omega
  | ⟨1, _⟩ => show win0_0.index t (1 : Fin 2) * 4096 + 1 * (y 1).val = (z 1).val; omega

/-- The weight's block at a point, read at an index. -/
theorem weight_apply (c : Dev nD) (t : Fin cfg0.N) (y : S1x4096x512.Idx) (z : S1x4096x14336.Idx)
    (h1 : (z 1).val = (y 1).val) (h2 : (z 2).val = t.val / 16 * 512 + (y 2).val) :
    iblk m c 1 t y = m ((c : Thread nD τ).loc main_arg1) z := by
  obtain ⟨-, -, e0, e1, e2⟩ := index_facts t
  have hz : (z 0).val < 1 := (z 0).isLt
  have hy : (y 0).val < 1 := (y 0).isLt
  rw [← weight_at_entry m c]
  show V m c main_arg1 (((cfg0.win 1).blk t).view.emb y) = _
  refine congrArg _ (funext fun a => Fin.ext ?_)
  match a with
  | ⟨0, _⟩ => show win0_1.index t (0 : Fin 3) * 1 + 1 * (y 0).val = (z 0).val; omega
  | ⟨1, _⟩ => show win0_1.index t (1 : Fin 3) * 4096 + 1 * (y 1).val = (z 1).val; omega
  | ⟨2, _⟩ => show win0_1.index t (2 : Fin 3) * 512 + 1 * (y 2).val = (z 2).val; omega

/-- Two points of one column block see the same weight block. -/
theorem weight_same (c : Dev nD) (t t' : Fin cfg0.N) (h : t.val / 16 = t'.val / 16) : iblk m c 1 t = iblk m c 1 t' := by
  obtain ⟨-, -, e0, e1, e2⟩ := index_facts t
  obtain ⟨-, -, f0, f1, f2⟩ := index_facts t'
  funext y
  show V m c main_arg1 (((cfg0.win 1).blk t).view.emb y) = V m c main_arg1 (((cfg0.win 1).blk t').view.emb y)
  refine congrArg _ (funext fun a => Fin.ext ?_)
  match a with
  | ⟨0, _⟩ => show win0_1.index t (0 : Fin 3) * 1 + 1 * (y 0).val = win0_1.index t' (0 : Fin 3) * 1 + 1 * (y 0).val; omega
  | ⟨1, _⟩ => show win0_1.index t (1 : Fin 3) * 4096 + 1 * (y 1).val = win0_1.index t' (1 : Fin 3) * 4096 + 1 * (y 1).val; omega
  | ⟨2, _⟩ => show win0_1.index t (2 : Fin 3) * 512 + 1 * (y 2).val = win0_1.index t' (2 : Fin 3) * 512 + 1 * (y 2).val; omega

/-! ## What each point leaves -/

/-- After every point the scratch holds that point's weight block, rounded. -/
theorem scratch_eq (c : Dev nD) : ∀ (n : ℕ) (h : n < cfg0.N), (outsAt0 m c n h).2 = k0_pay1 (iblk m c 1 ⟨n, h⟩) := by
  intro n
  induction n with
  | zero =>
    intro h
    rw [outsAt0_A m c ⟨0, h⟩ (Nat.zero_mod _)]
    dsimp only
    rw [scratch_A]
  | succ n ih =>
    intro h
    by_cases h0 : (n + 1) % 16 = 0
    · rw [outsAt0_A m c ⟨n + 1, h⟩ h0]
      dsimp only
      rw [scratch_A]
    · rw [outsAt0_B m c ⟨n + 1, h⟩ h0]
      dsimp only
      rw [scratch_B]
      refine (ih (by omega)).trans ?_
      exact congrArg k0_pay1 (weight_same m c _ _ (by show n / 16 = (n + 1) / 16; omega))

/-- After every point the output buffer holds the product with the rounded weight block, in four slabs. -/
theorem block_eq (c : Dev nD) (n : ℕ) (h : n < cfg0.N) :
    (outsAt0 m c n h).1 = slabs (k0_pay2 (iblk m c 0 ⟨n, h⟩) (k0_pay1 (iblk m c 1 ⟨n, h⟩))) := by
  by_cases h0 : n % 16 = 0
  · rw [outsAt0_A m c ⟨n, h⟩ h0]
    dsimp only
    rw [out_A]
  · rw [outsAt0_B m c ⟨n, h⟩ h0]
    dsimp only
    rw [out_B, scratch_eq m c (n - 1)]
    exact congrArg (fun w => slabs (k0_pay2 _ (k0_pay1 w))) (weight_same m c _ _ (by show (n - 1) / 16 = n / 16; omega))

/-! ## The product at the ideal values -/

/-- The rounded weight block at an entry is the weight block there: rounding is exact at the ideal values. -/
theorem pay1_apply (w : Vec Ideal S1x4096x512 .f32) (y : S4096x512.Idx) (z : S1x4096x512.Idx)
    (h1 : (z 1).val = (y 0).val) (h2 : (z 2).val = (y 1).val) : k0_pay1 (F := Ideal) w y = w z := by
  have hz : (z 0).val < 1 := (z 0).isLt
  unfold k0_pay1
  rw [shapeCast_self]
  show shapeCast S4096x512 w shapeCasts_S1x4096x512_S4096x512 y = w z
  exact shapeCast_apply w shapeCasts_S1x4096x512_S4096x512 y z (by
    rewrite [Shape.rowMajor_val_three, Shape.rowMajor_val_two]
    show ((z 0).val * 4096 + (z 1).val) * 512 + (z 2).val = (y 0).val * 512 + (y 1).val
    omega)

abbrev lrow (y : S1024x512.Idx) (k : Fin 4096) : S1024x4096.Idx := fun a => match a with
  | ⟨0, _⟩ => ⟨(y 0).val, (y 0).isLt⟩
  | ⟨1, _⟩ => ⟨k.val, k.isLt⟩
abbrev rcol (y : S1024x512.Idx) (k : Fin 4096) : S4096x512.Idx := fun a => match a with
  | ⟨0, _⟩ => ⟨k.val, k.isLt⟩
  | ⟨1, _⟩ => ⟨(y 1).val, (y 1).isLt⟩

/-- One block product at an entry: the sum over the 4096 features. -/
theorem pay2_apply (x : Vec Ideal S1024x4096 .bf16) (w : Vec Ideal S4096x512 .bf16) (y : S1024x512.Idx) :
    k0_pay2 (F := Ideal) x w y = ∑ k : Fin 4096, x (lrow y k) * w (rcol y k) := by
  unfold k0_pay2
  rw [shapeCast_self]
  simp only [matmul]
  rw [Ideal.matmul_constant_zero_apply,
    ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx y ((ValueIdx.contrEquiv1 dot_S1024x4096_S4096x512_S1024x512_1_0_0_1_n_n 4096 rfl rfl).symm k) = lrow y k := funext fun a => Fin.ext (by
    match a with
    | ⟨0, _⟩ => rfl
    | ⟨1, _⟩ => exact (DotDims.lhsIdx_val_of_single dot_S1024x4096_S4096x512_S1024x512_1_0_0_1_n_n rfl y _).trans hk)
  have er : dot_S1024x4096_S4096x512_S1024x512_1_0_0_1_n_n.rhsIdx y ((ValueIdx.contrEquiv1 dot_S1024x4096_S4096x512_S1024x512_1_0_0_1_n_n 4096 rfl rfl).symm k) = rcol y k := funext fun a => Fin.ext (by
    match a with
    | ⟨0, _⟩ => exact (DotDims.rhsIdx_val_of_single dot_S1024x4096_S4096x512_S1024x512_1_0_0_1_n_n rfl y _).trans hk
    | ⟨1, _⟩ => rfl)
  rw [el, er]

/-! ## The result array -/

/-- The tokens at an entry, at the ideal values: the input at the token's batch and position. -/
theorem tokens_ideal (mi : (ℓ : Loc nD τ sig) → Buf (Elt Ideal) ℓ) (c : Dev nD) (z : S16384x4096.Idx) (y : S2x8192x4096.Idx)
    (h0 : (y 0).val * 8192 + (y 1).val = (z 0).val) (h2 : (y 2).val = (z 1).val) :
    tokens mi c z = mi ((c : Thread nD τ).loc main_arg0) y := by
  unfold tokens
  show shapeCast S16384x4096 (mi ((c : Thread nD τ).loc main_arg0)) shapeCasts_S2x8192x4096_S16384x4096 z = _
  exact shapeCast_apply _ shapeCasts_S2x8192x4096_S16384x4096 z y (by
    rewrite [Shape.rowMajor_val_three, Shape.rowMajor_val_two]
    show ((y 0).val * 8192 + (y 1).val) * 4096 + (y 2).val = (z 0).val * 4096 + (z 1).val
    omega)

/-- The kernel's result is the reference's. -/
theorem result_eq (mi : (ℓ : Loc nD τ sig) → Buf (Elt Ideal) ℓ) (c : Dev nD) :
    G2 mi c = Cert.EvInRefIdeal.Read.val_main_v4 (F := Ideal) (mi ((c : Thread nD τ).loc main_arg0)) (mi ((c : Thread nD τ).loc main_arg1)) := by
  funext i
  have h0 : (i 0).val < 112 := (i 0).isLt
  have h1 : (i 1).val < 16384 := (i 1).isLt
  have h2 : (i 2).val < 128 := (i 2).isLt
  have hN : cfg0.N = 448 := N_0
  have hr : pt2Of i = 16 * ((i 0).val / 4) + (i 1).val / 1024 := by
    show 16 * ((i 0).val / 4 - 0) + 1 * ((i 1).val / 1024 - 0) + 1 * ((i 2).val / 128 - 0) = _
    omega
  have hp : pt2Of i < cfg0.N := by omega
  have hm : pt2Of i % 16 = (i 1).val / 1024 := by omega
  have hd : pt2Of i / 16 = (i 0).val / 4 := by omega
  -- the row and the column of the whole product that the reference reads at this index
  have hq : (((i 1).val * 112 + (i 0).val) * 128 + (i 2).val) / 14336 = (i 1).val := by omega
  have hc : (((i 1).val * 112 + (i 0).val) * 128 + (i 2).val) % 14336 = (i 0).val * 128 + (i 2).val := by omega
  unfold G2
  rw [dif_pos hp, ← outsAt0_sweep mi c (pt2Of i) hp, block_eq mi c _ hp]
  show k0_pay2 (F := Ideal) _ _ (column (loc2Of i)) = _
  rw [pay2_apply, Cert.EvInRefIdeal.Read.val_main_v4_apply, Cert.EvInRefIdeal.Read.val_main_v3_apply, Cert.EvInRefIdeal.Read.val_main_v2_apply]
  show _ = Cert.EvInRefIdeal.Read.val_main_v1 (F := Ideal) _ _ (Cert.EvInRefIdeal.Read.idx_main_v2 (Cert.EvInRefIdeal.Read.idx_main_v3 i))
  rw [Cert.EvInRefIdeal.Read.val_main_v1_apply]
  refine congrArg (Finset.sum (M := EReal) Finset.univ) (funext fun k => ?_)
  have hk : k.val < 4096 := k.isLt
  rw [tokens_apply mi c ⟨pt2Of i, hp⟩ _ (ValueIdx.ix2 (⟨(i 1).val, h1⟩ : Fin 16384) k)
      (by show (i 1).val = pt2Of i % 16 * 1024 + (i 1).val % 1024; omega) rfl,
    pay1_apply _ (rcol (column (loc2Of i)) k) (ValueIdx.ix3 (⟨0, by decide⟩ : Fin 1) k (⟨(i 0).val % 4 * 128 + (i 2).val % 128, by omega⟩ : Fin 512)) rfl rfl,
    weight_apply mi c ⟨pt2Of i, hp⟩ _ (Cert.EvInRefIdeal.Read.idx_main_v0 (Cert.EvInRefIdeal.Read.ridx_main_v1 (Cert.EvInRefIdeal.Read.idx_main_v2 (Cert.EvInRefIdeal.Read.idx_main_v3 i)) k))
      (by
        show (k.val * 14336 + (((i 1).val * 112 + (i 0).val) * 128 + (i 2).val) % 14336) / 14336 % 4096 = k.val
        omega)
      (by
        show (k.val * 14336 + (((i 1).val * 112 + (i 0).val) * 128 + (i 2).val) % 14336) % 14336 = pt2Of i / 16 * 512 + ((i 0).val % 4 * 128 + (i 2).val % 128)
        omega),
    Cert.EvInRefIdeal.Read.val_main_v0_apply]
  rw [tokens_ideal mi c _ (Cert.EvInRefIdeal.Read.lidx_main_v1 (Cert.EvInRefIdeal.Read.idx_main_v2 (Cert.EvInRefIdeal.Read.idx_main_v3 i)) k)
    (by
      show (((i 1).val * 112 + (i 0).val) * 128 + (i 2).val) / 117440512 * 8192 + (((i 1).val * 112 + (i 0).val) * 128 + (i 2).val) / 14336 % 8192 = (i 1).val
      omega) rfl]

end Cert.EvInIdeal.Product

end
-- ==== Proof.EvInClaims.lean ====
/- The claims about the even layer's input projection: the runs, and that the kernel's result is the reference's. -/
module

public import proofs.«01_k».proof.Defs
public import proofs.«01_k».proof.Proof.Gen.EvIn.Frame
public import proofs.«01_k».proof.Proof.Gen.EvInRefIdeal.Run
public import proofs.«01_k».proof.Proof.EvInValue

@[expose] public section

noncomputable section

namespace Cert.Proof.EvInClaims

open Idealize.ShloMosaic Idealize.SL.Sem

/-- The kernel runs at the machine's words and keeps its arguments. -/
theorem frame_kernel : Cert.quiescent_EvIn := fun m ρ _ => Cert.EvIn.Gen.frame m ρ

/-- So does its idealized text at the ideal values. -/
theorem frame_ideal : Cert.quiescent_EvInIdeal := fun m ρ _ => Cert.EvInIdeal.Gen.frame m ρ

/-- The reference is a line of host operations and declares no semaphore. -/
theorem frame_reference : Cert.quiescent_EvInRefIdeal := fun m ρ _ =>
  (θ_run Cert.EvInRefIdeal.defs _ _).mono (fun r h => ⟨fun c => (h c).2, Idealize.ShloMosaic.sem_eq_zero_of_no_sems (by decide) r.2⟩)
    (Cert.EvInRefIdeal.Value.run (F := Ideal) m ρ)

/-- The idealization rewrote nothing. -/
theorem preserves : Cert.preserves_EvIn_EvInIdeal := trivial

/-- Over the ideal values the kernel's result array is the reference's. -/
theorem algebraic : Cert.algebraic_EvInIdeal_EvInRefIdeal := by
  intro m ρ m' ρ' _ hag
  refine ⟨fun c => Cert.EvInIdeal.Value.G2 m c, Cert.EvInIdeal.Value.run (F := Ideal) m ρ, ?_⟩
  refine (θ_run Cert.EvInRefIdeal.defs _ _).mono (fun r h c => ⟨(h c).1.trans ?_, (h c).2⟩)
    (Cert.EvInRefIdeal.Value.run (F := Ideal) m' ρ')
  refine Eq.trans ?_ (Cert.EvInIdeal.Product.result_eq m c).symm
  rw [(hag c).1, (hag c).2]
  exact Cert.EvInRefIdeal.Read.val_main_v4_eq _ _

end Cert.Proof.EvInClaims

end
-- ==== Proof.OutProjValue.lean ====
/- The output projection, read at the ideal values.

   The grid walks the weight's eight column blocks, and inside each the sixteen row blocks of the tokens. At a column
   block's first row block the kernel rounds the weight block into a scratch buffer; every row block then multiplies its
   tokens by what the scratch holds. So the scratch holds the current column block throughout, and the result array is
   the product of the tokens with the whole weight matrix, entry by entry. -/
module

public import proofs.«01_k».proof.Proof.Gen.OutProjIdeal.Value
public import proofs.«01_k».proof.Proof.Gen.OutProjRefIdeal.Read
public import Idealize.ShloMosaic.Lib.ValueIdx
public import Idealize.ShloMosaic.PureOps.Ideal.Laws

@[expose] public section

set_option maxRecDepth 16384

noncomputable section

namespace Cert.OutProjIdeal.Product

open Cert.OutProjIdeal Cert.OutProjIdeal.Gen Cert.OutProjIdeal.Value
open Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-! ## What the body leaves -/

section Cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S1024x512 .f32) (h4 : a4.IsWhole)
  (a5 : Memref sig .tc .vmem S4096x512 .bf16) (h5 : a5.IsWhole) (x : Vec F S1024x4096 .bf16) (w : Vec F S1x4096x512 .f32)

/-- At a column block's first point the scratch ends holding the rounded weight block. -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) zero2]
  simp only [View.readAt_eq_ld, h3.read_unread, View.ld_unit_zero (S := S1x4096x512) zero3]

/-- There the output block is the tokens' block times the rounded weight block just stored. -/
theorem out_A (hc : cond0_0 i) : out0_A_2 c i a2 h2 a3 h3 a4 h4 a5 h5 hc x w = k0_pay2 x (k0_pay1 w) := by
  unfold out0_A_2
  rw [View.read_writes_eq_canon _ _ _ (cover0_A_2 c i a2 h2 a3 h3 a4 h4 a5 h5 hc x w)]
  unfold kernelRun0_A
  dsimp only
  sl_unfold_words
  rw [View.canon_unit_zero (S := S1024x512) zero2, View.readCov_unit_zero (S := S4096x512) _ zero2]
  simp only [View.readAt_eq_ld, h2.read_unread, h3.read_unread, View.ld_unit_zero (S := S1024x4096) zero2,
    View.ld_unit_zero (S := S1x4096x512) zero3]

/-- At every other point it is the tokens' block times what the scratch held. -/
theorem out_B (hc : ¬cond0_0 i) (s : Vec F S4096x512 .bf16) :
    out0_B_2 c i a2 h2 a3 h3 a4 h4 a5 h5 hc x w s = k0_pay2 x s := by
  unfold out0_B_2
  rw [View.read_writes_eq_canon _ _ _ (cover0_B_2 c i a2 h2 a3 h3 a4 h4 a5 h5 hc x w s)]
  unfold kernelRun0_B
  dsimp only
  sl_unfold_words
  rw [View.canon_unit_zero (S := S1024x512) zero2]
  simp only [View.readAt_eq_ld, h2.read_unread, h5.read_unread, View.ld_unit_zero (S := S1024x4096) zero2,
    View.ld_unit_zero (S := S4096x512) zero2]

end Cases

/-! ## The blocks a point sees -/

/-- Point `t` is at column block `t / 16` of the weight and at row block `t % 16` of the tokens. -/
theorem index_facts : ∀ t : Fin cfg0.N,
    win0_0.index t (0 : Fin 2) = t.val % 16 ∧ win0_0.index t (1 : Fin 2) = 0
    ∧ win0_1.index t (0 : Fin 3) = 0 ∧ win0_1.index t (1 : Fin 3) = 0 ∧ win0_1.index t (2 : Fin 3) = t.val / 16 :=
  (by decide +kernel : ∀ t : Fin grid0.N, _)

/-- The tokens' block at a point, read at an index. -/
theorem tokens_apply (c : Dev nD) (t : Fin cfg0.N) (y : S1024x4096.Idx) (z : S16384x4096.Idx)
    (h0 : (z 0).val = t.val % 16 * 1024 + (y 0).val) (h1 : (z 1).val = (y 1).val) :
    iblk m c 0 t y = m ((c : Thread nD τ).loc main_arg0) z := by
  obtain ⟨e0, e1, -⟩ := index_facts t
  show m ((c : Thread nD τ).loc main_arg0) (((cfg0.win 0).blk t).view.emb y) = _
  refine congrArg _ (funext fun a => Fin.ext ?_)
  match a with
  | ⟨0, _⟩ => show win0_0.index t (0 : Fin 2) * 1024 + 1 * (y 0).val = (z 0).val; omega
  | ⟨1, _⟩ => show win0_0.index t (1 : Fin 2) * 4096 + 1 * (y 1).val = (z 1).val; omega

/-- The weight's block at a point, read at an index. -/
theorem weight_apply (c : Dev nD) (t : Fin cfg0.N) (y : S1x4096x512.Idx) (z : S1x4096x4096.Idx)
    (h1 : (z 1).val = (y 1).val) (h2 : (z 2).val = t.val / 16 * 512 + (y 2).val) :
    iblk m c 1 t y = m ((c : Thread nD τ).loc main_arg1) z := by
  obtain ⟨-, -, e0, e1, e2⟩ := index_facts t
  have hz : (z 0).val < 1 := (z 0).isLt
  have hy : (y 0).val < 1 := (y 0).isLt
  show m ((c : Thread nD τ).loc main_arg1) (((cfg0.win 1).blk t).view.emb y) = _
  refine congrArg _ (funext fun a => Fin.ext ?_)
  match a with
  | ⟨0, _⟩ => show win0_1.index t (0 : Fin 3) * 1 + 1 * (y 0).val = (z 0).val; omega
  | ⟨1, _⟩ => show win0_1.index t (1 : Fin 3) * 4096 + 1 * (y 1).val = (z 1).val; omega
  | ⟨2, _⟩ => show win0_1.index t (2 : Fin 3) * 512 + 1 * (y 2).val = (z 2).val; omega

/-- Two points of one column block see the same weight block. -/
theorem weight_same (c : Dev nD) (t t' : Fin cfg0.N) (h : t.val / 16 = t'.val / 16) : iblk m c 1 t = iblk m c 1 t' := by
  obtain ⟨-, -, e0, e1, e2⟩ := index_facts t
  obtain ⟨-, -, f0, f1, f2⟩ := index_facts t'
  funext y
  show m ((c : Thread nD τ).loc main_arg1) (((cfg0.win 1).blk t).view.emb y) = m ((c : Thread nD τ).loc main_arg1) (((cfg0.win 1).blk t').view.emb y)
  refine congrArg _ (funext fun a => Fin.ext ?_)
  match a with
  | ⟨0, _⟩ => show win0_1.index t (0 : Fin 3) * 1 + 1 * (y 0).val = win0_1.index t' (0 : Fin 3) * 1 + 1 * (y 0).val; omega
  | ⟨1, _⟩ => show win0_1.index t (1 : Fin 3) * 4096 + 1 * (y 1).val = win0_1.index t' (1 : Fin 3) * 4096 + 1 * (y 1).val; omega
  | ⟨2, _⟩ => show win0_1.index t (2 : Fin 3) * 512 + 1 * (y 2).val = win0_1.index t' (2 : Fin 3) * 512 + 1 * (y 2).val; omega

/-! ## What each point leaves -/

/-- After every point the scratch holds that point's weight block, rounded. -/
theorem scratch_eq (c : Dev nD) : ∀ (n : ℕ) (h : n < cfg0.N), (outsAt0 m c n h).2 = k0_pay1 (iblk m c 1 ⟨n, h⟩) := by
  intro n
  induction n with
  | zero =>
    intro h
    rw [outsAt0_A m c ⟨0, h⟩ (Nat.zero_mod _)]
    dsimp only
    rw [scratch_A]
  | succ n ih =>
    intro h
    by_cases h0 : (n + 1) % 16 = 0
    · rw [outsAt0_A m c ⟨n + 1, h⟩ h0]
      dsimp only
      rw [scratch_A]
    · rw [outsAt0_B m c ⟨n + 1, h⟩ h0]
      show (outsAt0 m c n _).2 = _
      rw [ih]
      exact congrArg k0_pay1 (weight_same m c _ _ (by show n / 16 = (n + 1) / 16; omega))

/-- After every point the output buffer holds the tokens' block times the rounded weight block. -/
theorem block_eq (c : Dev nD) (n : ℕ) (h : n < cfg0.N) :
    (outsAt0 m c n h).1 = k0_pay2 (iblk m c 0 ⟨n, h⟩) (k0_pay1 (iblk m c 1 ⟨n, h⟩)) := by
  by_cases h0 : n % 16 = 0
  · rw [outsAt0_A m c ⟨n, h⟩ h0]
    dsimp only
    rw [out_A]
  · rw [outsAt0_B m c ⟨n, h⟩ h0]
    dsimp only
    rw [out_B, scratch_eq m c (n - 1)]
    exact congrArg (fun w => k0_pay2 _ (k0_pay1 w)) (weight_same m c _ _ (by show (n - 1) / 16 = n / 16; omega))

/-! ## The product at the ideal values -/

/-- The rounded weight block at an entry is the weight block there: rounding is exact at the ideal values. -/
theorem pay1_apply (w : Vec Ideal S1x4096x512 .f32) (y : S4096x512.Idx) (z : S1x4096x512.Idx)
    (h1 : (z 1).val = (y 0).val) (h2 : (z 2).val = (y 1).val) : k0_pay1 (F := Ideal) w y = w z := by
  have hz : (z 0).val < 1 := (z 0).isLt
  unfold k0_pay1
  rw [shapeCast_self]
  show shapeCast S4096x512 w shapeCasts_S1x4096x512_S4096x512 y = w z
  exact shapeCast_apply w shapeCasts_S1x4096x512_S4096x512 y z (by
    rewrite [Shape.rowMajor_val_three, Shape.rowMajor_val_two]
    show ((z 0).val * 4096 + (z 1).val) * 512 + (z 2).val = (y 0).val * 512 + (y 1).val
    omega)

abbrev lrow (y : S1024x512.Idx) (k : Fin 4096) : S1024x4096.Idx := fun a => match a with
  | ⟨0, _⟩ => ⟨(y 0).val, (y 0).isLt⟩
  | ⟨1, _⟩ => ⟨k.val, k.isLt⟩
abbrev rcol (y : S1024x512.Idx) (k : Fin 4096) : S4096x512.Idx := fun a => match a with
  | ⟨0, _⟩ => ⟨k.val, k.isLt⟩
  | ⟨1, _⟩ => ⟨(y 1).val, (y 1).isLt⟩

/-- One block product at an entry: the sum over the 4096 features. -/
theorem pay2_apply (x : Vec Ideal S1024x4096 .bf16) (w : Vec Ideal S4096x512 .bf16) (y : S1024x512.Idx) :
    k0_pay2 (F := Ideal) x w y = ∑ k : Fin 4096, x (lrow y k) * w (rcol y k) := by
  unfold k0_pay2
  simp only [matmul]
  rw [Ideal.matmul_constant_zero_apply,
    ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx y ((ValueIdx.contrEquiv1 dot_S1024x4096_S4096x512_S1024x512_1_0_0_1_n_n 4096 rfl rfl).symm k) = lrow y k := funext fun a => Fin.ext (by
    match a with
    | ⟨0, _⟩ => rfl
    | ⟨1, _⟩ => exact (DotDims.lhsIdx_val_of_single dot_S1024x4096_S4096x512_S1024x512_1_0_0_1_n_n rfl y _).trans hk)
  have er : dot_S1024x4096_S4096x512_S1024x512_1_0_0_1_n_n.rhsIdx y ((ValueIdx.contrEquiv1 dot_S1024x4096_S4096x512_S1024x512_1_0_0_1_n_n 4096 rfl rfl).symm k) = rcol y k := funext fun a => Fin.ext (by
    match a with
    | ⟨0, _⟩ => exact (DotDims.rhsIdx_val_of_single dot_S1024x4096_S4096x512_S1024x512_1_0_0_1_n_n rfl y _).trans hk
    | ⟨1, _⟩ => rfl)
  rw [el, er]

/-! ## The result array -/

/-- The kernel's result is the reference's product. -/
theorem result_eq (mi : (ℓ : Loc nD τ sig) → Buf (Elt Ideal) ℓ) (c : Dev nD) :
    G2 mi c = Cert.OutProjRefIdeal.Read.val_main_v2 (F := Ideal) (mi ((c : Thread nD τ).loc main_arg0)) (mi ((c : Thread nD τ).loc main_arg1)) := by
  funext i
  have h0 : (i 0).val < 16384 := (i 0).isLt
  have h1 : (i 1).val < 4096 := (i 1).isLt
  have hN : cfg0.N = 128 := N_0
  have hp : pt2Of i < cfg0.N := by
    show 1 * ((i 0).val / 1024 - 0) + 16 * ((i 1).val / 512 - 0) < cfg0.N
    omega
  unfold G2
  rw [dif_pos hp, ← outsAt0_sweep mi c (pt2Of i) hp, block_eq mi c _ hp, pay2_apply,
    Cert.OutProjRefIdeal.Read.val_main_v2_apply]
  refine congrArg (Finset.sum (M := EReal) Finset.univ) (funext fun k => ?_)
  have hm : pt2Of i % 16 = (i 0).val / 1024 := by
    show (1 * ((i 0).val / 1024 - 0) + 16 * ((i 1).val / 512 - 0)) % 16 = _
    omega
  have hd : pt2Of i / 16 = (i 1).val / 512 := by
    show (1 * ((i 0).val / 1024 - 0) + 16 * ((i 1).val / 512 - 0)) / 16 = _
    omega
  rw [tokens_apply mi c ⟨pt2Of i, hp⟩ _ (Cert.OutProjRefIdeal.Read.lidx_main_v2 i k)
      (by show (i 0).val = pt2Of i % 16 * 1024 + (i 0).val % 1024; omega) rfl,
    pay1_apply _ (rcol (loc2Of i) k) (ValueIdx.ix3 (⟨0, by decide⟩ : Fin 1) (⟨k.val, k.isLt⟩ : Fin 4096) (⟨(i 1).val % 512, Nat.mod_lt _ (by decide)⟩ : Fin 512)) rfl rfl,
    weight_apply mi c ⟨pt2Of i, hp⟩ _ (Cert.OutProjRefIdeal.Read.idx_main_v1 (Cert.OutProjRefIdeal.Read.ridx_main_v2 i k))
      (by show (k.val * 4096 + (i 1).val) / 4096 % 4096 = k.val; have := k.isLt; omega)
      (by show (k.val * 4096 + (i 1).val) % 4096 = pt2Of i / 16 * 512 + (i 1).val % 512; have := k.isLt; omega),
    Cert.OutProjRefIdeal.Read.val_main_v1_apply, Cert.OutProjRefIdeal.Read.val_main_v0_apply]
  rfl

end Cert.OutProjIdeal.Product

end
-- ==== Proof.OutProjClaims.lean ====
/- The claims about the output projection: the runs, and that the kernel's result is the reference's. -/
module

public import proofs.«01_k».proof.Defs
public import proofs.«01_k».proof.Proof.Gen.OutProj.Frame
public import proofs.«01_k».proof.Proof.Gen.OutProjRefIdeal.Run
public import proofs.«01_k».proof.Proof.OutProjValue

@[expose] public section

noncomputable section

namespace Cert.Proof.OutProjClaims

open Idealize.ShloMosaic Idealize.SL.Sem

/-- The kernel runs at the machine's words and keeps its arguments. -/
theorem frame_kernel : Cert.quiescent_OutProj := fun m ρ _ => Cert.OutProj.Gen.frame m ρ

/-- So does its idealized text at the ideal values. -/
theorem frame_ideal : Cert.quiescent_OutProjIdeal := fun m ρ _ => Cert.OutProjIdeal.Gen.frame m ρ

/-- The reference is a line of host operations and declares no semaphore. -/
theorem frame_reference : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The idealization rewrote nothing. -/
theorem preserves : Cert.preserves_OutProj_OutProjIdeal := trivial

/-- Over the ideal values the kernel's result array is the reference's. -/
theorem algebraic : Cert.algebraic_OutProjIdeal_OutProjRefIdeal := by
  intro m ρ m' ρ' _ hag
  refine ⟨fun c => Cert.OutProjIdeal.Value.G2 m c, Cert.OutProjIdeal.Value.run (F := Ideal) m ρ, ?_⟩
  refine (θ_run Cert.OutProjRefIdeal.defs _ _).mono (fun r h c => ⟨(h c).1.trans ?_, (h c).2⟩)
    (Cert.OutProjRefIdeal.Value.run (F := Ideal) m' ρ')
  refine Eq.trans ?_ (Cert.OutProjIdeal.Product.result_eq m c).symm
  rw [(hag c).1, (hag c).2]
  exact Cert.OutProjRefIdeal.Read.val_main_v2_eq _ _

end Cert.Proof.OutProjClaims

end
-- ==== Proof.OdInValue.lean ====
/- The odd layer's input projection, read at the ideal values.

   The grid walks the weight's 40 column blocks of 512, and inside each the sixteen row blocks of 1024 tokens. At a
   column block's first row block the kernel rounds the weight block into a scratch buffer; every row block multiplies its
   tokens by what the scratch holds and stores the 512 columns as four slabs of 128. So slab `h` of the result holds, at a
   token and a lane `l`, the product of the token's row with the weight's column `128 h + l`. -/
module

public import proofs.«01_k».proof.Proof.Gen.OdInIdeal.Value
public import proofs.«01_k».proof.Proof.Gen.OdInRefIdeal.Read
public import Idealize.ShloMosaic.Lib.ValueIdx
public import Idealize.ShloMosaic.Lib.Pipeline.ValueKit.Tiles
public import Idealize.ShloMosaic.PureOps.Ideal.Laws

@[expose] public section

set_option maxRecDepth 16384

noncomputable section

namespace Cert.OdInIdeal.Product

open Cert.OdInIdeal Cert.OdInIdeal.Gen Cert.OdInIdeal.Value
open Idealize.ShloMosaic Idealize.ShloMosaic.TcCoe Idealize.SL.Sem

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-! ## What the body leaves -/

/-- Entry (token, column) of a block's 512 columns that slab `y 0` keeps at lane `y 2`. -/
abbrev column (y : S4x1024x128.Idx) : S1024x512.Idx := fun a => match a with
  | ⟨0, _⟩ => ⟨(y 1).val, (y 1).isLt⟩
  | ⟨1, _⟩ => ⟨(y 0).val * 128 + (y 2).val, by
      have h0 : (y 0).val < 4 := (y 0).isLt
      have h2 : (y 2).val < 128 := (y 2).isLt
      show (y 0).val * 128 + (y 2).val < 512
      omega⟩

/-- Four slabs of one product: at an index, the product's entry there, rounded. -/
def slabs (p : FVec F S1024x512 .f32) : FVec F S4x1024x128 .bf16 :=
  fun y => FloatOps.truncf .bf16 bitsLt_bf16_f32 (p (column y))

/-- One stored slab, where it holds the index `y`: columns `off` to `off + 127` of the product, rounded. -/
theorem slab_at (p : FVec F S1024x512 .f32) (y : S4x1024x128.Idx) (h off : Nat)
    (hs : S1024x512.Slices ![0, off] S1024x128) (hoff : off = h * 128)
    (x : S1x1024x128.Idx) (hx : ∀ a, (y a : Nat) = (![h, 0, 0] : Fin 3 → Nat) a + x a) :
    (shapeCast S1x1024x128 (truncf .bf16 (extractStridedSlice S1024x128 ![0, off] p hs) bitsLt_bf16_f32 : FVec F S1024x128 .bf16)
      shapeCasts_S1024x128_S1x1024x128) x = slabs p y := by
  have x0 : (x 0).val < 1 := (x 0).isLt
  have x1 : (x 1).val < 1024 := (x 1).isLt
  have x2 : (x 2).val < 128 := (x 2).isLt
  have e0 : (y 0).val = h + (x 0).val := hx 0
  have e1 : (y 1).val = 0 + (x 1).val := hx 1
  have e2 : (y 2).val = 0 + (x 2).val := hx 2
  rw [shapeCast_apply _ shapeCasts_S1024x128_S1x1024x128 x (ValueIdx.ix2 (⟨(x 1).val, x1⟩ : Fin 1024) (⟨(x 2).val, x2⟩ : Fin 128)) (by
    rewrite [Shape.rowMajor_val_three, Shape.rowMajor_val_two]
    show (x 1).val * 128 + (x 2).val = ((x 0).val * 1024 + (x 1).val) * 128 + (x 2).val
    omega)]
  show FloatOps.truncf .bf16 bitsLt_bf16_f32 (extractStridedSlice S1024x128 ![0, off] p hs _) = FloatOps.truncf .bf16 bitsLt_bf16_f32 (p (column y))
  refine congrArg _ ?_
  exact extractStridedSlice_apply _ p hs _ (column y) (fun a => by
    match a with
    | ⟨0, _⟩ => show (y 1).val = 0 + (x 1).val; omega
    | ⟨1, _⟩ => show (y 0).val * 128 + (y 2).val = off + (x 2).val; omega)

section Cases
variable (c : Dev nD) (i : grid0.Coords) (a2 : Memref sig .tc .vmem S1024x4096 .bf16) (h2 : a2.IsWhole)
  (a3 : Memref sig .tc .vmem S1x4096x512 .f32) (h3 : a3.IsWhole) (a4 : Memref sig .tc .vmem S4x1024x128 .bf16) (h4 : a4.IsWhole)
  (a5 : Memref sig .tc .vmem S4096x512 .bf16) (h5 : a5.IsWhole) (x : Vec F S1024x4096 .bf16) (w : Vec F S1x4096x512 .f32)

/-- At every other point the scratch keeps what it held. -/
theorem scratch_B (hc : ¬cond0_0 i) (s : Vec F S4096x512 .bf16) : sout0_B_0 c i a2 h2 a3 h3 a4 h4 a5 h5 hc x w s = s := rfl

/-- At a column block's first point the scratch ends holding the rounded weight block. -/
theorem scratch_A (hc : cond0_0 i) : sout0_A_0 c i a2 h2 a3 h3 a4 h4 a5 h5 hc x w = k0_pay1 w := by
  unfold sout0_A_0
  rw [View.read_writes_eq_canon _ _ _ (scover0_A_0 c i a2 h2 a3 h3 a4 h4 a5 h5 hc x w)]
  unfold kernelRun0_A
  dsimp only
  sl_unfold_words
  rw [View.canon_unit_zero (S := S4096x512) zero2]
  simp only [View.readAt_eq_ld, h3.read_unread, View.ld_unit_zero (S := S1x4096x512) zero3]

/-- There the output block is the product with the rounded weight block just stored, in four slabs. -/
theorem out_A (hc : cond0_0 i) : out0_A_2 c i a2 h2 a3 h3 a4 h4 a5 h5 hc x w = slabs (k0_pay2 x (k0_pay1 w)) := by
  unfold out0_A_2
  rw [View.read_writes_eq_canon _ _ _ (cover0_A_2 c i a2 h2 a3 h3 a4 h4 a5 h5 hc x w)]
  funext y
  have hcov := cover0_A_2 c i a2 h2 a3 h3 a4 h4 a5 h5 hc x w y
  revert hcov
  unfold kernelRun0_A
  dsimp only
  sl_unfold_words
  rw [View.readCov_unit_zero (S := S4096x512) _ zero2]
  simp only [View.readAt_eq_ld, h2.read_unread, h3.read_unread, View.ld_unit_zero (S := S1024x4096) zero2,
    View.ld_unit_zero (S := S1x4096x512) zero3]
  intro hcov
  refine View.canon_eq_of_allAt _ y _ hcov ?_
  refine View.allAt_cons_unit _ _ _ _ _ (fun z hz => slab_at _ y 3 384 slices_S1024x512_o0_384_S1024x128 rfl z hz) ?_
  refine View.allAt_cons_unit _ _ _ _ _ (fun z hz => slab_at _ y 2 256 slices_S1024x512_o0_256_S1024x128 rfl z hz) ?_
  refine View.allAt_cons_unit _ _ _ _ _ (fun z hz => slab_at _ y 1 128 slices_S1024x512_o0_128_S1024x128 rfl z hz) ?_
  exact View.allAt_cons_unit _ _ _ _ _ (fun z hz => slab_at _ y 0 0 slices_S1024x512_o0_0_S1024x128 rfl z hz) (View.allAt_nil _ _)

/-- At every other point it is the product with what the scratch held, in four slabs. -/
theorem out_B (hc : ¬cond0_0 i) (s : Vec F S4096x512 .bf16) :
    out0_B_2 c i a2 h2 a3 h3 a4 h4 a5 h5 hc x w s = slabs (k0_pay2 x s) := by
  unfold out0_B_2
  rw [View.read_writes_eq_canon _ _ _ (cover0_B_2 c i a2 h2 a3 h3 a4 h4 a5 h5 hc x w s)]
  funext y
  have hcov := cover0_B_2 c i a2 h2 a3 h3 a4 h4 a5 h5 hc x w s y
  revert hcov
  unfold kernelRun0_B
  dsimp only
  sl_unfold_words
  simp only [View.readAt_eq_ld, h2.read_unread, h5.read_unread, View.ld_unit_zero (S := S1024x4096) zero2,
    View.ld_unit_zero (S := S4096x512) zero2]
  intro hcov
  refine View.canon_eq_of_allAt _ y _ hcov ?_
  refine View.allAt_cons_unit _ _ _ _ _ (fun z hz => slab_at _ y 3 384 slices_S1024x512_o0_384_S1024x128 rfl z hz) ?_
  refine View.allAt_cons_unit _ _ _ _ _ (fun z hz => slab_at _ y 2 256 slices_S1024x512_o0_256_S1024x128 rfl z hz) ?_
  refine View.allAt_cons_unit _ _ _ _ _ (fun z hz => slab_at _ y 1 128 slices_S1024x512_o0_128_S1024x128 rfl z hz) ?_
  exact View.allAt_cons_unit _ _ _ _ _ (fun z hz => slab_at _ y 0 0 slices_S1024x512_o0_0_S1024x128 rfl z hz) (View.allAt_nil _ _)

end Cases

/-! ## The blocks a point sees -/

/-- Point `t` is at column block `t / 16` of the weight and at row block `t % 16` of the tokens. -/
theorem index_facts : ∀ t : Fin cfg0.N,
    win0_0.index t (0 : Fin 2) = t.val % 16 ∧ win0_0.index t (1 : Fin 2) = 0
    ∧ win0_1.index t (0 : Fin 3) = 0 ∧ win0_1.index t (1 : Fin 3) = 0 ∧ win0_1.index t (2 : Fin 3) = t.val / 16 :=
  (by decide +kernel : ∀ t : Fin grid0.N, _)

/-- The tokens the call reads. -/
def tokens (c : Dev nD) : Vec F S16384x4096 .bf16 := m ((c : Thread nD τ).loc main_arg0)

theorem tokens_at_entry (c : Dev nD) : V m c main_arg0 = tokens m c := rfl

/-- The weight the call reads is the argument. -/
theorem weight_at_entry (c : Dev nD) : V m c main_arg1 = m ((c : Thread nD τ).loc main_arg1) := rfl

/-- The tokens' block at a point, read at an index. -/
theorem tokens_apply (c : Dev nD) (t : Fin cfg0.N) (y : S1024x4096.Idx) (z : S16384x4096.Idx)
    (h0 : (z 0).val = t.val % 16 * 1024 + (y 0).val) (h1 : (z 1).val = (y 1).val) :
    iblk m c 0 t y = tokens m c z := by
  obtain ⟨e0, e1, -⟩ := index_facts t
  rw [← tokens_at_entry]
  show V m c main_arg0 (((cfg0.win 0).blk t).view.emb y) = _
  refine congrArg _ (funext fun a => Fin.ext ?_)
  match a with
  | ⟨0, _⟩ => show win0_0.index t (0 : Fin 2) * 1024 + 1 * (y 0).val = (z 0).val; omega
  | ⟨1, _⟩ => show win0_0.index t (1 : Fin 2) * 4096 + 1 * (y 1).val = (z 1).val; omega

/-- The weight's block at a point, read at an index. -/
theorem weight_apply (c : Dev nD) (t : Fin cfg0.N) (y : S1x4096x512.Idx) (z : S1x4096x20480.Idx)
    (h1 : (z 1).val = (y 1).val) (h2 : (z 2).val = t.val / 16 * 512 + (y 2).val) :
    iblk m c 1 t y = m ((c : Thread nD τ).loc main_arg1) z := by
  obtain ⟨-, -, e0, e1, e2⟩ := index_facts t
  have hz : (z 0).val < 1 := (z 0).isLt
  have hy : (y 0).val < 1 := (y 0).isLt
  rw [← weight_at_entry m c]
  show V m c main_arg1 (((cfg0.win 1).blk t).view.emb y) = _
  refine congrArg _ (funext fun a => Fin.ext ?_)
  match a with
  | ⟨0, _⟩ => show win0_1.index t (0 : Fin 3) * 1 + 1 * (y 0).val = (z 0).val; omega
  | ⟨1, _⟩ => show win0_1.index t (1 : Fin 3) * 4096 + 1 * (y 1).val = (z 1).val; omega
  | ⟨2, _⟩ => show win0_1.index t (2 : Fin 3) * 512 + 1 * (y 2).val = (z 2).val; omega

/-- Two points of one column block see the same weight block. -/
theorem weight_same (c : Dev nD) (t t' : Fin cfg0.N) (h : t.val / 16 = t'.val / 16) : iblk m c 1 t = iblk m c 1 t' := by
  obtain ⟨-, -, e0, e1, e2⟩ := index_facts t
  obtain ⟨-, -, f0, f1, f2⟩ := index_facts t'
  funext y
  show V m c main_arg1 (((cfg0.win 1).blk t).view.emb y) = V m c main_arg1 (((cfg0.win 1).blk t').view.emb y)
  refine congrArg _ (funext fun a => Fin.ext ?_)
  match a with
  | ⟨0, _⟩ => show win0_1.index t (0 : Fin 3) * 1 + 1 * (y 0).val = win0_1.index t' (0 : Fin 3) * 1 + 1 * (y 0).val; omega
  | ⟨1, _⟩ => show win0_1.index t (1 : Fin 3) * 4096 + 1 * (y 1).val = win0_1.index t' (1 : Fin 3) * 4096 + 1 * (y 1).val; omega
  | ⟨2, _⟩ => show win0_1.index t (2 : Fin 3) * 512 + 1 * (y 2).val = win0_1.index t' (2 : Fin 3) * 512 + 1 * (y 2).val; omega

/-! ## What each point leaves -/

/-- After every point the scratch holds that point's weight block, rounded. -/
theorem scratch_eq (c : Dev nD) : ∀ (n : ℕ) (h : n < cfg0.N), (outsAt0 m c n h).2 = k0_pay1 (iblk m c 1 ⟨n, h⟩) := by
  intro n
  induction n with
  | zero =>
    intro h
    rw [outsAt0_A m c ⟨0, h⟩ (Nat.zero_mod _)]
    dsimp only
    rw [scratch_A]
  | succ n ih =>
    intro h
    by_cases h0 : (n + 1) % 16 = 0
    · rw [outsAt0_A m c ⟨n + 1, h⟩ h0]
      dsimp only
      rw [scratch_A]
    · rw [outsAt0_B m c ⟨n + 1, h⟩ h0]
      dsimp only
      rw [scratch_B]
      refine (ih (by omega)).trans ?_
      exact congrArg k0_pay1 (weight_same m c _ _ (by show n / 16 = (n + 1) / 16; omega))

/-- After every point the output buffer holds the product with the rounded weight block, in four slabs. -/
theorem block_eq (c : Dev nD) (n : ℕ) (h : n < cfg0.N) :
    (outsAt0 m c n h).1 = slabs (k0_pay2 (iblk m c 0 ⟨n, h⟩) (k0_pay1 (iblk m c 1 ⟨n, h⟩))) := by
  by_cases h0 : n % 16 = 0
  · rw [outsAt0_A m c ⟨n, h⟩ h0]
    dsimp only
    rw [out_A]
  · rw [outsAt0_B m c ⟨n, h⟩ h0]
    dsimp only
    rw [out_B, scratch_eq m c (n - 1)]
    exact congrArg (fun w => slabs (k0_pay2 _ (k0_pay1 w))) (weight_same m c _ _ (by show (n - 1) / 16 = n / 16; omega))

/-! ## The product at the ideal values -/

/-- The rounded weight block at an entry is the weight block there: rounding is exact at the ideal values. -/
theorem pay1_apply (w : Vec Ideal S1x4096x512 .f32) (y : S4096x512.Idx) (z : S1x4096x512.Idx)
    (h1 : (z 1).val = (y 0).val) (h2 : (z 2).val = (y 1).val) : k0_pay1 (F := Ideal) w y = w z := by
  have hz : (z 0).val < 1 := (z 0).isLt
  unfold k0_pay1
  rw [shapeCast_self]
  show shapeCast S4096x512 w shapeCasts_S1x4096x512_S4096x512 y = w z
  exact shapeCast_apply w shapeCasts_S1x4096x512_S4096x512 y z (by
    rewrite [Shape.rowMajor_val_three, Shape.rowMajor_val_two]
    show ((z 0).val * 4096 + (z 1).val) * 512 + (z 2).val = (y 0).val * 512 + (y 1).val
    omega)

abbrev lrow (y : S1024x512.Idx) (k : Fin 4096) : S1024x4096.Idx := fun a => match a with
  | ⟨0, _⟩ => ⟨(y 0).val, (y 0).isLt⟩
  | ⟨1, _⟩ => ⟨k.val, k.isLt⟩
abbrev rcol (y : S1024x512.Idx) (k : Fin 4096) : S4096x512.Idx := fun a => match a with
  | ⟨0, _⟩ => ⟨k.val, k.isLt⟩
  | ⟨1, _⟩ => ⟨(y 1).val, (y 1).isLt⟩

/-- One block product at an entry: the sum over the 4096 features. -/
theorem pay2_apply (x : Vec Ideal S1024x4096 .bf16) (w : Vec Ideal S4096x512 .bf16) (y : S1024x512.Idx) :
    k0_pay2 (F := Ideal) x w y = ∑ k : Fin 4096, x (lrow y k) * w (rcol y k) := by
  unfold k0_pay2
  simp only [matmul]
  rw [Ideal.matmul_constant_zero_apply,
    ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx y ((ValueIdx.contrEquiv1 dot_S1024x4096_S4096x512_S1024x512_1_0_0_1_n_n 4096 rfl rfl).symm k) = lrow y k := funext fun a => Fin.ext (by
    match a with
    | ⟨0, _⟩ => rfl
    | ⟨1, _⟩ => exact (DotDims.lhsIdx_val_of_single dot_S1024x4096_S4096x512_S1024x512_1_0_0_1_n_n rfl y _).trans hk)
  have er : dot_S1024x4096_S4096x512_S1024x512_1_0_0_1_n_n.rhsIdx y ((ValueIdx.contrEquiv1 dot_S1024x4096_S4096x512_S1024x512_1_0_0_1_n_n 4096 rfl rfl).symm k) = rcol y k := funext fun a => Fin.ext (by
    match a with
    | ⟨0, _⟩ => exact (DotDims.rhsIdx_val_of_single dot_S1024x4096_S4096x512_S1024x512_1_0_0_1_n_n rfl y _).trans hk
    | ⟨1, _⟩ => rfl)
  rw [el, er]

/-! ## The result array -/

/-- The kernel's result is the reference's. -/
theorem result_eq (mi : (ℓ : Loc nD τ sig) → Buf (Elt Ideal) ℓ) (c : Dev nD) :
    G2 mi c = Cert.OdInRefIdeal.Read.val_main_v5 (F := Ideal) (mi ((c : Thread nD τ).loc main_arg0)) (mi ((c : Thread nD τ).loc main_arg1)) := by
  funext i
  have h0 : (i 0).val < 160 := (i 0).isLt
  have h1 : (i 1).val < 16384 := (i 1).isLt
  have h2 : (i 2).val < 128 := (i 2).isLt
  have hN : cfg0.N = 640 := N_0
  have hr : pt2Of i = 16 * ((i 0).val / 4) + (i 1).val / 1024 := by
    show 16 * ((i 0).val / 4 - 0) + 1 * ((i 1).val / 1024 - 0) + 1 * ((i 2).val / 128 - 0) = _
    omega
  have hp : pt2Of i < cfg0.N := by omega
  have hm : pt2Of i % 16 = (i 1).val / 1024 := by omega
  have hd : pt2Of i / 16 = (i 0).val / 4 := by omega
  -- the row and the column of the whole product that the reference reads at this index
  have hq : (((i 1).val * 160 + (i 0).val) * 128 + (i 2).val) / 20480 = (i 1).val := by omega
  have hc : (((i 1).val * 160 + (i 0).val) * 128 + (i 2).val) % 20480 = (i 0).val * 128 + (i 2).val := by omega
  unfold G2
  rw [dif_pos hp, ← outsAt0_sweep mi c (pt2Of i) hp, block_eq mi c _ hp]
  show k0_pay2 (F := Ideal) _ _ (column (loc2Of i)) = _
  rw [pay2_apply, Cert.OdInRefIdeal.Read.val_main_v5_apply, Cert.OdInRefIdeal.Read.val_main_v4_apply, Cert.OdInRefIdeal.Read.val_main_v3_apply]
  show _ = Cert.OdInRefIdeal.Read.val_main_v2 (F := Ideal) _ _ (Cert.OdInRefIdeal.Read.idx_main_v3 (Cert.OdInRefIdeal.Read.idx_main_v4 i))
  rw [Cert.OdInRefIdeal.Read.val_main_v2_apply]
  refine congrArg (Finset.sum (M := EReal) Finset.univ) (funext fun k => ?_)
  have hk : k.val < 4096 := k.isLt
  rw [tokens_apply mi c ⟨pt2Of i, hp⟩ _ (ValueIdx.ix2 (⟨(i 1).val, h1⟩ : Fin 16384) k)
      (by show (i 1).val = pt2Of i % 16 * 1024 + (i 1).val % 1024; omega) rfl,
    pay1_apply _ (rcol (column (loc2Of i)) k) (ValueIdx.ix3 (⟨0, by decide⟩ : Fin 1) k (⟨(i 0).val % 4 * 128 + (i 2).val % 128, by omega⟩ : Fin 512)) rfl rfl,
    weight_apply mi c ⟨pt2Of i, hp⟩ _ (Cert.OdInRefIdeal.Read.idx_main_v1 (Cert.OdInRefIdeal.Read.ridx_main_v2 (Cert.OdInRefIdeal.Read.idx_main_v3 (Cert.OdInRefIdeal.Read.idx_main_v4 i)) k))
      (by
        show (k.val * 20480 + (((i 1).val * 160 + (i 0).val) * 128 + (i 2).val) % 20480) / 20480 % 4096 = k.val
        omega)
      (by
        show (k.val * 20480 + (((i 1).val * 160 + (i 0).val) * 128 + (i 2).val) % 20480) % 20480 = pt2Of i / 16 * 512 + ((i 0).val % 4 * 128 + (i 2).val % 128)
        omega),
    Cert.OdInRefIdeal.Read.val_main_v1_apply]
  rw [Cert.OdInRefIdeal.Read.val_main_v0_apply]
  refine congrArg (fun z : EReal => z * _) (congrArg (mi ((c : Thread nD τ).loc main_arg0)) (funext fun a => Fin.ext ?_))
  match a with
  | ⟨0, _⟩ => show (i 1).val = (((i 1).val * 160 + (i 0).val) * 128 + (i 2).val) / 20480; omega
  | ⟨1, _⟩ => rfl

end Cert.OdInIdeal.Product

end
-- ==== Proof.OdInClaims.lean ====
/- The claims about the odd layer's input projection: the runs, and that the kernel's result is the reference's. -/
module

public import proofs.«01_k».proof.Defs
public import proofs.«01_k».proof.Proof.Gen.OdIn.Frame
public import proofs.«01_k».proof.Proof.Gen.OdInRefIdeal.Run
public import proofs.«01_k».proof.Proof.OdInValue

@[expose] public section

noncomputable section

namespace Cert.Proof.OdInClaims

open Idealize.ShloMosaic Idealize.SL.Sem

/-- The kernel runs at the machine's words and keeps its arguments. -/
theorem frame_kernel : Cert.quiescent_OdIn := fun m ρ _ => Cert.OdIn.Gen.frame m ρ

/-- So does its idealized text at the ideal values. -/
theorem frame_ideal : Cert.quiescent_OdInIdeal := fun m ρ _ => Cert.OdInIdeal.Gen.frame m ρ

/-- The reference is a line of host operations and declares no semaphore. -/
theorem frame_reference : Cert.quiescent_OdInRefIdeal := fun m ρ _ =>
  (θ_run Cert.OdInRefIdeal.defs _ _).mono (fun r h => ⟨fun c => (h c).2, Idealize.ShloMosaic.sem_eq_zero_of_no_sems (by decide) r.2⟩)
    (Cert.OdInRefIdeal.Value.run (F := Ideal) m ρ)

/-- The idealization rewrote nothing. -/
theorem preserves : Cert.preserves_OdIn_OdInIdeal := trivial

/-- Over the ideal values the kernel's result array is the reference's. -/
theorem algebraic : Cert.algebraic_OdInIdeal_OdInRefIdeal := by
  intro m ρ m' ρ' _ hag
  refine ⟨fun c => Cert.OdInIdeal.Value.G2 m c, Cert.OdInIdeal.Value.run (F := Ideal) m ρ, ?_⟩
  refine (θ_run Cert.OdInRefIdeal.defs _ _).mono (fun r h c => ⟨(h c).1.trans ?_, (h c).2⟩)
    (Cert.OdInRefIdeal.Value.run (F := Ideal) m' ρ')
  refine Eq.trans ?_ (Cert.OdInIdeal.Product.result_eq m c).symm
  rw [(hag c).1, (hag c).2]
  exact Cert.OdInRefIdeal.Read.val_main_v5_eq _ _

end Cert.Proof.OdInClaims

end
-- ==== Proof.RetFwdEntry.lean ====
/- The retention reference's run, over the states its loop goes through.

   The operations before the loop are taken in parts, so that no value is written out further than the part it is made in:
   the rotated queries, then the rotated keys, the values and what a chunk's own earlier keys add, then what its later keys
   add, then the products the loop takes chunk by chunk. -/
module

public import proofs.«01_k».proof.Proof.Gen.RetFwdRefIdeal.Run
public import proofs.«01_k».proof.Proof.Gen.RetFwdRefIdeal.Step

@[expose] public section

set_option maxRecDepth 16384

noncomputable section

namespace Cert.RetFwdRefIdeal.Entry

open Idealize.ShloMosaic Idealize.ShloMosaic.TcCoe Idealize.SL.Sem Idealize.ShloMosaic.StableHlo
open Cert.RetFwdRefIdeal Cert.RetFwdRefIdeal.Gen Cert.RetFwdRefIdeal.Value Cert.RetFwdRefIdeal.Step

variable {F : FTy → Type} [FloatOps F]

/-! ## Before the loop -/

section Parts
variable (a : (⟨S112x16384x128, .bf16⟩ : BufTy).Contents (Elt F)) (r : (⟨S2x8, .f32⟩ : BufTy).Contents (Elt F))

/-- What the first part leaves that is read later. -/
structure First (W : Valuation τ sig (Elt F)) : Prop where
  arg0 : W (Proc.devRef .tc main_arg0) = a
  v5 : W (Proc.devRef .tc main_v5) = A_main_v5 a r
  v39 : W (Proc.devRef .tc main_v39) = A_main_v39 a r
  v44 : W (Proc.devRef .tc main_v44) = A_main_v44 a r
  v45 : W (Proc.devRef .tc main_v45) = K_main_v45

/-- What the second part leaves, before its decayed products. -/
structure Middle (W : Valuation τ sig (Elt F)) : Prop where
  v5 : W (Proc.devRef .tc main_v5) = A_main_v5 a r
  v39 : W (Proc.devRef .tc main_v39) = A_main_v39 a r
  v75 : W (Proc.devRef .tc main_v75) = A_main_v75 a r
  v80 : W (Proc.devRef .tc main_v80) = A_main_v80 a r
  v83 : W (Proc.devRef .tc main_v83) = A_main_v83 a r
  v84 : W (Proc.devRef .tc main_v84) = A_main_v84 a r
  v85 : W (Proc.devRef .tc main_v85) = A_main_v85 a r
  v94 : W (Proc.devRef .tc main_v94) = K_main_v94 (F := F)
  v102 : W (Proc.devRef .tc main_v102) = A_main_v102 a r
  cst : W (Proc.devRef .tc main_cst_9) = K_main_cst_9

/-- What the second part leaves that is read later. -/
structure Second (W : Valuation τ sig (Elt F)) : Prop where
  v5 : W (Proc.devRef .tc main_v5) = A_main_v5 a r
  v39 : W (Proc.devRef .tc main_v39) = A_main_v39 a r
  v75 : W (Proc.devRef .tc main_v75) = A_main_v75 a r
  v80 : W (Proc.devRef .tc main_v80) = A_main_v80 a r
  v110 : W (Proc.devRef .tc main_v110) = A_main_v110 a r

/-- The reversed queries, keys and values, with what is read later. -/
structure Flipped (W : Valuation τ sig (Elt F)) : Prop where
  v5 : W (Proc.devRef .tc main_v5) = A_main_v5 a r
  v39 : W (Proc.devRef .tc main_v39) = A_main_v39 a r
  v75 : W (Proc.devRef .tc main_v75) = A_main_v75 a r
  v80 : W (Proc.devRef .tc main_v80) = A_main_v80 a r
  v110 : W (Proc.devRef .tc main_v110) = A_main_v110 a r
  v111 : W (Proc.devRef .tc main_v111) = A_main_v111 a r
  v112 : W (Proc.devRef .tc main_v112) = A_main_v112 a r
  v113 : W (Proc.devRef .tc main_v113) = A_main_v113 a r

/-- What the third part leaves, before its decayed products. -/
structure Turned (W : Valuation τ sig (Elt F)) : Prop where
  v5 : W (Proc.devRef .tc main_v5) = A_main_v5 a r
  v39 : W (Proc.devRef .tc main_v39) = A_main_v39 a r
  v75 : W (Proc.devRef .tc main_v75) = A_main_v75 a r
  v80 : W (Proc.devRef .tc main_v80) = A_main_v80 a r
  v110 : W (Proc.devRef .tc main_v110) = A_main_v110 a r
  v116 : W (Proc.devRef .tc main_v116) = A_main_v116 a r
  v117 : W (Proc.devRef .tc main_v117) = A_main_v117 a r
  v118 : W (Proc.devRef .tc main_v118) = A_main_v118 a r
  v127 : W (Proc.devRef .tc main_v127) = K_main_v127 (F := F)
  v135 : W (Proc.devRef .tc main_v135) = A_main_v135 a r
  cst : W (Proc.devRef .tc main_cst_12) = K_main_cst_12

/-- What it leaves that is read later. -/
structure Third (W : Valuation τ sig (Elt F)) : Prop where
  v5 : W (Proc.devRef .tc main_v5) = A_main_v5 a r
  v39 : W (Proc.devRef .tc main_v39) = A_main_v39 a r
  v75 : W (Proc.devRef .tc main_v75) = A_main_v75 a r
  v80 : W (Proc.devRef .tc main_v80) = A_main_v80 a r
  v110 : W (Proc.devRef .tc main_v110) = A_main_v110 a r
  v144 : W (Proc.devRef .tc main_v144) = A_main_v144 a r

/-- A valuation the loop's condition sees holds a state, the loop's constants with it, and the trip's number. -/
structure At (W : Valuation τ sig (Elt F)) (s : State F) (n : ℕ) : Prop where
  sums : W (Proc.devRef .tc main_v184_5) = s.main_v184_5
  written : W (Proc.devRef .tc main_v184_6) = s.main_v184_6
  queries : W (Proc.devRef .tc main_v184_0) = s.main_v184_0
  adds : W (Proc.devRef .tc main_v184_1) = s.main_v184_1
  own : W (Proc.devRef .tc main_v184_2) = s.main_v184_2
  decay : W (Proc.devRef .tc main_v184_3) = s.main_v184_3
  count : W (Proc.devRef .tc main_v184_4) = constantI S_ 32 (BitVec.ofNat 32 n)

variable {a r}

set_option maxHeartbeats 4000000 in
theorem first_of (W : Valuation τ sig (Elt F)) (h0 : W (Proc.devRef .tc main_arg0) = a) (h1 : W (Proc.devRef .tc main_arg1) = r) :
    First a r (afterL [hostOps0, hostOps0_1, hostOps0_2, hostOps0_3] W) := by
  constructor <;> (simp only [afterL_cons, afterL_nil]; after_results; (try rw [h0]); (try rw [h1])) <;> rfl

set_option maxHeartbeats 4000000 in
theorem middle_of (W : Valuation τ sig (Elt F)) (h : First a r W) : Middle a r (afterL [hostOps0_4] W) := by
  obtain ⟨h0, h5, h39, h44, h45⟩ := h
  constructor <;> (simp only [afterL_cons, afterL_nil]; after_results; (try rw [h0]); (try rw [h5]); (try rw [h39]); (try rw [h44]); (try rw [h45])) <;> rfl

set_option maxHeartbeats 4000000 in
theorem second_of (W : Valuation τ sig (Elt F)) (h : Middle a r W) : Second a r (afterL [hostOps0_5, hostOps0_6] W) := by
  obtain ⟨h5, h39, h75, h80, h83, h84, h85, h94, h102, hc⟩ := h
  refine ⟨?_, ?_, ?_, ?_, ?_⟩
  · simp only [afterL_cons, afterL_nil]; after_results; exact h5
  · simp only [afterL_cons, afterL_nil]; after_results; exact h39
  · simp only [afterL_cons, afterL_nil]; after_results; exact h75
  · simp only [afterL_cons, afterL_nil]; after_results; exact h80
  · simp only [afterL_cons, afterL_nil]; after_results
    rw [h83, h84, h85, h94, h102, hc]
    rfl

/-- A reversal, of any array. -/
theorem flip_first (W : Valuation τ sig (Elt F)) (x : (⟨S2x8x8192x256, .f32⟩ : BufTy).Contents (Elt F)) (h : W (Proc.devRef .tc main_v39) = x) :
    afterL [hostOps0_7, hostOps0_8, hostOps0_9] W (Proc.devRef .tc main_v111) = Host.reverse [2] x := by
  simp only [afterL_cons, afterL_nil]
  after_results
  rw [h]
  rfl

theorem flip_second (W : Valuation τ sig (Elt F)) (x : (⟨S2x8x8192x256, .f32⟩ : BufTy).Contents (Elt F)) (h : W (Proc.devRef .tc main_v75) = x) :
    afterL [hostOps0_7, hostOps0_8, hostOps0_9] W (Proc.devRef .tc main_v112) = Host.reverse [2] x := by
  simp only [afterL_cons, afterL_nil]
  after_results
  rw [h]
  rfl

theorem flip_third (W : Valuation τ sig (Elt F)) (x : (⟨S2x8x8192x256, .f32⟩ : BufTy).Contents (Elt F)) (h : W (Proc.devRef .tc main_v80) = x) :
    afterL [hostOps0_7, hostOps0_8, hostOps0_9] W (Proc.devRef .tc main_v113) = Host.reverse [2] x := by
  simp only [afterL_cons, afterL_nil]
  after_results
  rw [h]
  rfl

theorem flipped_of (W : Valuation τ sig (Elt F)) (h : Second a r W) : Flipped a r (afterL [hostOps0_7, hostOps0_8, hostOps0_9] W) := by
  obtain ⟨h5, h39, h75, h80, h110⟩ := h
  refine ⟨?_, ?_, ?_, ?_, ?_, flip_first W _ h39, flip_second W _ h75, flip_third W _ h80⟩
  · simp only [afterL_cons, afterL_nil]; after_results; exact h5
  · simp only [afterL_cons, afterL_nil]; after_results; exact h39
  · simp only [afterL_cons, afterL_nil]; after_results; exact h75
  · simp only [afterL_cons, afterL_nil]; after_results; exact h80
  · simp only [afterL_cons, afterL_nil]; after_results; exact h110

set_option maxHeartbeats 4000000 in
theorem turned_of (W : Valuation τ sig (Elt F)) (h : Flipped a r W) : Turned a r (afterL [hostOps0_10] W) := by
  obtain ⟨h5, h39, h75, h80, h110, h111, h112, h113⟩ := h
  refine ⟨?_, ?_, ?_, ?_, ?_, ?_, ?_, ?_, ?_, ?_, ?_⟩
  · simp only [afterL_cons, afterL_nil]; after_results; exact h5
  · simp only [afterL_cons, afterL_nil]; after_results; exact h39
  · simp only [afterL_cons, afterL_nil]; after_results; exact h75
  · simp only [afterL_cons, afterL_nil]; after_results; exact h80
  · simp only [afterL_cons, afterL_nil]; after_results; exact h110
  · simp only [afterL_cons, afterL_nil]; after_results; rw [h113]; rfl
  · simp only [afterL_cons, afterL_nil]; after_results; rw [h111]; rfl
  · simp only [afterL_cons, afterL_nil]; after_results; rw [h112]; rfl
  · simp only [afterL_cons, afterL_nil]; after_results; rfl
  · simp only [afterL_cons, afterL_nil]; after_results; rw [h5]; rfl
  · simp only [afterL_cons, afterL_nil]; after_results; rfl

set_option maxHeartbeats 4000000 in
theorem third_of (W : Valuation τ sig (Elt F)) (h : Turned a r W) : Third a r (afterL [hostOps0_11, hostOps0_12, hostOps0_13] W) := by
  obtain ⟨h5, h39, h75, h80, h110, h116, h117, h118, h127, h135, hc⟩ := h
  refine ⟨?_, ?_, ?_, ?_, ?_, ?_⟩
  · simp only [afterL_cons, afterL_nil]; after_results; exact h5
  · simp only [afterL_cons, afterL_nil]; after_results; exact h39
  · simp only [afterL_cons, afterL_nil]; after_results; exact h75
  · simp only [afterL_cons, afterL_nil]; after_results; exact h80
  · simp only [afterL_cons, afterL_nil]; after_results; exact h110
  · simp only [afterL_cons, afterL_nil]; after_results
    rw [h116, h117, h118, h127, h135, hc]
    rfl

set_option maxHeartbeats 4000000 in
theorem at_of (W : Valuation τ sig (Elt F)) (h : Third a r W) : At (afterL [hostOps0_14] W) (init a r) 0 := by
  obtain ⟨h5, h39, h75, h80, h110, h144⟩ := h
  constructor <;> (simp only [afterL_cons, afterL_nil]; after_results; (try rw [h5]); (try rw [h39]); (try rw [h75]); (try rw [h80]); (try rw [h110]); (try rw [h144])) <;> rfl

end Parts

/-- What the loop starts from. -/
theorem entry (m : (ℓ : Loc nD τ sig) → Buf (Elt F) ℓ) (c : Dev nD) :
    At (entryContents preI m c) (init (m ((c.tc : Thread nD τ).loc main_arg0)) (m ((c.tc : Thread nD τ).loc main_arg1))) 0 :=
  at_of _ (third_of _ (turned_of _ (flipped_of _ (second_of _ (middle_of _ (first_of (launchContents m c) rfl rfl))))))

/-! ## A trip -/

theorem sums_after {V : Valuation τ sig (Elt F)} {s : State F} {n : ℕ} (h : At V s n) : Value.step_main_v184_5 V = (step n s).main_v184_5 := by
  unfold Value.step_main_v184_5
  rw [h.decay, h.sums, h.adds, h.count]
  rfl

theorem written_after {V : Valuation τ sig (Elt F)} {s : State F} {n : ℕ} (h : At V s n) : Value.step_main_v184_6 V = (step n s).main_v184_6 := by
  unfold Value.step_main_v184_6
  rw [h.written, h.own, h.queries, h.sums, h.count]
  rfl

theorem count_after {V : Valuation τ sig (Elt F)} {s : State F} {n : ℕ} (h : At V s n) :
    Value.step_main_v184_4 V = constantI S_ 32 (BitVec.ofNat 32 (n + 1)) := by
  unfold Value.step_main_v184_4
  rw [h.count]
  funext i
  show BitVec.ofNat 32 n + 1#32 = _
  exact (BitVec.ofNat_add n 1).symm

/-- One trip goes to the next state. -/
theorem after_trip {V : Valuation τ sig (Elt F)} {s : State F} {n : ℕ} (h : At V s n) : At (STEP V) (step n s) (n + 1) :=
  ⟨(STEP_main_v184_5 V).trans (sums_after h), (STEP_main_v184_6 V).trans (written_after h), (STEP_main_v184_0 V).trans h.queries,
    (STEP_main_v184_1 V).trans h.adds, (STEP_main_v184_2 V).trans h.own, (STEP_main_v184_3 V).trans h.decay,
    (STEP_main_v184_4 V).trans (count_after h)⟩

/-- So any number of them. -/
theorem after_trips (it : ℕ → State F) (hs : ∀ n, it (n + 1) = step n (it n)) (V : Valuation τ sig (Elt F)) (h : At V (it 0) 0) (n : ℕ) :
    At (STEP^[n] V) (it n) n := by
  induction n with
  | zero => exact h
  | succ n ih =>
    rw [Function.iterate_succ_apply', hs n]
    exact after_trip ih

theorem result_of {V : Valuation τ sig (Elt F)} {s : State F} {n : ℕ} (h : At V s n) : out_main_v189 V = R_main_v189 s := by
  unfold out_main_v189
  rw [h.written]
  rfl

/-- Every run ends with the result of the last state, and keeps the arguments. -/
theorem run_states (m : (ℓ : Loc nD τ sig) → Buf (Elt F) ℓ) (ρ : Dev nD → PrngReg) (it : Dev nD → ℕ → State F)
    (h0 : ∀ c, it c 0 = init (m ((c.tc : Thread nD τ).loc main_arg0)) (m ((c.tc : Thread nD τ).loc main_arg1)))
    (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v189) = R_main_v189 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨(h c).1.trans (result_of (after_trips (it c) (hs c) _ ((h0 c).symm ▸ entry m c) 64)), (h c).2⟩) (run m ρ)

end Cert.RetFwdRefIdeal.Entry
end
-- ==== Proof.RetFwdBody.lean ====
/- The forward retention's kernel body, at every grid point.

   A grid point has one head's 1024 rows of a batch, as two slabs of 128 lanes of queries, of keys and of values. The body
   goes through their eight chunks of 128 rows. For each chunk it turns the queries and the keys, stores the chunk's output
   as two tiles, and replaces the state it keeps in a scratch buffer. Here the body's sixteen stored tiles and its last
   state are one function of a chunk, applied to the chunks in turn. -/
module

public import proofs.«01_k».proof.Proof.Gen.RetFwdIdeal.Frame
public import proofs.«01_k».proof.Proof.Gen.RetFwdIdeal.Value
public import Idealize.ShloMosaic.Lib.ValueIdx
public import Idealize.ShloMosaic.Lib.Pipeline.ValueKit.Tiles

@[expose] public section

noncomputable section

namespace Cert.RetFwdIdeal.Retention

open Cert.RetFwdIdeal Cert.RetFwdIdeal.Gen Idealize.ShloMosaic Idealize.ShloMosaic.TcCoe Idealize.SL.Sem

variable {F : FTy → Type} [FloatOps F]

theorem zero2 : (![0, 0] : Fin 2 → ℕ) = fun _ => 0 := by decide

/-- A load of the whole scratch reads what the last store of it left, whatever was stored before. -/
theorem readCov_last {sig : RefSig} {κ : Kind} {sp : Space} (v : View sig κ sp S256x256 .f32) (w : Vec F S256x256 .f32)
    (L : List (View.Piece (Elt F) S256x256 .f32)) (inb : ∀ a, (![0, 0] : Fin S256x256.rank → ℕ) a + S256x256.size a ≤ S256x256.size a) :
    v.readCov ((⟨Rect.unit ![0, 0] S256x256.size inb, w⟩ : View.Piece (Elt F) S256x256 .f32) :: L)
      (Rect.unit ![0, 0] S256x256.size inb).toLoadRect = w := by
  rw [View.readCov_eq_canon_ld _ _ _ (fun y => ⟨_, List.mem_cons_self, View.mem_set_unit_zero zero2 inb y⟩),
    View.canon_cons_unit_zero zero2, View.ld_unit_zero zero2]

/-- The same, with the sizes written out. -/
theorem readCov_last' {sig : RefSig} {κ : Kind} {sp : Space} (v : View sig κ sp S256x256 .f32) (w : Vec F S256x256 .f32)
    (L : List (View.Piece (Elt F) S256x256 .f32)) (inb : ∀ a, (![0, 0] : Fin S256x256.rank → ℕ) a + (![256, 256] : Fin S256x256.rank → ℕ) a ≤ S256x256.size a) :
    v.readCov ((⟨Rect.unit ![0, 0] ![256, 256] inb, w⟩ : View.Piece (Elt F) S256x256 .f32) :: L)
      (Rect.unit ![0, 0] ![256, 256] inb).toLoadRect = w := readCov_last v w L inb

/-! ## One chunk -/

/-- Chunk `k`'s rows of a table. -/
def rows (x : Vec F S1024x128 .f32) (k : Fin 8) : Vec F S128x128 .f32 :=
  View.ld x (Rect.unit ![128 * k.val, 0] ![128, 128] (fun a => by
    have := k.isLt
    match a with
    | ⟨0, _⟩ => show 128 * k.val + 128 ≤ 1024; omega
    | ⟨1, _⟩ => show 0 + 128 ≤ 128; omega))

/-- Chunk `k`'s rows of slab `p` of a block. -/
def slab (x : Vec F S2x1024x128 .bf16) (p : Fin 2) (k : Fin 8) : Vec F S1x128x128 .bf16 :=
  View.ld x (Rect.unit ![p.val, 128 * k.val, 0] ![1, 128, 128] (fun a => by
    have := k.isLt
    have := p.isLt
    match a with
    | ⟨0, _⟩ => show p.val + 1 ≤ 2; omega
    | ⟨1, _⟩ => show 128 * k.val + 128 ≤ 1024; omega
    | ⟨2, _⟩ => show 0 + 128 ≤ 128; omega))

section Chunk
variable (l0 l1 : Elt F .f32) (x1 x2 x3 : Vec F S2x1024x128 .bf16) (x4 x5 : Vec F S1024x128 .f32)

/-- The chunk's turned queries. -/
def queries (k : Fin 8) : FVec F S128x256 .f32 := k0_pay10 (rows x4 k) (rows x5 k) (slab x1 0 k) (slab x1 1 k)
/-- The chunk's turned and scaled keys. -/
def keys (k : Fin 8) : FVec F S128x256 .f32 := k0_pay11 (rows x4 k) (rows x5 k) (slab x2 0 k) (slab x2 1 k)
/-- The chunk's values. -/
def vals (k : Fin 8) : FVec F S128x256 .bf16 := k0_pay12 (slab x3 0 k) (slab x3 1 k)

/-- The state after the chunk. -/
def next (k : Fin 8) (S : Vec F S256x256 .f32) : Vec F S256x256 .f32 :=
  k0_pay82 (k0_pay13 (k0_pay5 l0) (keys x2 x4 x5 k) (vals x3 k)) S (k0_pay81 (k0_pay7 l0))

/-- The chunk's output, given the state before it. -/
def output (k : Fin 8) (S : Vec F S256x256 .f32) : FVec F S128x256 .f32 :=
  k0_pay80 (k0_pay14 (k0_pay6 l0 l1) (queries x1 x4 x5 k) (keys x2 x4 x5 k) (vals x3 k)) (k0_pay15 (k0_pay4 l0) (queries x1 x4 x5 k)) S

/-- The state before chunk `n` of a block, when `S` is the state before the block. -/
def chain (S : Vec F S256x256 .f32) : ℕ → Vec F S256x256 .f32
  | 0 => S
  | n + 1 => next l0 x2 x3 x4 x5 (Fin.ofNat 8 n) (chain S n)

/-- The block of outputs: row `r` of the block is row `r % 128` of chunk `r / 128`, and slab `p` holds its features `128 p` to
    `128 p + 127`. -/
def blockOut (S : Vec F S256x256 .f32) : Vec F S2x1024x128 .f32 := fun y =>
  output l0 l1 x1 x2 x3 x4 x5 (⟨(y 1).val / 128, by have h : (y 1).val < 1024 := (y 1).isLt; omega⟩ : Fin 8)
    (chain l0 x2 x3 x4 x5 S ((y 1).val / 128))
    (ValueIdx.ix2 (⟨(y 1).val % 128, Nat.mod_lt _ (by decide)⟩ : Fin 128)
      (⟨128 * (y 0).val + (y 2).val, by
        have h0 : (y 0).val < 2 := (y 0).isLt
        have h2 : (y 2).val < 128 := (y 2).isLt
        omega⟩ : Fin 256))

/-- One stored tile of it. -/
theorem tile_at (S : Vec F S256x256 .f32) (y : S2x1024x128.Idx) (p k off : ℕ) (hk : k < 8)
    (hs : S128x256.Slices ![0, off] S128x128) (hoff : off = 128 * p)
    (x : S1x128x128.Idx) (hx : ∀ a, (y a : ℕ) = (![p, 128 * k, 0] : Fin 3 → ℕ) a + x a) :
    shapeCast S1x128x128 (extractStridedSlice S128x128 ![0, off]
      (output l0 l1 x1 x2 x3 x4 x5 ⟨k, hk⟩ (chain l0 x2 x3 x4 x5 S k)) hs) shapeCasts_S128x128_S1x128x128 x
      = blockOut l0 l1 x1 x2 x3 x4 x5 S y := by
  have b0 : (x 0).val < 1 := (x 0).isLt
  have b1 : (x 1).val < 128 := (x 1).isLt
  have b2 : (x 2).val < 128 := (x 2).isLt
  have e0 : (y 0).val = p + (x 0).val := hx 0
  have e1 : (y 1).val = 128 * k + (x 1).val := hx 1
  have e2 : (y 2).val = 0 + (x 2).val := hx 2
  have hd : (y 1).val / 128 = k := by omega
  rw [shapeCast_apply _ shapeCasts_S128x128_S1x128x128 x (ValueIdx.ix2 (⟨(x 1).val, b1⟩ : Fin 128) (⟨(x 2).val, b2⟩ : Fin 128)) (by
    rewrite [Shape.rowMajor_val_three, Shape.rowMajor_val_two]
    show (x 1).val * 128 + (x 2).val = ((x 0).val * 128 + (x 1).val) * 128 + (x 2).val
    omega)]
  unfold blockOut
  have hk' : (⟨(y 1).val / 128, by omega⟩ : Fin 8) = ⟨k, hk⟩ := Fin.ext hd
  rw [hk', hd]
  exact extractStridedSlice_apply _ _ hs _ _ (fun a => by
    match a with
    | ⟨0, _⟩ => show (y 1).val % 128 = 0 + (x 1).val; omega
    | ⟨1, _⟩ => show 128 * (y 0).val + (y 2).val = off + (x 2).val; omega)

end Chunk

/-- A head's number as a machine word is itself. -/
theorem head_word : ∀ k : Fin 8, (Scalar.indexCast (BitVec.ofNat 32 k.val)).toNat = k.val := by decide

/-- The scalar load of the decay logarithm of direction `d` at a point's head. -/
def logAt (i : grid0.Coords) (x0 : Vec F S2x8 .f32) (d : Fin 2) : Elt F .f32 :=
  View.ld x0 (Rect.unit ![d.val, (Scalar.indexCast (BitVec.ofNat 32 (i 1).val)).toNat] ![1, 1] (fun a => by
    have := d.isLt
    match a with
    | ⟨0, _⟩ => show d.val + 1 ≤ 2; omega
    | ⟨1, _⟩ =>
      have h8 : (i 1).val < 8 := (i 1).isLt
      have hw : (Scalar.indexCast (BitVec.ofNat 32 (i 1).val)).toNat = (i 1).val := head_word ⟨(i 1).val, h8⟩
      show (Scalar.indexCast (BitVec.ofNat 32 (i 1).val)).toNat + 1 ≤ 8
      omega)) (Shape.Idx.first (by
      show 0 < Shape.numel ⟨2, ![1, 1]⟩
      decide))

/-- It is the table's entry. -/
theorem logAt_eq (i : grid0.Coords) (x0 : Vec F S2x8 .f32) (d : Fin 2) :
    logAt i x0 d = x0 (ValueIdx.ix2 d (⟨(i 1).val, (i 1).isLt⟩ : Fin 8)) := by
  refine congrArg x0 (funext fun a => Fin.ext ?_)
  match a with
  | ⟨0, _⟩ => rfl
  | ⟨1, _⟩ => exact head_word ⟨(i 1).val, (i 1).isLt⟩

variable (c : Dev nD) (i : grid0.Coords) (a3 : Memref sig .tc .smem S2x8 .f32) (h3 : a3.IsWhole) (a4 : Memref sig .tc .vmem S2x1024x128 .bf16) (h4 : a4.IsWhole) (a5 : Memref sig .tc .vmem S2x1024x128 .bf16) (h5 : a5.IsWhole) (a6 : Memref sig .tc .vmem S2x1024x128 .bf16) (h6 : a6.IsWhole) (a7 : Memref sig .tc .vmem S1024x128 .f32) (h7 : a7.IsWhole) (a8 : Memref sig .tc .vmem S1024x128 .f32) (h8 : a8.IsWhole) (a9 : Memref sig .tc .vmem S2x1024x128 .f32) (h9 : a9.IsWhole) (a10 : Memref sig .tc .vmem S256x256 .f32) (h10 : a10.IsWhole)
    (x0 : Vec F S2x8 .f32) (x1 : Vec F S2x1024x128 .bf16) (x2 : Vec F S2x1024x128 .bf16) (x3 : Vec F S2x1024x128 .bf16) (x4 : Vec F S1024x128 .f32) (x5 : Vec F S1024x128 .f32)

/-- After a later point of a head's row the scratch holds the state after the block's eight chunks. -/
theorem scratch_B (hc : ¬cond0_0 i) (xs : Vec F S256x256 .f32) :
    sout0_B_0 c i a3 h3 a4 h4 a5 h5 a6 h6 a7 h7 a8 h8 a9 h9 a10 h10 hc x0 x1 x2 x3 x4 x5 xs = chain (logAt i x0 0) x2 x3 x4 x5 xs 8 := by
  unfold sout0_B_0
  rw [View.read_writes_eq_canon _ _ _ (scover0_B_0 c i a3 h3 a4 h4 a5 h5 a6 h6 a7 h7 a8 h8 a9 h9 a10 h10 hc x0 x1 x2 x3 x4 x5 xs)]
  unfold kernelRun0_B
  dsimp only
  sl_unfold_words
  rw [View.canon_cons_unit_zero (S := S256x256) zero2]
  simp only [View.readAt_eq_ld, h3.read_unread, h4.read_unread, h5.read_unread, h6.read_unread, h7.read_unread, h8.read_unread, h10.read_unread, View.ld_unit_zero (S := S256x256) zero2, readCov_last']
  rfl

/-- After the first point of a head's row, the same from the zero state. -/
theorem scratch_A (hc : cond0_0 i) :
    sout0_A_0 c i a3 h3 a4 h4 a5 h5 a6 h6 a7 h7 a8 h8 a9 h9 a10 h10 hc x0 x1 x2 x3 x4 x5 = chain (logAt i x0 0) x2 x3 x4 x5 k0_pay2 8 := by
  unfold sout0_A_0
  rw [View.read_writes_eq_canon _ _ _ (scover0_A_0 c i a3 h3 a4 h4 a5 h5 a6 h6 a7 h7 a8 h8 a9 h9 a10 h10 hc x0 x1 x2 x3 x4 x5)]
  unfold kernelRun0_A
  dsimp only
  sl_unfold_words
  rw [View.canon_cons_unit_zero (S := S256x256) zero2]
  simp only [View.readAt_eq_ld, h3.read_unread, h4.read_unread, h5.read_unread, h6.read_unread, h7.read_unread, h8.read_unread, View.ld_unit_zero (S := S256x256) zero2, readCov_last']
  rfl

set_option maxHeartbeats 4000000 in
/-- At a later point the output block continues from the state the scratch held. -/
theorem out_B (hc : ¬cond0_0 i) (xs : Vec F S256x256 .f32) :
    out0_B_6 c i a3 h3 a4 h4 a5 h5 a6 h6 a7 h7 a8 h8 a9 h9 a10 h10 hc x0 x1 x2 x3 x4 x5 xs = blockOut (logAt i x0 0) (logAt i x0 1) x1 x2 x3 x4 x5 xs := by
  unfold out0_B_6
  rw [View.read_writes_eq_canon _ _ _ (cover0_B_6 c i a3 h3 a4 h4 a5 h5 a6 h6 a7 h7 a8 h8 a9 h9 a10 h10 hc x0 x1 x2 x3 x4 x5 xs)]
  funext y
  have hcov := cover0_B_6 c i a3 h3 a4 h4 a5 h5 a6 h6 a7 h7 a8 h8 a9 h9 a10 h10 hc x0 x1 x2 x3 x4 x5 xs y
  revert hcov
  unfold kernelRun0_B
  dsimp only
  sl_unfold_words
  simp only [View.readAt_eq_ld, h3.read_unread, h4.read_unread, h5.read_unread, h6.read_unread, h7.read_unread, h8.read_unread, h10.read_unread, View.ld_unit_zero (S := S256x256) zero2, readCov_last']
  intro hcov
  refine View.canon_eq_of_allAt _ y _ hcov ?_
  refine View.allAt_cons_unit _ _ _ _ _ (fun z hz => tile_at _ _ _ _ _ _ _ _ y 1 7 128 (by decide) slices_S128x256_o0_128_S128x128 rfl z hz) ?_
  refine View.allAt_cons_unit _ _ _ _ _ (fun z hz => tile_at _ _ _ _ _ _ _ _ y 0 7 0 (by decide) slices_S128x256_o0_0_S128x128 rfl z hz) ?_
  refine View.allAt_cons_unit _ _ _ _ _ (fun z hz => tile_at _ _ _ _ _ _ _ _ y 1 6 128 (by decide) slices_S128x256_o0_128_S128x128 rfl z hz) ?_
  refine View.allAt_cons_unit _ _ _ _ _ (fun z hz => tile_at _ _ _ _ _ _ _ _ y 0 6 0 (by decide) slices_S128x256_o0_0_S128x128 rfl z hz) ?_
  refine View.allAt_cons_unit _ _ _ _ _ (fun z hz => tile_at _ _ _ _ _ _ _ _ y 1 5 128 (by decide) slices_S128x256_o0_128_S128x128 rfl z hz) ?_
  refine View.allAt_cons_unit _ _ _ _ _ (fun z hz => tile_at _ _ _ _ _ _ _ _ y 0 5 0 (by decide) slices_S128x256_o0_0_S128x128 rfl z hz) ?_
  refine View.allAt_cons_unit _ _ _ _ _ (fun z hz => tile_at _ _ _ _ _ _ _ _ y 1 4 128 (by decide) slices_S128x256_o0_128_S128x128 rfl z hz) ?_
  refine View.allAt_cons_unit _ _ _ _ _ (fun z hz => tile_at _ _ _ _ _ _ _ _ y 0 4 0 (by decide) slices_S128x256_o0_0_S128x128 rfl z hz) ?_
  refine View.allAt_cons_unit _ _ _ _ _ (fun z hz => tile_at _ _ _ _ _ _ _ _ y 1 3 128 (by decide) slices_S128x256_o0_128_S128x128 rfl z hz) ?_
  refine View.allAt_cons_unit _ _ _ _ _ (fun z hz => tile_at _ _ _ _ _ _ _ _ y 0 3 0 (by decide) slices_S128x256_o0_0_S128x128 rfl z hz) ?_
  refine View.allAt_cons_unit _ _ _ _ _ (fun z hz => tile_at _ _ _ _ _ _ _ _ y 1 2 128 (by decide) slices_S128x256_o0_128_S128x128 rfl z hz) ?_
  refine View.allAt_cons_unit _ _ _ _ _ (fun z hz => tile_at _ _ _ _ _ _ _ _ y 0 2 0 (by decide) slices_S128x256_o0_0_S128x128 rfl z hz) ?_
  refine View.allAt_cons_unit _ _ _ _ _ (fun z hz => tile_at _ _ _ _ _ _ _ _ y 1 1 128 (by decide) slices_S128x256_o0_128_S128x128 rfl z hz) ?_
  refine View.allAt_cons_unit _ _ _ _ _ (fun z hz => tile_at _ _ _ _ _ _ _ _ y 0 1 0 (by decide) slices_S128x256_o0_0_S128x128 rfl z hz) ?_
  refine View.allAt_cons_unit _ _ _ _ _ (fun z hz => tile_at _ _ _ _ _ _ _ _ y 1 0 128 (by decide) slices_S128x256_o0_128_S128x128 rfl z hz) ?_
  exact View.allAt_cons_unit _ _ _ _ _ (fun z hz => tile_at _ _ _ _ _ _ _ _ y 0 0 0 (by decide) slices_S128x256_o0_0_S128x128 rfl z hz) (View.allAt_nil _ _)

set_option maxHeartbeats 4000000 in
/-- At the first point of a head's row the output block starts from the zero state. -/
theorem out_A (hc : cond0_0 i) :
    out0_A_6 c i a3 h3 a4 h4 a5 h5 a6 h6 a7 h7 a8 h8 a9 h9 a10 h10 hc x0 x1 x2 x3 x4 x5 = blockOut (logAt i x0 0) (logAt i x0 1) x1 x2 x3 x4 x5 k0_pay2 := by
  unfold out0_A_6
  rw [View.read_writes_eq_canon _ _ _ (cover0_A_6 c i a3 h3 a4 h4 a5 h5 a6 h6 a7 h7 a8 h8 a9 h9 a10 h10 hc x0 x1 x2 x3 x4 x5)]
  funext y
  have hcov := cover0_A_6 c i a3 h3 a4 h4 a5 h5 a6 h6 a7 h7 a8 h8 a9 h9 a10 h10 hc x0 x1 x2 x3 x4 x5 y
  revert hcov
  unfold kernelRun0_A
  dsimp only
  sl_unfold_words
  simp only [View.readAt_eq_ld, h3.read_unread, h4.read_unread, h5.read_unread, h6.read_unread, h7.read_unread, h8.read_unread, View.ld_unit_zero (S := S256x256) zero2, readCov_last']
  intro hcov
  refine View.canon_eq_of_allAt _ y _ hcov ?_
  refine View.allAt_cons_unit _ _ _ _ _ (fun z hz => tile_at _ _ _ _ _ _ _ _ y 1 7 128 (by decide) slices_S128x256_o0_128_S128x128 rfl z hz) ?_
  refine View.allAt_cons_unit _ _ _ _ _ (fun z hz => tile_at _ _ _ _ _ _ _ _ y 0 7 0 (by decide) slices_S128x256_o0_0_S128x128 rfl z hz) ?_
  refine View.allAt_cons_unit _ _ _ _ _ (fun z hz => tile_at _ _ _ _ _ _ _ _ y 1 6 128 (by decide) slices_S128x256_o0_128_S128x128 rfl z hz) ?_
  refine View.allAt_cons_unit _ _ _ _ _ (fun z hz => tile_at _ _ _ _ _ _ _ _ y 0 6 0 (by decide) slices_S128x256_o0_0_S128x128 rfl z hz) ?_
  refine View.allAt_cons_unit _ _ _ _ _ (fun z hz => tile_at _ _ _ _ _ _ _ _ y 1 5 128 (by decide) slices_S128x256_o0_128_S128x128 rfl z hz) ?_
  refine View.allAt_cons_unit _ _ _ _ _ (fun z hz => tile_at _ _ _ _ _ _ _ _ y 0 5 0 (by decide) slices_S128x256_o0_0_S128x128 rfl z hz) ?_
  refine View.allAt_cons_unit _ _ _ _ _ (fun z hz => tile_at _ _ _ _ _ _ _ _ y 1 4 128 (by decide) slices_S128x256_o0_128_S128x128 rfl z hz) ?_
  refine View.allAt_cons_unit _ _ _ _ _ (fun z hz => tile_at _ _ _ _ _ _ _ _ y 0 4 0 (by decide) slices_S128x256_o0_0_S128x128 rfl z hz) ?_
  refine View.allAt_cons_unit _ _ _ _ _ (fun z hz => tile_at _ _ _ _ _ _ _ _ y 1 3 128 (by decide) slices_S128x256_o0_128_S128x128 rfl z hz) ?_
  refine View.allAt_cons_unit _ _ _ _ _ (fun z hz => tile_at _ _ _ _ _ _ _ _ y 0 3 0 (by decide) slices_S128x256_o0_0_S128x128 rfl z hz) ?_
  refine View.allAt_cons_unit _ _ _ _ _ (fun z hz => tile_at _ _ _ _ _ _ _ _ y 1 2 128 (by decide) slices_S128x256_o0_128_S128x128 rfl z hz) ?_
  refine View.allAt_cons_unit _ _ _ _ _ (fun z hz => tile_at _ _ _ _ _ _ _ _ y 0 2 0 (by decide) slices_S128x256_o0_0_S128x128 rfl z hz) ?_
  refine View.allAt_cons_unit _ _ _ _ _ (fun z hz => tile_at _ _ _ _ _ _ _ _ y 1 1 128 (by decide) slices_S128x256_o0_128_S128x128 rfl z hz) ?_
  refine View.allAt_cons_unit _ _ _ _ _ (fun z hz => tile_at _ _ _ _ _ _ _ _ y 0 1 0 (by decide) slices_S128x256_o0_0_S128x128 rfl z hz) ?_
  refine View.allAt_cons_unit _ _ _ _ _ (fun z hz => tile_at _ _ _ _ _ _ _ _ y 1 0 128 (by decide) slices_S128x256_o0_128_S128x128 rfl z hz) ?_
  exact View.allAt_cons_unit _ _ _ _ _ (fun z hz => tile_at _ _ _ _ _ _ _ _ y 0 0 0 (by decide) slices_S128x256_o0_0_S128x128 rfl z hz) (View.allAt_nil _ _)

end Cert.RetFwdIdeal.Retention
end
-- ==== Proof.RetFwdMath.lean ====
/- The forward retention's arithmetic, on extended reals.

   A head's rows are cut into chunks of 128. A chunk's output is what its own keys add to its queries, each pair with its
   decay, and what the state of the chunks before it adds. The state is a 256 by 256 table, decayed by a chunk's length at
   every chunk and added the chunk's keys times its values. Own pairs decay with the first rate where the key is at or
   before the query and with the second where it is after it: the reference has the two halves as two sums, the second over
   the reversed rows, and `merge` joins them. -/
module

public import Idealize.ShloMosaic.Lib.ValueIdx
public import Idealize.ShloMosaic.PureOps.Ideal.Laws

@[expose] public section

noncomputable section

namespace Cert.Proof.RetFwdMath

open Idealize.ShloMosaic

/-- A row's place in its chunk. -/
def place (i : Fin 128) : EReal := ((i.val : ℝ) : EReal)
/-- How far row `i` is after row `j`. -/
def apart (i j : Fin 128) : EReal := (((i.val : ℝ) - (j.val : ℝ) : ℝ) : EReal)

/-- The decay from a chunk's start to row `i`'s end. -/
def decayQ (lg : EReal) (i : Fin 128) : EReal := Ideal.exp (lg * (place i + Ideal.ofBits .f32 0x3F800000#32))
/-- The decay from row `i` to its chunk's end. -/
def decayK (lg : EReal) (i : Fin 128) : EReal := Ideal.exp (lg * (Ideal.ofBits .f32 0x42FE0000#32 - place i))
/-- The decay of a whole chunk. -/
def decayC (lg : EReal) : EReal := Ideal.exp (lg * Ideal.ofBits .f32 0x43000000#32)
/-- The decay of a pair of a chunk's own rows. -/
def decay (l0 l1 : EReal) (i j : Fin 128) : EReal :=
  if j ≤ i then Ideal.exp (l0 * apart i j) else Ideal.exp (l1 * apart j i)
/-- Its half at or before the query. -/
def decayAt (lg : EReal) (i j : Fin 128) : EReal := if j ≤ i then Ideal.exp (lg * apart i j) else 0
/-- The half strictly before it. -/
def decayBefore (lg : EReal) (i j : Fin 128) : EReal := if j < i then Ideal.exp (lg * apart i j) else 0

/-- A query's product with a key. -/
def score (Q K : Fin 128 → Fin 256 → EReal) (i j : Fin 128) : EReal := ∑ d : Fin 256, Q i d * K j d
/-- What a chunk's own keys add. -/
def own (l0 l1 : EReal) (Q K V : Fin 128 → Fin 256 → EReal) (i : Fin 128) (e : Fin 256) : EReal :=
  ∑ j : Fin 128, score Q K i j * decay l0 l1 i j * V j e
/-- A chunk's output. -/
def chunkOut (l0 l1 : EReal) (Q K V : Fin 128 → Fin 256 → EReal) (S : Fin 256 → Fin 256 → EReal) (i : Fin 128) (e : Fin 256) : EReal :=
  own l0 l1 Q K V i e + ∑ d : Fin 256, Q i d * decayQ l0 i * S d e
/-- What a chunk adds to the state. -/
def chunkAdd (l0 : EReal) (K V : Fin 128 → Fin 256 → EReal) (d e : Fin 256) : EReal :=
  ∑ c : Fin 128, K c d * decayK l0 c * V c e
/-- The state after a chunk. -/
def chunkNext (l0 : EReal) (K V : Fin 128 → Fin 256 → EReal) (S : Fin 256 → Fin 256 → EReal) (d e : Fin 256) : EReal :=
  decayC l0 * S d e + chunkAdd l0 K V d e
/-- The state before chunk `n`. -/
def state (l0 : EReal) (K V : Fin 64 → Fin 128 → Fin 256 → EReal) : ℕ → Fin 256 → Fin 256 → EReal
  | 0 => fun _ _ => 0
  | n + 1 => chunkNext l0 (K (Fin.ofNat 64 n)) (V (Fin.ofNat 64 n)) (state l0 K V n)

theorem apart_rev (i j : Fin 128) : apart i.rev j.rev = apart j i := by
  unfold apart
  have hi := i.isLt
  have hj := j.isLt
  rw [Fin.val_rev, Fin.val_rev, Nat.cast_sub (by omega), Nat.cast_sub (by omega)]
  congr 1
  push_cast
  ring

/-- The own keys' sum, from its two halves: the one at or before the query, and over the reversed rows the one strictly
    after it. -/
theorem merge (l0 l1 : EReal) (Q K V : Fin 128 → Fin 256 → EReal) (i : Fin 128) (e : Fin 256) :
    (∑ j : Fin 128, score Q K i j * decayAt l0 i j * V j e)
      + (∑ j : Fin 128, score (fun x => Q x.rev) (fun x => K x.rev) i.rev j * decayBefore l1 i.rev j * V j.rev e)
      = own l0 l1 Q K V i e := by
  rw [← Equiv.sum_comp Fin.revPerm (fun j : Fin 128 => score (fun x => Q x.rev) (fun x => K x.rev) i.rev j * decayBefore l1 i.rev j * V j.rev e),
    ← Finset.sum_add_distrib]
  refine Finset.sum_congr rfl fun j _ => ?_
  rw [Fin.revPerm_apply]
  have hs : score (fun x => Q x.rev) (fun x => K x.rev) i.rev j.rev = score Q K i j := by
    unfold score
    simp only [Fin.rev_rev]
  rw [hs, Fin.rev_rev]
  unfold decayAt decayBefore decay
  rw [apart_rev]
  by_cases h : j ≤ i
  · rw [if_pos h, if_pos h, if_neg (fun hh => absurd (Fin.rev_lt_rev.mp hh) (not_lt.mpr h)), mul_zero, zero_mul, add_zero]
  · rw [if_neg h, if_neg h, if_pos (Fin.rev_lt_rev.mpr (not_le.mp h)), mul_zero, zero_mul, zero_add]

theorem apart_nonneg {i j : Fin 128} (h : j ≤ i) : 0 ≤ apart i j := by
  unfold apart
  have : (j.val : ℝ) ≤ (i.val : ℝ) := by exact_mod_cast h
  exact_mod_cast sub_nonneg.mpr this

theorem apart_neg {i j : Fin 128} (h : i < j) : apart i j < 0 := by
  unfold apart
  have : (i.val : ℝ) < (j.val : ℝ) := by exact_mod_cast h
  exact_mod_cast sub_neg.mpr this

theorem zero_sub_apart (i j : Fin 128) : 0 - apart i j = apart j i := by
  unfold apart
  rw [← EReal.coe_zero, ← EReal.coe_sub]
  congr 1
  ring

theorem place_sub (i j : Fin 128) : place i - place j = apart i j := by
  unfold place apart
  rw [← EReal.coe_sub]

/-- A row's number as a word, converted. -/
theorem word_place (i : Fin 128) : (((BitVec.ofNat 32 i.val).toInt : ℝ) : EReal) = place i := by
  have : (BitVec.ofNat 32 i.val).toInt = (i.val : ℤ) := (by decide +kernel : ∀ i : Fin 128, (BitVec.ofNat 32 i.val).toInt = (i.val : ℤ)) i
  rw [this]
  unfold place
  push_cast
  rfl

/-- The difference of two row numbers as words, converted. -/
theorem word_apart (i j : Fin 128) : (((BitVec.ofNat 32 i.val - BitVec.ofNat 32 j.val).toInt : ℝ) : EReal) = apart i j := by
  have : (BitVec.ofNat 32 i.val - BitVec.ofNat 32 j.val).toInt = (i.val : ℤ) - (j.val : ℤ) :=
    (by decide +kernel : ∀ i j : Fin 128, (BitVec.ofNat 32 i.val - BitVec.ofNat 32 j.val).toInt = (i.val : ℤ) - (j.val : ℤ)) i j
  rw [this]
  unfold apart
  push_cast
  rfl

/-- The decay as the kernel computes it: both exponentials, at distances clipped at zero, and a choice by the sign. -/
theorem decay_clipped (l0 l1 : EReal) (i j : Fin 128) :
    Scalar.select (Ideal.cmp .oge (apart i j) 0) (Ideal.exp (l0 * max (apart i j) 0)) (Ideal.exp (l1 * max (0 - apart i j) 0)) = decay l0 l1 i j := by
  unfold decay
  rw [zero_sub_apart]
  by_cases h : j ≤ i
  · rw [if_pos h, max_eq_left (apart_nonneg h)]
    have : Ideal.cmp .oge (apart i j) 0 = 1 := by simp [Ideal.cmp, apart_nonneg h]
    rw [this]; rfl
  · rw [if_neg h, max_eq_left (apart_nonneg (le_of_lt (not_le.mp h)))]
    have : Ideal.cmp .oge (apart i j) 0 = 0 := by
      show BitVec.ofBool (decide (0 ≤ apart i j)) = 0
      rw [decide_eq_false (not_le.mpr (apart_neg (not_le.mp h)))]; rfl
    rw [this]; rfl

/-- The reference's two halves of it. -/
theorem decayAt_clipped (lg : EReal) (i j : Fin 128) :
    Scalar.select (Ideal.cmp .oge (apart i j) 0) (Ideal.exp (lg * max (apart i j) 0)) 0 = decayAt lg i j := by
  unfold decayAt
  by_cases h : j ≤ i
  · rw [if_pos h, max_eq_left (apart_nonneg h)]
    have : Ideal.cmp .oge (apart i j) 0 = 1 := by simp [Ideal.cmp, apart_nonneg h]
    rw [this]; rfl
  · rw [if_neg h]
    have : Ideal.cmp .oge (apart i j) 0 = 0 := by
      show BitVec.ofBool (decide (0 ≤ apart i j)) = 0
      rw [decide_eq_false (not_le.mpr (apart_neg (not_le.mp h)))]; rfl
    rw [this]; rfl

theorem apart_pos {i j : Fin 128} (h : j < i) : 0 < apart i j := by
  unfold apart
  have : (j.val : ℝ) < (i.val : ℝ) := by exact_mod_cast h
  exact_mod_cast sub_pos.mpr this

theorem apart_nonpos {i j : Fin 128} (h : i ≤ j) : apart i j ≤ 0 := by
  unfold apart
  have : (i.val : ℝ) ≤ (j.val : ℝ) := by exact_mod_cast h
  exact_mod_cast sub_nonpos.mpr this

theorem decayBefore_clipped (lg : EReal) (i j : Fin 128) :
    Scalar.select (Ideal.cmp .ogt (apart i j) 0) (Ideal.exp (lg * max (apart i j) 0)) 0 = decayBefore lg i j := by
  unfold decayBefore
  by_cases h : j < i
  · rw [if_pos h, max_eq_left (le_of_lt (apart_pos h))]
    have : Ideal.cmp .ogt (apart i j) 0 = 1 := by simp [Ideal.cmp, apart_pos h]
    rw [this]; rfl
  · rw [if_neg h]
    have : Ideal.cmp .ogt (apart i j) 0 = 0 := by
      show BitVec.ofBool (decide (0 < apart i j)) = 0
      rw [decide_eq_false (not_lt.mpr (apart_nonpos (not_lt.mp h)))]; rfl
    rw [this]; rfl

/-! ## The operands -/

/-- A token's row turned by its position: its two halves, with the position's cosines and sines. -/
def turned (x y c s : Fin 128 → EReal) (d : Fin 256) : EReal :=
  if h : d.val < 128 then x ⟨d.val, h⟩ * c ⟨d.val, h⟩ - y ⟨d.val, h⟩ * s ⟨d.val, h⟩
  else x ⟨d.val - 128, by omega⟩ * s ⟨d.val - 128, by omega⟩ + y ⟨d.val - 128, by omega⟩ * c ⟨d.val - 128, by omega⟩

/-- Two halves side by side. -/
def joined (x y : Fin 128 → EReal) (d : Fin 256) : EReal :=
  if h : d.val < 128 then x ⟨d.val, h⟩ else y ⟨d.val - 128, by omega⟩

abbrev Slabs := (⟨3, ![112, 16384, 128]⟩ : Shape).Idx → EReal
abbrev Table := (⟨2, ![8192, 128]⟩ : Shape).Idx → EReal
abbrev Rates := (⟨2, ![2, 8]⟩ : Shape).Idx → EReal

/-- Slab `g + 2 h + p` of the projected tokens, at batch `b` and at row `i` of chunk `n`. -/
def part (a : Slabs) (g : ℕ) (hg : g ≤ 32) (b : Fin 2) (h : Fin 8) (n : Fin 64) (i : Fin 128) (p : Fin 2) (l : Fin 128) : EReal :=
  a (ValueIdx.ix3 (⟨g + 2 * h.val + p.val, by omega⟩ : Fin 112) (⟨8192 * b.val + 128 * n.val + i.val, by omega⟩ : Fin 16384) l)
def tableRow (C : Table) (n : Fin 64) (i : Fin 128) (l : Fin 128) : EReal :=
  C (ValueIdx.ix2 (⟨128 * n.val + i.val, by omega⟩ : Fin 8192) l)

def qs (a : Slabs) (C S : Table) (b : Fin 2) (h : Fin 8) (n : Fin 64) (i : Fin 128) : Fin 256 → EReal :=
  turned (part a 0 (by decide) b h n i 0) (part a 0 (by decide) b h n i 1) (tableRow C n i) (tableRow S n i)
def ks (a : Slabs) (C S : Table) (b : Fin 2) (h : Fin 8) (n : Fin 64) (i : Fin 128) (d : Fin 256) : EReal :=
  turned (part a 16 (by decide) b h n i 0) (part a 16 (by decide) b h n i 1) (tableRow C n i) (tableRow S n i) d
    * Ideal.ofBits .f32 0x3D800000#32
def vs (a : Slabs) (b : Fin 2) (h : Fin 8) (n : Fin 64) (i : Fin 128) : Fin 256 → EReal :=
  joined (part a 32 (by decide) b h n i 0) (part a 32 (by decide) b h n i 1)

/-- The whole result at batch `b`, head `h`, row `i` of chunk `n` and feature `e`. -/
def retention (a : Slabs) (L : Rates) (C S : Table) (b : Fin 2) (h : Fin 8) (n : Fin 64) (i : Fin 128) (e : Fin 256) : EReal :=
  chunkOut (L (ValueIdx.ix2 (0 : Fin 2) h)) (L (ValueIdx.ix2 (1 : Fin 2) h)) (qs a C S b h n) (ks a C S b h n) (vs a b h n)
    (state (L (ValueIdx.ix2 (0 : Fin 2) h)) (ks a C S b h) (vs a b h) n.val) i e

/-- The same, as an array of slabs. -/
def result (a : Slabs) (L : Rates) (C S : Table) : (⟨3, ![16, 16384, 128]⟩ : Shape).Idx → EReal := fun y =>
  have h0 : (y 0).val < 16 := (y 0).isLt
  have h1 : (y 1).val < 16384 := (y 1).isLt
  have h2 : (y 2).val < 128 := (y 2).isLt
  retention a L C S ⟨(y 1).val / 8192, by omega⟩ ⟨(y 0).val / 2, by omega⟩ ⟨(y 1).val % 8192 / 128, by omega⟩
    ⟨(y 1).val % 128, by omega⟩ ⟨128 * ((y 0).val % 2) + (y 2).val, by omega⟩

end Cert.Proof.RetFwdMath
end
-- ==== Proof.RetFwdChunk.lean ====
/- One chunk of the forward retention's kernel, at the ideal values: its turned queries, its turned and scaled keys, its
   values, its output and the state after it are those of the arithmetic in `RetFwdMath`. -/
module

public import proofs.«01_k».proof.Proof.RetFwdBody
public import proofs.«01_k».proof.Proof.RetFwdMath

@[expose] public section

set_option maxRecDepth 16384

noncomputable section

namespace Cert.RetFwdIdeal.Retention

open Cert.RetFwdIdeal Cert.RetFwdIdeal.Gen Idealize.ShloMosaic Idealize.ShloMosaic.TcCoe Idealize.SL.Sem
open Cert.Proof.RetFwdMath

theorem rows_apply (x : Vec Ideal S1024x128 .f32) (k : Fin 8) (i l : Fin 128) (y : S1024x128.Idx)
    (h0 : (y 0).val = 128 * k.val + i.val) (h1 : (y 1).val = l.val) : rows x k (ValueIdx.ix2 i l) = x y :=
  View.ld_unit_apply_of x _ _ _ _ y (fun a => by
    match a with
    | ⟨0, _⟩ => exact h0
    | ⟨1, _⟩ => show (y 1).val = 0 + l.val; omega)

theorem slab_apply (x : Vec Ideal S2x1024x128 .bf16) (p : Fin 2) (k : Fin 8) (i l : Fin 128) (y : S2x1024x128.Idx)
    (h0 : (y 0).val = p.val) (h1 : (y 1).val = 128 * k.val + i.val) (h2 : (y 2).val = l.val) :
    slab x p k (ValueIdx.ix3 (0 : Fin 1) i l) = x y :=
  View.ld_unit_apply_of x _ _ _ _ y (fun a => by
    match a with
    | ⟨0, _⟩ => show (y 0).val = p.val + 0; omega
    | ⟨1, _⟩ => exact h1
    | ⟨2, _⟩ => show (y 2).val = 0 + l.val; omega)

/-- A loaded slab with its unit axis dropped. -/
theorem flat_apply (v : Vec Ideal S1x128x128 .bf16) (i l : Fin 128) :
    shapeCast S128x128 v shapeCasts_S1x128x128_S128x128 (ValueIdx.ix2 i l) = v (ValueIdx.ix3 (0 : Fin 1) i l) :=
  shapeCast_apply v shapeCasts_S1x128x128_S128x128 _ _ (by
    rewrite [Shape.rowMajor_val_three, Shape.rowMajor_val_two]
    show (0 * 128 + i.val) * 128 + l.val = i.val * 128 + l.val
    omega)

/-- Two halves of 128 columns, side by side. -/
theorem halves_apply {φ : FTy} (u w : FVec Ideal S128x128 φ) (i : Fin 128) (d : Fin 256) :
    concatenate S128x256 1 [⟨S128x128, u⟩, ⟨S128x128, w⟩] concatenates_S128x128_S128x128_S128x256_d1 (ValueIdx.ix2 i d)
      = joined (fun l => u (ValueIdx.ix2 i l)) (fun l => w (ValueIdx.ix2 i l)) d := by
  unfold joined
  by_cases h : d.val < 128
  · rw [dif_pos h]
    exact concatenate_pair_apply_left 1 u w concatenates_S128x128_S128x128_S128x256_d1 _ rfl _ (fun b => by
      match b with
      | ⟨0, _⟩ => rfl
      | ⟨1, _⟩ => rfl)
  · rw [dif_neg h]
    exact concatenate_pair_apply_right 1 u w concatenates_S128x128_S128x128_S128x256_d1 _ rfl rfl _ (fun b hb => by
      match b with
      | ⟨0, _⟩ => rfl
      | ⟨1, _⟩ => exact absurd rfl hb) (by show d.val - 128 + 128 = d.val; omega)

theorem joined_turned (x y c s : Fin 128 → EReal) (d : Fin 256) :
    joined (fun l => x l * c l - y l * s l) (fun l => x l * s l + y l * c l) d = turned x y c s d := by
  unfold joined turned
  by_cases h : d.val < 128
  · simp only [dif_pos h]
  · simp only [dif_neg h]

theorem pay10_apply (c s : Vec Ideal S128x128 .f32) (u w : Vec Ideal S1x128x128 .bf16) (i : Fin 128) (d : Fin 256) :
    k0_pay10 c s u w (ValueIdx.ix2 i d) = turned (fun l => u (ValueIdx.ix3 (0 : Fin 1) i l)) (fun l => w (ValueIdx.ix3 (0 : Fin 1) i l))
      (fun l => c (ValueIdx.ix2 i l)) (fun l => s (ValueIdx.ix2 i l)) d := by
  unfold k0_pay10 k0_pay8 k0_pay9
  rw [halves_apply, ← joined_turned, shapeCast_self, shapeCast_self]
  simp only [← flat_apply]
  rfl

theorem pay11_apply (c s : Vec Ideal S128x128 .f32) (u w : Vec Ideal S1x128x128 .bf16) (i : Fin 128) (d : Fin 256) :
    k0_pay11 c s u w (ValueIdx.ix2 i d) = turned (fun l => u (ValueIdx.ix3 (0 : Fin 1) i l)) (fun l => w (ValueIdx.ix3 (0 : Fin 1) i l))
      (fun l => c (ValueIdx.ix2 i l)) (fun l => s (ValueIdx.ix2 i l)) d * Ideal.ofBits .f32 0x3D800000#32 :=
  congrArg (· * Ideal.ofBits .f32 0x3D800000#32) (pay10_apply c s u w i d)

theorem pay12_apply (u w : Vec Ideal S1x128x128 .bf16) (i : Fin 128) (d : Fin 256) :
    k0_pay12 u w (ValueIdx.ix2 i d) = joined (fun l => u (ValueIdx.ix3 (0 : Fin 1) i l)) (fun l => w (ValueIdx.ix3 (0 : Fin 1) i l)) d := by
  unfold k0_pay12
  rw [halves_apply]
  simp only [← flat_apply]

/-! ## The decays -/

theorem pay3_apply (i : Fin 128) (d : Fin 256) : k0_pay3 (F := Ideal) (ValueIdx.ix2 i d) = place i := by
  rw [← word_place]
  unfold k0_pay3
  show (((BitVec.ofNat 32 (0 * 128 + i.val)).toInt : ℝ) : EReal) = _
  rw [Nat.zero_mul, Nat.zero_add]

theorem pay4_apply (l : EReal) (i : Fin 128) (d : Fin 256) : k0_pay4 (F := Ideal) l (ValueIdx.ix2 i d) = decayQ l i := by
  unfold k0_pay4 decayQ
  rw [← pay3_apply i d]
  rfl

theorem pay5_apply (l : EReal) (i : Fin 128) (d : Fin 256) : k0_pay5 (F := Ideal) l (ValueIdx.ix2 i d) = decayK l i := by
  unfold k0_pay5 decayK
  rw [← pay3_apply i d]
  rfl

theorem pay6_apply (l0 l1 : EReal) (i j : Fin 128) : k0_pay6 (F := Ideal) l0 l1 (ValueIdx.ix2 i j) = decay l0 l1 i j := by
  rw [← decay_clipped, ← word_apart, ← Ideal.ofBits_zero_f32]
  have hi : BitVec.ofNat 32 i.val = BitVec.ofNat 32 (0 * 128 + i.val) := by rw [Nat.zero_mul, Nat.zero_add]
  have hj : BitVec.ofNat 32 j.val = BitVec.ofNat 32 (0 * 128 + j.val) := by rw [Nat.zero_mul, Nat.zero_add]
  rw [hi, hj]
  unfold k0_pay6
  rfl

theorem pay81_apply (l : EReal) (d e : Fin 256) : k0_pay81 (F := Ideal) (k0_pay7 l) (ValueIdx.ix2 d e) = decayC l := by
  unfold k0_pay81
  rw [broadcastTo_apply (s := S1x1) _ broadcasts_S1x1_S256x256 _ (ValueIdx.ix2 (0 : Fin 1) (0 : Fin 1)) (fun a => by
    match a with
    | ⟨0, _⟩ => rfl
    | ⟨1, _⟩ => rfl)]
  unfold k0_pay7 decayC
  rw [mul_comm]
  rfl

/-! ## The products -/

theorem pay13_apply (D K : FVec Ideal S128x256 .f32) (V : FVec Ideal S128x256 .bf16) (d e : Fin 256) :
    k0_pay13 (F := Ideal) D K V (ValueIdx.ix2 d e)
      = ∑ c : Fin 128, K (ValueIdx.ix2 c d) * D (ValueIdx.ix2 c d) * V (ValueIdx.ix2 c e) := by
  unfold k0_pay13
  simp only [matmul]
  rw [Ideal.matmul_constant_zero_apply,
    ← Equiv.sum_comp (ValueIdx.contrEquiv1 dot_S128x256_S128x256_S256x256_0_0_1_1_n_n 128 rfl rfl).symm]
  refine Finset.sum_congr rfl fun k _ => ?_
  have hk := ValueIdx.contrEquiv1_symm_val dot_S128x256_S128x256_S256x256_0_0_1_1_n_n 128 rfl rfl k
  have el : dot_S128x256_S128x256_S256x256_0_0_1_1_n_n.lhsIdx (ValueIdx.ix2 d e) ((ValueIdx.contrEquiv1 dot_S128x256_S128x256_S256x256_0_0_1_1_n_n 128 rfl rfl).symm k) = ValueIdx.ix2 k d := funext fun a => Fin.ext (by
    match a with
    | ⟨0, _⟩ => exact (DotDims.lhsIdx_val_of_single dot_S128x256_S128x256_S256x256_0_0_1_1_n_n rfl _ _).trans hk
    | ⟨1, _⟩ => rfl)
  have er : dot_S128x256_S128x256_S256x256_0_0_1_1_n_n.rhsIdx (ValueIdx.ix2 d e) ((ValueIdx.contrEquiv1 dot_S128x256_S128x256_S256x256_0_0_1_1_n_n 128 rfl rfl).symm k) = ValueIdx.ix2 k e := funext fun a => Fin.ext (by
    match a with
    | ⟨0, _⟩ => exact (DotDims.rhsIdx_val_of_single dot_S128x256_S128x256_S256x256_0_0_1_1_n_n rfl _ _).trans hk
    | ⟨1, _⟩ => rfl)
  rw [el, er]
  rfl

theorem scores_apply (Q K : FVec Ideal S128x256 .bf16) (i j : Fin 128) :
    FloatOps.matmul dot_S128x256_S128x256_S128x128_1_1_0_0_n_n none Q K (constant S128x128 .f32 0x00000000#32) (ValueIdx.ix2 i j)
      = ∑ d : Fin 256, Q (ValueIdx.ix2 i d) * K (ValueIdx.ix2 j d) := by
  rw [Ideal.matmul_constant_zero_apply,
    ← Equiv.sum_comp (ValueIdx.contrEquiv1 dot_S128x256_S128x256_S128x128_1_1_0_0_n_n 256 rfl rfl).symm]
  refine Finset.sum_congr rfl fun k _ => ?_
  have hk := ValueIdx.contrEquiv1_symm_val dot_S128x256_S128x256_S128x128_1_1_0_0_n_n 256 rfl rfl k
  have el : dot_S128x256_S128x256_S128x128_1_1_0_0_n_n.lhsIdx (ValueIdx.ix2 i j) ((ValueIdx.contrEquiv1 dot_S128x256_S128x256_S128x128_1_1_0_0_n_n 256 rfl rfl).symm k) = ValueIdx.ix2 i k := funext fun a => Fin.ext (by
    match a with
    | ⟨0, _⟩ => rfl
    | ⟨1, _⟩ => exact (DotDims.lhsIdx_val_of_single dot_S128x256_S128x256_S128x128_1_1_0_0_n_n rfl _ _).trans hk)
  have er : dot_S128x256_S128x256_S128x128_1_1_0_0_n_n.rhsIdx (ValueIdx.ix2 i j) ((ValueIdx.contrEquiv1 dot_S128x256_S128x256_S128x128_1_1_0_0_n_n 256 rfl rfl).symm k) = ValueIdx.ix2 j k := funext fun a => Fin.ext (by
    match a with
    | ⟨0, _⟩ => rfl
    | ⟨1, _⟩ => exact (DotDims.rhsIdx_val_of_single dot_S128x256_S128x256_S128x128_1_1_0_0_n_n rfl _ _).trans hk)
  rw [el, er]

theorem pay14_apply (D : FVec Ideal S128x128 .f32) (Q K : FVec Ideal S128x256 .f32) (V : FVec Ideal S128x256 .bf16) (i : Fin 128) (e : Fin 256) :
    k0_pay14 (F := Ideal) D Q K V (ValueIdx.ix2 i e)
      = ∑ j : Fin 128, (∑ d : Fin 256, Q (ValueIdx.ix2 i d) * K (ValueIdx.ix2 j d)) * D (ValueIdx.ix2 i j) * V (ValueIdx.ix2 j e) := by
  unfold k0_pay14
  simp only [matmul]
  rw [Ideal.matmul_constant_zero_apply,
    ← Equiv.sum_comp (ValueIdx.contrEquiv1 dot_S128x128_S128x256_S128x256_1_0_0_1_n_n 128 rfl rfl).symm]
  refine Finset.sum_congr rfl fun k _ => ?_
  have hk := ValueIdx.contrEquiv1_symm_val dot_S128x128_S128x256_S128x256_1_0_0_1_n_n 128 rfl rfl k
  have el : dot_S128x128_S128x256_S128x256_1_0_0_1_n_n.lhsIdx (ValueIdx.ix2 i e) ((ValueIdx.contrEquiv1 dot_S128x128_S128x256_S128x256_1_0_0_1_n_n 128 rfl rfl).symm k) = ValueIdx.ix2 i k := funext fun a => Fin.ext (by
    match a with
    | ⟨0, _⟩ => rfl
    | ⟨1, _⟩ => exact (DotDims.lhsIdx_val_of_single dot_S128x128_S128x256_S128x256_1_0_0_1_n_n rfl _ _).trans hk)
  have er : dot_S128x128_S128x256_S128x256_1_0_0_1_n_n.rhsIdx (ValueIdx.ix2 i e) ((ValueIdx.contrEquiv1 dot_S128x128_S128x256_S128x256_1_0_0_1_n_n 128 rfl rfl).symm k) = ValueIdx.ix2 k e := funext fun a => Fin.ext (by
    match a with
    | ⟨0, _⟩ => exact (DotDims.rhsIdx_val_of_single dot_S128x128_S128x256_S128x256_1_0_0_1_n_n rfl _ _).trans hk
    | ⟨1, _⟩ => rfl)
  rw [el, er]
  refine congrArg (· * V (ValueIdx.ix2 k e)) ?_
  exact congrArg (· * D (ValueIdx.ix2 i k)) (scores_apply Q K i k)

theorem pay80_apply (A : FVec Ideal S128x256 .f32) (Q : FVec Ideal S128x256 .bf16) (S : FVec Ideal S256x256 .f32) (i : Fin 128) (e : Fin 256) :
    k0_pay80 (F := Ideal) A Q S (ValueIdx.ix2 i e)
      = A (ValueIdx.ix2 i e) + ∑ d : Fin 256, Q (ValueIdx.ix2 i d) * S (ValueIdx.ix2 d e) := by
  unfold k0_pay80
  refine congrArg (A (ValueIdx.ix2 i e) + ·) ?_
  simp only [matmul]
  rw [Ideal.matmul_constant_zero_apply,
    ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ValueIdx.ix2 i e) ((ValueIdx.contrEquiv1 dot_S128x256_S256x256_S128x256_1_0_0_1_n_n 256 rfl rfl).symm k) = ValueIdx.ix2 i k := funext fun a => Fin.ext (by
    match a with
    | ⟨0, _⟩ => rfl
    | ⟨1, _⟩ => exact (DotDims.lhsIdx_val_of_single dot_S128x256_S256x256_S128x256_1_0_0_1_n_n rfl _ _).trans hk)
  have er : dot_S128x256_S256x256_S128x256_1_0_0_1_n_n.rhsIdx (ValueIdx.ix2 i e) ((ValueIdx.contrEquiv1 dot_S128x256_S256x256_S128x256_1_0_0_1_n_n 256 rfl rfl).symm k) = ValueIdx.ix2 k e := funext fun a => Fin.ext (by
    match a with
    | ⟨0, _⟩ => exact (DotDims.rhsIdx_val_of_single dot_S128x256_S256x256_S128x256_1_0_0_1_n_n rfl _ _).trans hk
    | ⟨1, _⟩ => rfl)
  rw [el, er]
  rfl

/-! ## A chunk -/

section Chunk
variable (l0 l1 : EReal) (x1 x2 x3 : Vec Ideal S2x1024x128 .bf16) (x4 x5 : Vec Ideal S1024x128 .f32) (k : Fin 8)
  (S : Vec Ideal S256x256 .f32) (Q K V : Fin 128 → Fin 256 → EReal) (T : Fin 256 → Fin 256 → EReal)

/-- The chunk's output, where its operands and the state are known. -/
theorem output_apply (hQ : ∀ i d, queries x1 x4 x5 k (ValueIdx.ix2 i d) = Q i d) (hK : ∀ i d, keys x2 x4 x5 k (ValueIdx.ix2 i d) = K i d)
    (hV : ∀ i d, vals x3 k (ValueIdx.ix2 i d) = V i d) (hS : ∀ d e, S (ValueIdx.ix2 d e) = T d e) (i : Fin 128) (e : Fin 256) :
    output l0 l1 x1 x2 x3 x4 x5 k S (ValueIdx.ix2 i e) = chunkOut l0 l1 Q K V T i e := by
  unfold output chunkOut own score
  rw [pay80_apply, pay14_apply]
  simp only [hQ, hK, hV, hS, pay6_apply]
  refine congrArg (_ + ·) (Finset.sum_congr rfl fun d _ => ?_)
  refine congrArg (· * T d e) ?_
  rw [← hQ, ← pay4_apply l0 i d]
  rfl

/-- The state after the chunk, where they are known. -/
theorem next_apply (hK : ∀ i d, keys x2 x4 x5 k (ValueIdx.ix2 i d) = K i d)
    (hV : ∀ i d, vals x3 k (ValueIdx.ix2 i d) = V i d) (hS : ∀ d e, S (ValueIdx.ix2 d e) = T d e) (d e : Fin 256) :
    next l0 x2 x3 x4 x5 k S (ValueIdx.ix2 d e) = chunkNext l0 K V T d e := by
  unfold next chunkNext chunkAdd k0_pay82
  rw [shapeCast_self]
  show k0_pay81 (F := Ideal) (k0_pay7 l0) (ValueIdx.ix2 d e) * S (ValueIdx.ix2 d e) + k0_pay13 (F := Ideal) _ _ _ (ValueIdx.ix2 d e) = _
  rw [pay81_apply, pay13_apply, hS]
  simp only [hK, hV, pay5_apply]

end Chunk

end Cert.RetFwdIdeal.Retention
end
-- ==== Proof.RetFwdOperands.lean ====
/- The reference's values before its loop, read at an index at the ideal values.

   The reference lays each head's rows out as [batch, head, row, feature], cuts the rows into 64 chunks of 128, and goes
   through all chunks at once for what a chunk's own keys add: once for the keys at or before a query, and once more over
   the reversed rows for those after it. Every value here is one of the arithmetic in `RetFwdMath`. -/
module

public import proofs.«01_k».proof.Proof.Gen.RetFwdRefIdeal.Step
public import proofs.«01_k».proof.Proof.RetFwdMath
public import Idealize.ShloMosaic.Lib.Pipeline.ValueKit.Tiles

@[expose] public section

set_option maxRecDepth 16384

noncomputable section

namespace Cert.RetFwdRefIdeal.Operands

open Cert.RetFwdRefIdeal Cert.RetFwdRefIdeal.Gen Cert.RetFwdRefIdeal.Step Idealize.ShloMosaic
open Cert.Proof.RetFwdMath
open Idealize.ShloMosaic.ValueIdx (ix1 ix2 ix3 ix4 ix5)

/-- Row `i` of chunk `n`. -/
abbrev row (n : Fin 64) (i : Fin 128) : Fin 8192 := ⟨128 * n.val + i.val, by omega⟩

theorem product_at {s : Shape} (x y : Vec Ideal s .f32) (j : s.Idx) : mulf (F := Ideal) (φ := .f32) x y j = x j * y j := rfl
theorem sum_at {s : Shape} (x y : Vec Ideal s .f32) (j : s.Idx) : addf (F := Ideal) (φ := .f32) x y j = x j + y j := rfl
theorem exp_at {s : Shape} (x : Vec Ideal s .f32) (j : s.Idx) : Host.exp (F := Ideal) (φ := .f32) x j = Ideal.exp (x j) := rfl

/-! ## Layouts -/

/-- A head's rows from the slabs: feature `d` of head `h` is in slab `2 h + d / 128` at lane `d % 128`. -/
theorem heads_apply (x : Vec Ideal S16x16384x128 .f32) (b : Fin 2) (h : Fin 8) (t : Fin 8192) (d : Fin 256) (z : S16x16384x128.Idx)
    (h0 : (z 0).val = 2 * h.val + d.val / 128) (h1 : (z 1).val = 8192 * b.val + t.val) (h2 : (z 2).val = d.val % 128) :
    shapeCast S2x8x8192x256 (transpose S2x8x8192x2x128 [2, 0, 3, 1, 4] (shapeCast S8x2x2x8192x128 x shapeCasts_S16x16384x128_S8x2x2x8192x128)
      transposes_S8x2x2x8192x128_S2x8x8192x2x128_2_0_3_1_4) shapeCasts_S2x8x8192x2x128_S2x8x8192x256 (ix4 b h t d) = x z := by
  have hd := d.isLt
  rw [shapeCast_apply _ shapeCasts_S2x8x8192x2x128_S2x8x8192x256 _ (ix5 b h t (⟨d.val / 128, by omega⟩ : Fin 2) (⟨d.val % 128, by omega⟩ : Fin 128)) (by
    rewrite [Shape.rowMajor_val_five, Shape.rowMajor_val_four]
    show (((b.val * 8 + h.val) * 8192 + t.val) * 2 + d.val / 128) * 128 + d.val % 128 = ((b.val * 8 + h.val) * 8192 + t.val) * 256 + d.val
    omega)]
  rw [transpose_apply _ _ transposes_S8x2x2x8192x128_S2x8x8192x2x128_2_0_3_1_4 _
    (ix5 h (⟨d.val / 128, by omega⟩ : Fin 2) b t (⟨d.val % 128, by omega⟩ : Fin 128)) (fun a => by
    match a with
    | ⟨0, _⟩ => rfl
    | ⟨1, _⟩ => rfl
    | ⟨2, _⟩ => rfl
    | ⟨3, _⟩ => rfl
    | ⟨4, _⟩ => rfl)]
  exact shapeCast_apply x shapeCasts_S16x16384x128_S8x2x2x8192x128 _ z (by
    rewrite [Shape.rowMajor_val_three, Shape.rowMajor_val_five]
    show ((z 0).val * 16384 + (z 1).val) * 128 + (z 2).val
      = (((h.val * 2 + d.val / 128) * 2 + b.val) * 8192 + t.val) * 128 + d.val % 128
    omega)

/-- The rows cut into chunks. -/
theorem chunks_apply (x : Vec Ideal S2x8x8192x256 .f32) (b : Fin 2) (h : Fin 8) (n : Fin 64) (i : Fin 128) (d : Fin 256) :
    shapeCast S2x8x64x128x256 x shapeCasts_S2x8x8192x256_S2x8x64x128x256 (ix5 b h n i d) = x (ix4 b h (row n i) d) :=
  shapeCast_apply x shapeCasts_S2x8x8192x256_S2x8x64x128x256 _ _ (by
    rewrite [Shape.rowMajor_val_five, Shape.rowMajor_val_four]
    show ((b.val * 8 + h.val) * 8192 + (128 * n.val + i.val)) * 256 + d.val
      = (((b.val * 8 + h.val) * 64 + n.val) * 128 + i.val) * 256 + d.val
    omega)

/-- And joined again. -/
theorem joined_apply (x : Vec Ideal S2x8x64x128x256 .f32) (b : Fin 2) (h : Fin 8) (n : Fin 64) (i : Fin 128) (d : Fin 256) :
    shapeCast S2x8x8192x256 x shapeCasts_S2x8x64x128x256_S2x8x8192x256 (ix4 b h (row n i) d) = x (ix5 b h n i d) :=
  shapeCast_apply x shapeCasts_S2x8x64x128x256_S2x8x8192x256 _ _ (by
    rewrite [Shape.rowMajor_val_five, Shape.rowMajor_val_four]
    show (((b.val * 8 + h.val) * 64 + n.val) * 128 + i.val) * 256 + d.val
      = ((b.val * 8 + h.val) * 8192 + (128 * n.val + i.val)) * 256 + d.val
    omega)

/-- The rows read from the last. -/
theorem reverse_apply (x : Vec Ideal S2x8x8192x256 .f32) (b : Fin 2) (h : Fin 8) (n : Fin 64) (i : Fin 128) (d : Fin 256) :
    Host.reverse [2] x (ix4 b h (row n i) d) = x (ix4 b h (row n.rev i.rev) d) := by
  unfold Host.reverse
  refine congrArg x (funext fun a => ?_)
  match a with
  | ⟨0, _⟩ => rfl
  | ⟨1, _⟩ => rfl
  | ⟨2, _⟩ =>
    refine Fin.ext ?_
    show 8192 - (128 * n.val + i.val + 1) = 128 * (64 - (n.val + 1)) + (128 - (i.val + 1))
    omega
  | ⟨3, _⟩ => rfl

/-- A table of positions, for every batch and head. -/
theorem table_apply (x : Vec Ideal S8192x128 .f32) (b : Fin 2) (h : Fin 8) (t : Fin 8192) (l : Fin 128) :
    broadcastInDim S2x8x8192x128 ![0, 1, 2, 3] bcast_S1x1x8192x128_S2x8x8192x128_0_1_2_3
      (broadcastInDim S1x1x8192x128 ![2, 3] bcast_S8192x128_S1x1x8192x128_2_3 x) (ix4 b h t l) = x (ix2 t l) := by
  rw [broadcastInDim_apply _ bcast_S1x1x8192x128_S2x8x8192x128_0_1_2_3 _ _ (ix4 (0 : Fin 1) (0 : Fin 1) t l) (fun a => by
    match a with
    | ⟨0, _⟩ => rfl
    | ⟨1, _⟩ => rfl
    | ⟨2, _⟩ => rfl
    | ⟨3, _⟩ => rfl)]
  exact broadcastInDim_apply _ bcast_S8192x128_S1x1x8192x128_2_3 _ _ (ix2 t l) (fun a => by
    match a with
    | ⟨0, _⟩ => rfl
    | ⟨1, _⟩ => rfl)

/-- A decay of pairs of rows, for every batch, head and chunk. -/
theorem pairs_apply (x : Vec Ideal S8x128x128 .f32) (b : Fin 2) (h : Fin 8) (n : Fin 64) (i j : Fin 128) :
    broadcastInDim S2x8x64x128x128 ![0, 1, 2, 3, 4] bcast_S1x8x1x128x128_S2x8x64x128x128_0_1_2_3_4
      (broadcastInDim S1x8x1x128x128 ![1, 2, 3, 4] bcast_S8x1x128x128_S1x8x1x128x128_1_2_3_4
        (broadcastInDim S8x1x128x128 ![0, 2, 3] bcast_S8x128x128_S8x1x128x128_0_2_3 x)) (ix5 b h n i j) = x (ix3 h i j) := by
  rw [broadcastInDim_apply _ bcast_S1x8x1x128x128_S2x8x64x128x128_0_1_2_3_4 _ _ (ix5 (0 : Fin 1) h (0 : Fin 1) i j) (fun a => by
    match a with
    | ⟨0, _⟩ => rfl
    | ⟨1, _⟩ => rfl
    | ⟨2, _⟩ => rfl
    | ⟨3, _⟩ => rfl
    | ⟨4, _⟩ => rfl)]
  rw [broadcastInDim_apply _ bcast_S8x1x128x128_S1x8x1x128x128_1_2_3_4 _ _ (ix4 h (0 : Fin 1) i j) (fun a => by
    match a with
    | ⟨0, _⟩ => rfl
    | ⟨1, _⟩ => rfl
    | ⟨2, _⟩ => rfl
    | ⟨3, _⟩ => rfl)]
  exact broadcastInDim_apply _ bcast_S8x128x128_S8x1x128x128_0_2_3 _ _ (ix3 h i j) (fun a => by
    match a with
    | ⟨0, _⟩ => rfl
    | ⟨1, _⟩ => rfl
    | ⟨2, _⟩ => rfl)

/-- A rate of each head, for every pair of rows. -/
theorem rates_apply (x : Vec Ideal S8 .f32) (h : Fin 8) (i j : Fin 128) :
    broadcastInDim S8x128x128 ![0, 1, 2] bcast_S8x1x1_S8x128x128_0_1_2 (broadcastInDim S8x1x1 ![0] bcast_S8_S8x1x1_0 x) (ix3 h i j) = x (ix1 h) := by
  rw [broadcastInDim_apply _ bcast_S8x1x1_S8x128x128_0_1_2 _ _ (ix3 h (0 : Fin 1) (0 : Fin 1)) (fun a => by
    match a with
    | ⟨0, _⟩ => rfl
    | ⟨1, _⟩ => rfl
    | ⟨2, _⟩ => rfl)]
  exact broadcastInDim_apply _ bcast_S8_S8x1x1_0 _ _ (ix1 h) (fun a => by
    match a with
    | ⟨0, _⟩ => rfl)

/-- A table of pairs of rows, for every head. -/
theorem perHead_apply {α : Type} (x : S128x128.Idx → α) (h : Fin 8) (i j : Fin 128) :
    broadcastInDim S8x128x128 ![0, 1, 2] bcast_S1x128x128_S8x128x128_0_1_2 (broadcastInDim S1x128x128 ![1, 2] bcast_S128x128_S1x128x128_1_2 x) (ix3 h i j)
      = x (ix2 i j) := by
  rw [broadcastInDim_apply _ bcast_S1x128x128_S8x128x128_0_1_2 _ _ (ix3 (0 : Fin 1) i j) (fun a => by
    match a with
    | ⟨0, _⟩ => rfl
    | ⟨1, _⟩ => rfl
    | ⟨2, _⟩ => rfl)]
  exact broadcastInDim_apply _ bcast_S128x128_S1x128x128_1_2 _ _ (ix2 i j) (fun a => by
    match a with
    | ⟨0, _⟩ => rfl
    | ⟨1, _⟩ => rfl)

/-- A row's decay, for every batch, head, chunk and feature. -/
theorem perRow_apply (x : Vec Ideal S8x1x128x1 .f32) (b : Fin 2) (h : Fin 8) (n : Fin 64) (i : Fin 128) (d : Fin 256) :
    broadcastInDim S2x8x64x128x256 ![0, 1, 2, 3, 4] bcast_S1x8x1x128x1_S2x8x64x128x256_0_1_2_3_4
      (broadcastInDim S1x8x1x128x1 ![1, 2, 3, 4] bcast_S8x1x128x1_S1x8x1x128x1_1_2_3_4 x) (ix5 b h n i d) = x (ix4 h (0 : Fin 1) i (0 : Fin 1)) := by
  rw [broadcastInDim_apply _ bcast_S1x8x1x128x1_S2x8x64x128x256_0_1_2_3_4 _ _ (ix5 (0 : Fin 1) h (0 : Fin 1) i (0 : Fin 1)) (fun a => by
    match a with
    | ⟨0, _⟩ => rfl
    | ⟨1, _⟩ => rfl
    | ⟨2, _⟩ => rfl
    | ⟨3, _⟩ => rfl
    | ⟨4, _⟩ => rfl)]
  exact broadcastInDim_apply _ bcast_S8x1x128x1_S1x8x1x128x1_1_2_3_4 _ _ (ix4 h (0 : Fin 1) i (0 : Fin 1)) (fun a => by
    match a with
    | ⟨0, _⟩ => rfl
    | ⟨1, _⟩ => rfl
    | ⟨2, _⟩ => rfl
    | ⟨3, _⟩ => rfl)

/-- A rate of each head, for every row. -/
theorem rateRow_apply (x : Vec Ideal S8 .f32) (h : Fin 8) (i : Fin 128) :
    broadcastInDim S8x1x128x1 ![0, 1, 2, 3] bcast_S8x1x1x1_S8x1x128x1_0_1_2_3 (broadcastInDim S8x1x1x1 ![0] bcast_S8_S8x1x1x1_0 x)
      (ix4 h (0 : Fin 1) i (0 : Fin 1)) = x (ix1 h) := by
  rw [broadcastInDim_apply _ bcast_S8x1x1x1_S8x1x128x1_0_1_2_3 _ _ (ix4 h (0 : Fin 1) (0 : Fin 1) (0 : Fin 1)) (fun a => by
    match a with
    | ⟨0, _⟩ => rfl
    | ⟨1, _⟩ => rfl
    | ⟨2, _⟩ => rfl
    | ⟨3, _⟩ => rfl)]
  exact broadcastInDim_apply _ bcast_S8_S8x1x1x1_0 _ _ (ix1 h) (fun a => by
    match a with
    | ⟨0, _⟩ => rfl)

/-- A row's number, for every head. -/
theorem placeRow_apply (x : Vec Ideal S128 .f32) (h : Fin 8) (i : Fin 128) :
    broadcastInDim S8x1x128x1 ![0, 1, 2, 3] bcast_S1x1x128x1_S8x1x128x1_0_1_2_3 (broadcastInDim S1x1x128x1 ![2] bcast_S128_S1x1x128x1_2 x)
      (ix4 h (0 : Fin 1) i (0 : Fin 1)) = x (ix1 i) := by
  rw [broadcastInDim_apply _ bcast_S1x1x128x1_S8x1x128x1_0_1_2_3 _ _ (ix4 (0 : Fin 1) (0 : Fin 1) i (0 : Fin 1)) (fun a => by
    match a with
    | ⟨0, _⟩ => rfl
    | ⟨1, _⟩ => rfl
    | ⟨2, _⟩ => rfl
    | ⟨3, _⟩ => rfl)]
  exact broadcastInDim_apply _ bcast_S128_S1x1x128x1_2 _ _ (ix1 i) (fun a => by
    match a with
    | ⟨0, _⟩ => rfl)

/-! ## Products -/

/-- The queries with the keys of a chunk. -/
theorem dotScores (x : Vec Ideal S2x8x64x128x256 .f32) (y : Vec Ideal S2x8x64x128x256 .f32) (b : Fin 2) (h : Fin 8) (n : Fin 64) (i j : Fin 128) :
    Host.dotGeneral (F := Ideal) (φ₁ := .f32) (φ₂ := .f32) dot_S2x8x64x128x256_S2x8x64x128x256_S2x8x64x128x128_4_4_3_3_012_012 none x y (ix5 b h n i j) = ∑ k : Fin 256, x (ix5 b h n i k) * y (ix5 b h n j k) := by
  simp only [Host.dotGeneral]
  rw [Ideal.dotGeneral_apply, ← Equiv.sum_comp (ValueIdx.contrEquiv1 dot_S2x8x64x128x256_S2x8x64x128x256_S2x8x64x128x128_4_4_3_3_012_012 256 rfl rfl).symm]
  refine Finset.sum_congr rfl fun k _ => ?_
  have hk := ValueIdx.contrEquiv1_symm_val dot_S2x8x64x128x256_S2x8x64x128x256_S2x8x64x128x128_4_4_3_3_012_012 256 rfl rfl k
  have el : dot_S2x8x64x128x256_S2x8x64x128x256_S2x8x64x128x128_4_4_3_3_012_012.lhsIdx (ix5 b h n i j) ((ValueIdx.contrEquiv1 dot_S2x8x64x128x256_S2x8x64x128x256_S2x8x64x128x128_4_4_3_3_012_012 256 rfl rfl).symm k) = ix5 b h n i k := funext fun a => Fin.ext (by
    match a with
    | ⟨0, _⟩ => rfl
    | ⟨1, _⟩ => rfl
    | ⟨2, _⟩ => rfl
    | ⟨3, _⟩ => rfl
    | ⟨4, _⟩ => exact (DotDims.lhsIdx_val_of_single dot_S2x8x64x128x256_S2x8x64x128x256_S2x8x64x128x128_4_4_3_3_012_012 rfl _ _).trans hk)
  have er : dot_S2x8x64x128x256_S2x8x64x128x256_S2x8x64x128x128_4_4_3_3_012_012.rhsIdx (ix5 b h n i j) ((ValueIdx.contrEquiv1 dot_S2x8x64x128x256_S2x8x64x128x256_S2x8x64x128x128_4_4_3_3_012_012 256 rfl rfl).symm k) = ix5 b h n j k := funext fun a => Fin.ext (by
    match a with
    | ⟨0, _⟩ => rfl
    | ⟨1, _⟩ => rfl
    | ⟨2, _⟩ => rfl
    | ⟨3, _⟩ => rfl
    | ⟨4, _⟩ => exact (DotDims.rhsIdx_val_of_single dot_S2x8x64x128x256_S2x8x64x128x256_S2x8x64x128x128_4_4_3_3_012_012 rfl _ _).trans hk)
  rw [el, er]

/-- The decayed pairs with the values. -/
theorem dotValues (x : Vec Ideal S2x8x64x128x128 .f32) (y : Vec Ideal S2x8x64x128x256 .f32) (b : Fin 2) (h : Fin 8) (n : Fin 64) (i : Fin 128) (e : Fin 256) :
    Host.dotGeneral (F := Ideal) (φ₁ := .f32) (φ₂ := .f32) dot_S2x8x64x128x128_S2x8x64x128x256_S2x8x64x128x256_4_3_3_4_012_012 none x y (ix5 b h n i e) = ∑ k : Fin 128, x (ix5 b h n i k) * y (ix5 b h n k e) := by
  simp only [Host.dotGeneral]
  rw [Ideal.dotGeneral_apply, ← Equiv.sum_comp (ValueIdx.contrEquiv1 dot_S2x8x64x128x128_S2x8x64x128x256_S2x8x64x128x256_4_3_3_4_012_012 128 rfl rfl).symm]
  refine Finset.sum_congr rfl fun k _ => ?_
  have hk := ValueIdx.contrEquiv1_symm_val dot_S2x8x64x128x128_S2x8x64x128x256_S2x8x64x128x256_4_3_3_4_012_012 128 rfl rfl k
  have el : dot_S2x8x64x128x128_S2x8x64x128x256_S2x8x64x128x256_4_3_3_4_012_012.lhsIdx (ix5 b h n i e) ((ValueIdx.contrEquiv1 dot_S2x8x64x128x128_S2x8x64x128x256_S2x8x64x128x256_4_3_3_4_012_012 128 rfl rfl).symm k) = ix5 b h n i k := funext fun a => Fin.ext (by
    match a with
    | ⟨0, _⟩ => rfl
    | ⟨1, _⟩ => rfl
    | ⟨2, _⟩ => rfl
    | ⟨3, _⟩ => rfl
    | ⟨4, _⟩ => exact (DotDims.lhsIdx_val_of_single dot_S2x8x64x128x128_S2x8x64x128x256_S2x8x64x128x256_4_3_3_4_012_012 rfl _ _).trans hk)
  have er : dot_S2x8x64x128x128_S2x8x64x128x256_S2x8x64x128x256_4_3_3_4_012_012.rhsIdx (ix5 b h n i e) ((ValueIdx.contrEquiv1 dot_S2x8x64x128x128_S2x8x64x128x256_S2x8x64x128x256_4_3_3_4_012_012 128 rfl rfl).symm k) = ix5 b h n k e := funext fun a => Fin.ext (by
    match a with
    | ⟨0, _⟩ => rfl
    | ⟨1, _⟩ => rfl
    | ⟨2, _⟩ => rfl
    | ⟨3, _⟩ => exact (DotDims.rhsIdx_val_of_single dot_S2x8x64x128x128_S2x8x64x128x256_S2x8x64x128x256_4_3_3_4_012_012 rfl _ _).trans hk
    | ⟨4, _⟩ => rfl)
  rw [el, er]

/-- The decayed keys with the values. -/
theorem dotAdd (x : Vec Ideal S2x8x64x128x256 .f32) (y : Vec Ideal S2x8x64x128x256 .f32) (b : Fin 2) (h : Fin 8) (n : Fin 64) (d e : Fin 256) :
    Host.dotGeneral (F := Ideal) (φ₁ := .f32) (φ₂ := .f32) dot_S2x8x64x128x256_S2x8x64x128x256_S2x8x64x256x256_3_3_4_4_012_012 none x y (ix5 b h n d e) = ∑ k : Fin 128, x (ix5 b h n k d) * y (ix5 b h n k e) := by
  simp only [Host.dotGeneral]
  rw [Ideal.dotGeneral_apply, ← Equiv.sum_comp (ValueIdx.contrEquiv1 dot_S2x8x64x128x256_S2x8x64x128x256_S2x8x64x256x256_3_3_4_4_012_012 128 rfl rfl).symm]
  refine Finset.sum_congr rfl fun k _ => ?_
  have hk := ValueIdx.contrEquiv1_symm_val dot_S2x8x64x128x256_S2x8x64x128x256_S2x8x64x256x256_3_3_4_4_012_012 128 rfl rfl k
  have el : dot_S2x8x64x128x256_S2x8x64x128x256_S2x8x64x256x256_3_3_4_4_012_012.lhsIdx (ix5 b h n d e) ((ValueIdx.contrEquiv1 dot_S2x8x64x128x256_S2x8x64x128x256_S2x8x64x256x256_3_3_4_4_012_012 128 rfl rfl).symm k) = ix5 b h n k d := funext fun a => Fin.ext (by
    match a with
    | ⟨0, _⟩ => rfl
    | ⟨1, _⟩ => rfl
    | ⟨2, _⟩ => rfl
    | ⟨3, _⟩ => exact (DotDims.lhsIdx_val_of_single dot_S2x8x64x128x256_S2x8x64x128x256_S2x8x64x256x256_3_3_4_4_012_012 rfl _ _).trans hk
    | ⟨4, _⟩ => rfl)
  have er : dot_S2x8x64x128x256_S2x8x64x128x256_S2x8x64x256x256_3_3_4_4_012_012.rhsIdx (ix5 b h n d e) ((ValueIdx.contrEquiv1 dot_S2x8x64x128x256_S2x8x64x128x256_S2x8x64x256x256_3_3_4_4_012_012 128 rfl rfl).symm k) = ix5 b h n k e := funext fun a => Fin.ext (by
    match a with
    | ⟨0, _⟩ => rfl
    | ⟨1, _⟩ => rfl
    | ⟨2, _⟩ => rfl
    | ⟨3, _⟩ => exact (DotDims.rhsIdx_val_of_single dot_S2x8x64x128x256_S2x8x64x128x256_S2x8x64x256x256_3_3_4_4_012_012 rfl _ _).trans hk
    | ⟨4, _⟩ => rfl)
  rw [el, er]

/-- The decayed queries with the state. -/
theorem dotState (x : Vec Ideal S2x8x128x256 .f32) (y : Vec Ideal S2x8x256x256 .f32) (b : Fin 2) (h : Fin 8) (i : Fin 128) (e : Fin 256) :
    Host.dotGeneral (F := Ideal) (φ₁ := .f32) (φ₂ := .f32) dot_S2x8x128x256_S2x8x256x256_S2x8x128x256_3_2_2_3_01_01 none x y (ix4 b h i e) = ∑ k : Fin 256, x (ix4 b h i k) * y (ix4 b h k e) := by
  simp only [Host.dotGeneral]
  rw [Ideal.dotGeneral_apply, ← Equiv.sum_comp (ValueIdx.contrEquiv1 dot_S2x8x128x256_S2x8x256x256_S2x8x128x256_3_2_2_3_01_01 256 rfl rfl).symm]
  refine Finset.sum_congr rfl fun k _ => ?_
  have hk := ValueIdx.contrEquiv1_symm_val dot_S2x8x128x256_S2x8x256x256_S2x8x128x256_3_2_2_3_01_01 256 rfl rfl k
  have el : dot_S2x8x128x256_S2x8x256x256_S2x8x128x256_3_2_2_3_01_01.lhsIdx (ix4 b h i e) ((ValueIdx.contrEquiv1 dot_S2x8x128x256_S2x8x256x256_S2x8x128x256_3_2_2_3_01_01 256 rfl rfl).symm k) = ix4 b h i k := funext fun a => Fin.ext (by
    match a with
    | ⟨0, _⟩ => rfl
    | ⟨1, _⟩ => rfl
    | ⟨2, _⟩ => rfl
    | ⟨3, _⟩ => exact (DotDims.lhsIdx_val_of_single dot_S2x8x128x256_S2x8x256x256_S2x8x128x256_3_2_2_3_01_01 rfl _ _).trans hk)
  have er : dot_S2x8x128x256_S2x8x256x256_S2x8x128x256_3_2_2_3_01_01.rhsIdx (ix4 b h i e) ((ValueIdx.contrEquiv1 dot_S2x8x128x256_S2x8x256x256_S2x8x128x256_3_2_2_3_01_01 256 rfl rfl).symm k) = ix4 b h k e := funext fun a => Fin.ext (by
    match a with
    | ⟨0, _⟩ => rfl
    | ⟨1, _⟩ => rfl
    | ⟨2, _⟩ => exact (DotDims.rhsIdx_val_of_single dot_S2x8x128x256_S2x8x256x256_S2x8x128x256_3_2_2_3_01_01 rfl _ _).trans hk
    | ⟨3, _⟩ => rfl)
  rw [el, er]

/-! ## The operands -/

section Args
variable (a : Vec Ideal S112x16384x128 .bf16) (r : Vec Ideal S2x8 .f32) (b : Fin 2) (h : Fin 8) (n : Fin 64)

/-- The rates, the cosines and the sines. -/
abbrev L : Vec Ideal S2x8 .f32 := A_main_v5 a r
abbrev C : Vec Ideal S8192x128 .f32 := K_main_v21
abbrev S : Vec Ideal S8192x128 .f32 := K_main_v22

/-- A head's rows, of sixteen slabs from slab `g` on. -/
theorem slabs_apply (g : ℕ) (hg : g ≤ 32) (hs : S112x16384x128.Slices ![g, 0, 0] S16x16384x128) (i : Fin 128) (d : Fin 256) (p : Fin 2) (l : Fin 128)
    (hp : d.val / 128 = p.val) (hl : d.val % 128 = l.val) :
    shapeCast S2x8x8192x256 (transpose S2x8x8192x2x128 [2, 0, 3, 1, 4]
      (shapeCast S8x2x2x8192x128 (extf (F := Ideal) .f32 (extractStridedSlice S16x16384x128 ![g, 0, 0] a hs) bitsLt_bf16_f32) shapeCasts_S16x16384x128_S8x2x2x8192x128)
      transposes_S8x2x2x8192x128_S2x8x8192x2x128_2_0_3_1_4) shapeCasts_S2x8x8192x2x128_S2x8x8192x256 (ix4 b h (row n i) d)
      = part a g hg b h n i p l := by
  have hpl := p.isLt
  rw [heads_apply _ b h (row n i) d (ix3 (⟨2 * h.val + p.val, by omega⟩ : Fin 16) (⟨8192 * b.val + 128 * n.val + i.val, by omega⟩ : Fin 16384) l)
    (by show 2 * h.val + p.val = _; omega) (by show 8192 * b.val + 128 * n.val + i.val = 8192 * b.val + (128 * n.val + i.val); omega) hl.symm]
  unfold part
  exact extractStridedSlice_apply _ a hs _ _ (fun c => by
    match c with
    | ⟨0, _⟩ => show g + 2 * h.val + p.val = g + (2 * h.val + p.val); omega
    | ⟨1, _⟩ => show 8192 * b.val + 128 * n.val + i.val = 0 + (8192 * b.val + 128 * n.val + i.val); omega
    | ⟨2, _⟩ => show l.val = 0 + l.val; omega)

/-- The first half of a row's features. -/
theorem first_apply (x : Vec Ideal S2x8x8192x256 .f32) (t : Fin 8192) (l : Fin 128) :
    extractStridedSlice S2x8x8192x128 ![0, 0, 0, 0] x slices_S2x8x8192x256_S2x8x8192x128_0_0_0_0 (ix4 b h t l) = x (ix4 b h t (⟨l.val, by omega⟩ : Fin 256)) :=
  extractStridedSlice_apply _ x slices_S2x8x8192x256_S2x8x8192x128_0_0_0_0 _ _ (fun c => by
    match c with
    | ⟨0, _⟩ => show b.val = 0 + b.val; omega
    | ⟨1, _⟩ => show h.val = 0 + h.val; omega
    | ⟨2, _⟩ => show t.val = 0 + t.val; omega
    | ⟨3, _⟩ => show l.val = 0 + l.val; omega)

/-- The second half. -/
theorem second_apply (x : Vec Ideal S2x8x8192x256 .f32) (t : Fin 8192) (l : Fin 128) :
    extractStridedSlice S2x8x8192x128 ![0, 0, 0, 128] x slices_S2x8x8192x256_S2x8x8192x128_0_0_0_128 (ix4 b h t l) = x (ix4 b h t (⟨128 + l.val, by omega⟩ : Fin 256)) :=
  extractStridedSlice_apply _ x slices_S2x8x8192x256_S2x8x8192x128_0_0_0_128 _ _ (fun c => by
    match c with
    | ⟨0, _⟩ => show b.val = 0 + b.val; omega
    | ⟨1, _⟩ => show h.val = 0 + h.val; omega
    | ⟨2, _⟩ => show t.val = 0 + t.val; omega
    | ⟨3, _⟩ => rfl)

/-- Two halves side by side. -/
theorem beside_apply (x y : Vec Ideal S2x8x8192x128 .f32) (t : Fin 8192) (d : Fin 256) :
    concatenate S2x8x8192x256 3 [⟨S2x8x8192x128, x⟩, ⟨S2x8x8192x128, y⟩] concatenates_S2x8x8192x128_S2x8x8192x128_S2x8x8192x256_d3 (ix4 b h t d)
      = joined (fun l => x (ix4 b h t l)) (fun l => y (ix4 b h t l)) d := by
  unfold joined
  by_cases hd : d.val < 128
  · rw [dif_pos hd]
    exact concatenate_pair_apply_left 3 x y concatenates_S2x8x8192x128_S2x8x8192x128_S2x8x8192x256_d3 _ rfl _ (fun c => by
      match c with
      | ⟨0, _⟩ => rfl
      | ⟨1, _⟩ => rfl
      | ⟨2, _⟩ => rfl
      | ⟨3, _⟩ => rfl)
  · rw [dif_neg hd]
    exact concatenate_pair_apply_right 3 x y concatenates_S2x8x8192x128_S2x8x8192x128_S2x8x8192x256_d3 _ rfl rfl _ (fun c hc => by
      match c with
      | ⟨0, _⟩ => rfl
      | ⟨1, _⟩ => rfl
      | ⟨2, _⟩ => rfl
      | ⟨3, _⟩ => exact absurd rfl hc) (by show d.val - 128 + 128 = d.val; omega)

/-- A row turned by its position. -/
theorem turn_apply (x : Vec Ideal S2x8x8192x256 .f32) (c s : Vec Ideal S8192x128 .f32) (i : Fin 128) (d : Fin 256) (u v : Fin 128 → EReal)
    (hu : ∀ l : Fin 128, x (ix4 b h (row n i) (⟨l.val, by omega⟩ : Fin 256)) = u l)
    (hv : ∀ l : Fin 128, x (ix4 b h (row n i) (⟨128 + l.val, by omega⟩ : Fin 256)) = v l)
    (X Y X' Y' P Q P' Q' : Vec Ideal S2x8x8192x128 .f32)
    (hX : X = extractStridedSlice S2x8x8192x128 ![0, 0, 0, 0] x slices_S2x8x8192x256_S2x8x8192x128_0_0_0_0)
    (hY : Y = extractStridedSlice S2x8x8192x128 ![0, 0, 0, 128] x slices_S2x8x8192x256_S2x8x8192x128_0_0_0_128)
    (hP : ∀ l, P (ix4 b h (row n i) l) = tableRow c n i l) (hQ : ∀ l, Q (ix4 b h (row n i) l) = tableRow s n i l)
    (hP' : ∀ l, P' (ix4 b h (row n i) l) = tableRow s n i l) (hQ' : ∀ l, Q' (ix4 b h (row n i) l) = tableRow c n i l) :
    concatenate S2x8x8192x256 3 [⟨S2x8x8192x128, subf (F := Ideal) (φ := .f32) (mulf (F := Ideal) (φ := .f32) X P) (mulf (F := Ideal) (φ := .f32) Y Q)⟩,
        ⟨S2x8x8192x128, addf (F := Ideal) (φ := .f32) (mulf (F := Ideal) (φ := .f32) X P') (mulf (F := Ideal) (φ := .f32) Y Q')⟩]
        concatenates_S2x8x8192x128_S2x8x8192x128_S2x8x8192x256_d3 (ix4 b h (row n i) d)
      = turned u v (tableRow c n i) (tableRow s n i) d := by
  rw [beside_apply]
  have e1 : ∀ l, subf (F := Ideal) (φ := .f32) (mulf (F := Ideal) (φ := .f32) X P) (mulf (F := Ideal) (φ := .f32) Y Q) (ix4 b h (row n i) l)
      = u l * tableRow c n i l - v l * tableRow s n i l := fun l => by
    show X (ix4 b h (row n i) l) * P (ix4 b h (row n i) l) - Y (ix4 b h (row n i) l) * Q (ix4 b h (row n i) l) = _
    rw [hP, hQ, hX, hY, first_apply, second_apply, hu, hv]
  have e2 : ∀ l, addf (F := Ideal) (φ := .f32) (mulf (F := Ideal) (φ := .f32) X P') (mulf (F := Ideal) (φ := .f32) Y Q') (ix4 b h (row n i) l)
      = u l * tableRow s n i l + v l * tableRow c n i l := fun l => by
    show X (ix4 b h (row n i) l) * P' (ix4 b h (row n i) l) + Y (ix4 b h (row n i) l) * Q' (ix4 b h (row n i) l) = _
    rw [hP', hQ', hX, hY, first_apply, second_apply, hu, hv]
  simp only [e1, e2]
  unfold joined turned
  by_cases hd : d.val < 128
  · simp only [dif_pos hd]
  · simp only [dif_neg hd]

/-- The turned queries. -/
theorem q_apply (i : Fin 128) (d : Fin 256) : A_main_v39 a r (ix4 b h (row n i) d) = qs a C S b h n i d := by
  unfold A_main_v39
  exact turn_apply b h n (A_main_v10 a r) C S i d _ _
    (fun l => slabs_apply a b h n 0 (by decide) slices_S112x16384x128_S16x16384x128_0_0_0 i _ 0 l
      (by show l.val / 128 = 0; omega) (by show l.val % 128 = l.val; omega))
    (fun l => slabs_apply a b h n 0 (by decide) slices_S112x16384x128_S16x16384x128_0_0_0 i _ 1 l
      (by show (128 + l.val) / 128 = 1; omega) (by show (128 + l.val) % 128 = l.val; omega))
    (A_main_v23 a r) (A_main_v24 a r) (A_main_v23 a r) (A_main_v24 a r) K_main_v26 K_main_v29 K_main_v33 K_main_v36 rfl rfl
    (fun l => table_apply K_main_v21 b h (row n i) l) (fun l => table_apply K_main_v22 b h (row n i) l)
    (fun l => table_apply K_main_v22 b h (row n i) l) (fun l => table_apply K_main_v21 b h (row n i) l)

/-- The turned and scaled keys. -/
theorem k_apply (i : Fin 128) (d : Fin 256) : A_main_v75 a r (ix4 b h (row n i) d) = ks a C S b h n i d := by
  unfold A_main_v75
  refine congrArg (· * Ideal.ofBits .f32 0x3D800000#32) ?_
  unfold A_main_v73
  exact turn_apply b h n (A_main_v44 a r) C S i d _ _
    (fun l => slabs_apply a b h n 16 (by decide) slices_S112x16384x128_S16x16384x128_16_0_0 i _ 0 l
      (by show l.val / 128 = 0; omega) (by show l.val % 128 = l.val; omega))
    (fun l => slabs_apply a b h n 16 (by decide) slices_S112x16384x128_S16x16384x128_16_0_0 i _ 1 l
      (by show (128 + l.val) / 128 = 1; omega) (by show (128 + l.val) % 128 = l.val; omega))
    (A_main_v57 a r) (A_main_v58 a r) (A_main_v57 a r) (A_main_v58 a r) K_main_v60 K_main_v63 K_main_v67 K_main_v70 rfl rfl
    (fun l => table_apply K_main_v55 b h (row n i) l) (fun l => table_apply K_main_v56 b h (row n i) l)
    (fun l => table_apply K_main_v56 b h (row n i) l) (fun l => table_apply K_main_v55 b h (row n i) l)

/-- The values. -/
theorem v_apply (i : Fin 128) (e : Fin 256) : A_main_v80 a r (ix4 b h (row n i) e) = vs a b h n i e := by
  have he := e.isLt
  unfold vs joined
  by_cases hd : e.val < 128
  · rw [dif_pos hd]
    exact slabs_apply a b h n 32 (by decide) slices_S112x16384x128_S16x16384x128_32_0_0 i e 0 _
      (by show e.val / 128 = 0; omega) (by show e.val % 128 = e.val; omega)
  · rw [dif_neg hd]
    exact slabs_apply a b h n 32 (by decide) slices_S112x16384x128_S16x16384x128_32_0_0 i e 1 _
      (by show e.val / 128 = 1; omega) (by show e.val % 128 = e.val - 128; omega)

/-- A head's rate, first and second. -/
theorem rate0_apply : A_main_v82 a r (ix1 h) = L a r (ix2 (0 : Fin 2) h) := by
  unfold A_main_v82
  rw [shapeCast_apply _ shapeCasts_S1x8_S8 _ (ix2 (0 : Fin 1) h) (by
    rewrite [Shape.rowMajor_val_two, Shape.rowMajor_val_one]
    show 0 * 8 + h.val = h.val
    omega)]
  exact extractStridedSlice_apply _ _ slices_S2x8_S1x8_0_0 _ _ (fun c => by
    match c with
    | ⟨0, _⟩ => rfl
    | ⟨1, _⟩ => show h.val = 0 + h.val; omega)

theorem rate1_apply : A_main_v115 a r (ix1 h) = L a r (ix2 (1 : Fin 2) h) := by
  unfold A_main_v115
  rw [shapeCast_apply _ shapeCasts_S1x8_S8 _ (ix2 (0 : Fin 1) h) (by
    rewrite [Shape.rowMajor_val_two, Shape.rowMajor_val_one]
    show 0 * 8 + h.val = h.val
    omega)]
  exact extractStridedSlice_apply _ _ slices_S2x8_S1x8_1_0 _ _ (fun c => by
    match c with
    | ⟨0, _⟩ => rfl
    | ⟨1, _⟩ => show h.val = 0 + h.val; omega)

/-! The chunks of the queries, keys and values, forward and reversed. -/

theorem v83_apply (i : Fin 128) (d : Fin 256) : A_main_v83 a r (ix5 b h n i d) = A_main_v80 a r (ix4 b h (row n i) d) := by
  unfold A_main_v83
  exact chunks_apply (A_main_v80 a r) b h n i d

theorem v84_apply (i : Fin 128) (d : Fin 256) : A_main_v84 a r (ix5 b h n i d) = A_main_v39 a r (ix4 b h (row n i) d) := by
  unfold A_main_v84
  exact chunks_apply (A_main_v39 a r) b h n i d

theorem v85_apply (i : Fin 128) (d : Fin 256) : A_main_v85 a r (ix5 b h n i d) = A_main_v75 a r (ix4 b h (row n i) d) := by
  unfold A_main_v85
  exact chunks_apply (A_main_v75 a r) b h n i d

theorem v148_apply (i : Fin 128) (d : Fin 256) : A_main_v148 a r (ix5 b h n i d) = A_main_v39 a r (ix4 b h (row n i) d) := by
  unfold A_main_v148
  exact chunks_apply (A_main_v39 a r) b h n i d

theorem v149_apply (i : Fin 128) (d : Fin 256) : A_main_v149 a r (ix5 b h n i d) = A_main_v75 a r (ix4 b h (row n i) d) := by
  unfold A_main_v149
  exact chunks_apply (A_main_v75 a r) b h n i d

theorem v150_apply (i : Fin 128) (d : Fin 256) : A_main_v150 a r (ix5 b h n i d) = A_main_v80 a r (ix4 b h (row n i) d) := by
  unfold A_main_v150
  exact chunks_apply (A_main_v80 a r) b h n i d

theorem v151_apply (i : Fin 128) (d : Fin 256) : A_main_v151 a r (ix5 b h n i d) = A_main_v145 a r (ix4 b h (row n i) d) := by
  unfold A_main_v151
  exact chunks_apply (A_main_v145 a r) b h n i d

theorem v116_apply (i : Fin 128) (d : Fin 256) : A_main_v116 a r (ix5 b h n i d) = A_main_v80 a r (ix4 b h (row n.rev i.rev) d) := by
  unfold A_main_v116 A_main_v113
  exact (chunks_apply (Host.reverse [2] (A_main_v80 a r)) b h n i d).trans (reverse_apply (A_main_v80 a r) b h n i d)

theorem v117_apply (i : Fin 128) (d : Fin 256) : A_main_v117 a r (ix5 b h n i d) = A_main_v39 a r (ix4 b h (row n.rev i.rev) d) := by
  unfold A_main_v117 A_main_v111
  exact (chunks_apply (Host.reverse [2] (A_main_v39 a r)) b h n i d).trans (reverse_apply (A_main_v39 a r) b h n i d)

theorem v118_apply (i : Fin 128) (d : Fin 256) : A_main_v118 a r (ix5 b h n i d) = A_main_v75 a r (ix4 b h (row n.rev i.rev) d) := by
  unfold A_main_v118 A_main_v112
  exact (chunks_apply (Host.reverse [2] (A_main_v75 a r)) b h n i d).trans (reverse_apply (A_main_v75 a r) b h n i d)

theorem v110_apply (i : Fin 128) (e : Fin 256) : A_main_v110 a r (ix4 b h (row n i) e) = A_main_v109 a r (ix5 b h n i e) := by
  unfold A_main_v110
  exact joined_apply (A_main_v109 a r) b h n i e

theorem v144_apply (i : Fin 128) (e : Fin 256) : A_main_v144 a r (ix4 b h (row n i) e) = A_main_v142 a r (ix5 b h n.rev i.rev e) := by
  unfold A_main_v144 A_main_v143
  exact (reverse_apply _ b h n i e).trans (joined_apply (A_main_v142 a r) b h n.rev i.rev e)

theorem v107_apply (i j : Fin 128) : A_main_v107 a r (ix5 b h n i j) = A_main_v103 a r (ix3 h i j) := by
  unfold A_main_v107 A_main_v106 A_main_v105
  exact pairs_apply (A_main_v103 a r) b h n i j

theorem v140_apply (i j : Fin 128) : A_main_v140 a r (ix5 b h n i j) = A_main_v136 a r (ix3 h i j) := by
  unfold A_main_v140 A_main_v139 A_main_v138
  exact pairs_apply (A_main_v136 a r) b h n i j

/-! ## What a chunk's own keys add -/

theorem apart_apply (i j : Fin 128) : K_main_v91 (F := Ideal) (ix2 i j) = apart i j := by
  rw [← place_sub, ← word_place i, ← word_place j]
  unfold K_main_v91 K_main_v89 K_main_v90 K_main_v87 K_main_v88
  refine congrArg₂ (fun x y : EReal => x - y) ?_ ?_
  · refine (broadcastInDim_apply _ bcast_S128x1_S128x128_0_1 _ _ (ix2 i (0 : Fin 1)) (fun c => by
      match c with
      | ⟨0, _⟩ => rfl
      | ⟨1, _⟩ => rfl)).trans ?_
    exact broadcastInDim_apply _ bcast_S128_S128x1_0 _ _ (ix1 i) (fun c => by
      match c with
      | ⟨0, _⟩ => rfl)
  · refine (broadcastInDim_apply _ bcast_S1x128_S128x128_0_1 _ _ (ix2 (0 : Fin 1) j) (fun c => by
      match c with
      | ⟨0, _⟩ => rfl
      | ⟨1, _⟩ => rfl)).trans ?_
    exact broadcastInDim_apply _ bcast_S128_S1x128_1 _ _ (ix1 j) (fun c => by
      match c with
      | ⟨0, _⟩ => rfl)

theorem apart_again : K_main_v124 (F := Ideal) = K_main_v91 := rfl

theorem decay0_apply (i j : Fin 128) : A_main_v103 a r (ix3 h i j) = decayAt (L a r (ix2 (0 : Fin 2) h)) i j := by
  rw [← decayAt_clipped, ← apart_apply, ← rate0_apply, ← rates_apply (A_main_v82 a r) h i j, ← Ideal.ofBits_zero_f32]
  unfold A_main_v103 A_main_v102 A_main_v101 A_main_v99 A_main_v95
  have e1 : K_main_call2_v1 (F := Ideal) (ix3 h i j) = K_main_v93 (F := Ideal) (ix2 i j) := perHead_apply _ h i j
  have e2 : K_main_v100 (F := Ideal) (ix3 h i j) = K_main_v97 (F := Ideal) (ix2 i j) := perHead_apply _ h i j
  show Scalar.select (K_main_call2_v1 (F := Ideal) (ix3 h i j)) (Ideal.exp (_ * K_main_v100 (F := Ideal) (ix3 h i j))) (K_main_call2_v2 (F := Ideal) (ix3 h i j)) = _
  rw [e1, e2]
  rfl

theorem decay1_apply (i j : Fin 128) : A_main_v136 a r (ix3 h i j) = decayBefore (L a r (ix2 (1 : Fin 2) h)) i j := by
  rw [← decayBefore_clipped, ← apart_apply, ← apart_again, ← rate1_apply, ← rates_apply (A_main_v115 a r) h i j, ← Ideal.ofBits_zero_f32]
  unfold A_main_v136 A_main_v135 A_main_v134 A_main_v132 A_main_v128
  have e1 : K_main_call6_v1 (F := Ideal) (ix3 h i j) = K_main_v126 (F := Ideal) (ix2 i j) := perHead_apply _ h i j
  have e2 : K_main_v133 (F := Ideal) (ix3 h i j) = K_main_v130 (F := Ideal) (ix2 i j) := perHead_apply _ h i j
  show Scalar.select (K_main_call6_v1 (F := Ideal) (ix3 h i j)) (Ideal.exp (_ * K_main_v133 (F := Ideal) (ix3 h i j))) (K_main_call6_v2 (F := Ideal) (ix3 h i j)) = _
  rw [e1, e2]
  rfl

/-- The scores of a chunk's queries and keys. -/
theorem scores_apply (i j : Fin 128) : A_main_v104 a r (ix5 b h n i j) = score (qs a C S b h n) (ks a C S b h n) i j := by
  unfold A_main_v104 score
  rw [dotScores]
  refine Finset.sum_congr rfl fun d _ => ?_
  rw [v84_apply, v85_apply, q_apply, k_apply]

/-- And over the reversed rows. -/
theorem scoresRev_apply (i j : Fin 128) : A_main_v137 a r (ix5 b h n i j)
    = score (fun x => qs a C S b h n.rev x.rev) (fun x => ks a C S b h n.rev x.rev) i j := by
  unfold A_main_v137 score
  rw [dotScores]
  refine Finset.sum_congr rfl fun d _ => ?_
  rw [v117_apply, v118_apply, q_apply, k_apply]

theorem v108_apply (i j : Fin 128) : A_main_v108 a r (ix5 b h n i j) = A_main_v104 a r (ix5 b h n i j) * A_main_v107 a r (ix5 b h n i j) := by
  unfold A_main_v108
  exact product_at (A_main_v104 a r) (A_main_v107 a r) (ix5 b h n i j)

theorem v141_apply (i j : Fin 128) : A_main_v141 a r (ix5 b h n i j) = A_main_v137 a r (ix5 b h n i j) * A_main_v140 a r (ix5 b h n i j) := by
  unfold A_main_v141
  exact product_at (A_main_v137 a r) (A_main_v140 a r) (ix5 b h n i j)

theorem v145_apply (t : Fin 8192) (e : Fin 256) : A_main_v145 a r (ix4 b h t e) = A_main_v110 a r (ix4 b h t e) + A_main_v144 a r (ix4 b h t e) := by
  unfold A_main_v145
  exact sum_at (A_main_v110 a r) (A_main_v144 a r) (ix4 b h t e)

theorem v163_apply (i : Fin 128) (d : Fin 256) : A_main_v163 a r (ix5 b h n i d) = A_main_v149 a r (ix5 b h n i d) * A_main_v162 a r (ix5 b h n i d) := by
  unfold A_main_v163
  exact product_at (A_main_v149 a r) (A_main_v162 a r) (ix5 b h n i d)

theorem v178_apply (i : Fin 128) (d : Fin 256) : A_main_v178 a r (ix5 b h n i d) = A_main_v148 a r (ix5 b h n i d) * A_main_v177 a r (ix5 b h n i d) := by
  unfold A_main_v178
  exact product_at (A_main_v148 a r) (A_main_v177 a r) (ix5 b h n i d)

/-- The keys at or before a query. -/
theorem forward_apply (i : Fin 128) (e : Fin 256) : A_main_v109 a r (ix5 b h n i e)
    = ∑ j : Fin 128, score (qs a C S b h n) (ks a C S b h n) i j * decayAt (L a r (ix2 (0 : Fin 2) h)) i j * vs a b h n j e := by
  unfold A_main_v109
  rw [dotValues]
  refine Finset.sum_congr rfl fun j _ => ?_
  rw [v108_apply, v83_apply, v107_apply, scores_apply, decay0_apply, v_apply]

/-- The keys after it, over the reversed rows. -/
theorem backward_apply (i : Fin 128) (e : Fin 256) : A_main_v142 a r (ix5 b h n i e)
    = ∑ j : Fin 128, score (fun x => qs a C S b h n.rev x.rev) (fun x => ks a C S b h n.rev x.rev) i j
        * decayBefore (L a r (ix2 (1 : Fin 2) h)) i j * vs a b h n.rev j.rev e := by
  unfold A_main_v142
  rw [dotValues]
  refine Finset.sum_congr rfl fun j _ => ?_
  rw [v141_apply, v116_apply, v140_apply, scoresRev_apply, decay1_apply, v_apply]

/-- Both together. -/
theorem own_apply (i : Fin 128) (e : Fin 256) : A_main_v151 a r (ix5 b h n i e)
    = own (L a r (ix2 (0 : Fin 2) h)) (L a r (ix2 (1 : Fin 2) h)) (qs a C S b h n) (ks a C S b h n) (vs a b h n) i e := by
  rw [v151_apply, v145_apply, v110_apply, v144_apply, forward_apply, backward_apply, Fin.rev_rev]
  exact merge _ _ _ _ _ _ _

/-- A row's decays. -/
theorem v177_apply (i : Fin 128) (d : Fin 256) : A_main_v177 a r (ix5 b h n i d) = A_main_v175 a r (ix4 h (0 : Fin 1) i (0 : Fin 1)) := by
  unfold A_main_v177 A_main_v176
  exact perRow_apply (A_main_v175 a r) b h n i d

theorem v162_apply (i : Fin 128) (d : Fin 256) : A_main_v162 a r (ix5 b h n i d) = A_main_v160 a r (ix4 h (0 : Fin 1) i (0 : Fin 1)) := by
  unfold A_main_v162 A_main_v161
  exact perRow_apply (A_main_v160 a r) b h n i d

theorem v173_apply (i : Fin 128) : K_main_v173 (F := Ideal) (ix4 h (0 : Fin 1) i (0 : Fin 1)) = K_main_v170 (F := Ideal) (ix1 i) :=
  placeRow_apply K_main_v170 h i

theorem v158_apply (i : Fin 128) : K_main_v158 (F := Ideal) (ix4 h (0 : Fin 1) i (0 : Fin 1)) = K_main_v155 (F := Ideal) (ix1 i) :=
  placeRow_apply K_main_v155 h i

theorem v172_apply (i : Fin 128) : A_main_v172 a r (ix4 h (0 : Fin 1) i (0 : Fin 1)) = A_main_v147 a r (ix1 h) := by
  unfold A_main_v172
  exact rateRow_apply (A_main_v147 a r) h i

theorem v157_apply (i : Fin 128) : A_main_v157 a r (ix4 h (0 : Fin 1) i (0 : Fin 1)) = A_main_v147 a r (ix1 h) := by
  unfold A_main_v157 A_main_v153
  exact rateRow_apply (A_main_v147 a r) h i

theorem rateAgain_apply : A_main_v147 a r (ix1 h) = L a r (ix2 (0 : Fin 2) h) := rate0_apply a r h

theorem decayQ_apply (i : Fin 128) : A_main_v175 a r (ix4 h (0 : Fin 1) i (0 : Fin 1)) = decayQ (L a r (ix2 (0 : Fin 2) h)) i := by
  rw [← rateAgain_apply, ← v172_apply a r h i]
  unfold decayQ
  rw [← word_place]
  unfold A_main_v175 A_main_v174
  refine (exp_at _ _).trans (congrArg Ideal.exp ((product_at (A_main_v172 a r) K_main_v173 _).trans ?_))
  rw [v173_apply]
  rfl

theorem decayK_apply (i : Fin 128) : A_main_v160 a r (ix4 h (0 : Fin 1) i (0 : Fin 1)) = decayK (L a r (ix2 (0 : Fin 2) h)) i := by
  rw [← rateAgain_apply, ← v157_apply a r h i]
  unfold decayK
  rw [← word_place]
  unfold A_main_v160 A_main_v159
  refine (exp_at _ _).trans (congrArg Ideal.exp ((product_at (A_main_v157 a r) K_main_v158 _).trans ?_))
  rw [v158_apply]
  rfl

/-! ## What the loop takes -/

theorem v182_apply (i : Fin 128) (e : Fin 256) : A_main_v182 a r (ix5 n b h i e) = A_main_v151 a r (ix5 b h n i e) := by
  unfold A_main_v182
  exact transpose_apply _ (A_main_v151 a r) transposes_S2x8x64x128x256_S64x2x8x128x256_2_0_1_3_4 _ (ix5 b h n i e) (fun c => by
    match c with
    | ⟨0, _⟩ => rfl
    | ⟨1, _⟩ => rfl
    | ⟨2, _⟩ => rfl
    | ⟨3, _⟩ => rfl
    | ⟨4, _⟩ => rfl)

theorem v180_apply (i : Fin 128) (e : Fin 256) : A_main_v180 a r (ix5 n b h i e) = A_main_v178 a r (ix5 b h n i e) := by
  unfold A_main_v180
  exact transpose_apply _ (A_main_v178 a r) transposes_S2x8x64x128x256_S64x2x8x128x256_2_0_1_3_4 _ (ix5 b h n i e) (fun c => by
    match c with
    | ⟨0, _⟩ => rfl
    | ⟨1, _⟩ => rfl
    | ⟨2, _⟩ => rfl
    | ⟨3, _⟩ => rfl
    | ⟨4, _⟩ => rfl)

theorem v181_apply (i : Fin 256) (e : Fin 256) : A_main_v181 a r (ix5 n b h i e) = A_main_v164 a r (ix5 b h n i e) := by
  unfold A_main_v181
  exact transpose_apply _ (A_main_v164 a r) transposes_S2x8x64x256x256_S64x2x8x256x256_2_0_1_3_4 _ (ix5 b h n i e) (fun c => by
    match c with
    | ⟨0, _⟩ => rfl
    | ⟨1, _⟩ => rfl
    | ⟨2, _⟩ => rfl
    | ⟨3, _⟩ => rfl
    | ⟨4, _⟩ => rfl)

theorem ownTaken_apply (i : Fin 128) (e : Fin 256) : A_main_v182 a r (ix5 n b h i e)
    = own (L a r (ix2 (0 : Fin 2) h)) (L a r (ix2 (1 : Fin 2) h)) (qs a C S b h n) (ks a C S b h n) (vs a b h n) i e := by
  rw [v182_apply, own_apply]

theorem qTaken_apply (i : Fin 128) (d : Fin 256) : A_main_v180 a r (ix5 n b h i d)
    = qs a C S b h n i d * decayQ (L a r (ix2 (0 : Fin 2) h)) i := by
  rw [v180_apply, v178_apply, v148_apply, v177_apply, q_apply, decayQ_apply]

theorem addTaken_apply (d e : Fin 256) : A_main_v181 a r (ix5 n b h d e)
    = chunkAdd (L a r (ix2 (0 : Fin 2) h)) (ks a C S b h n) (vs a b h n) d e := by
  rw [v181_apply]
  unfold A_main_v164 chunkAdd
  rw [dotAdd]
  refine Finset.sum_congr rfl fun i _ => ?_
  rw [v163_apply, v149_apply, v162_apply, v150_apply, k_apply, v_apply, decayK_apply]

theorem decayTaken_apply : A_main_v168 a r (ix4 (0 : Fin 1) h (0 : Fin 1) (0 : Fin 1)) = decayC (L a r (ix2 (0 : Fin 2) h)) := by
  rw [← rate0_apply]
  exact broadcastInDim_apply _ bcast_S8_S1x8x1x1_1 _ _ (ix1 h) (fun c => by
    match c with
    | ⟨0, _⟩ => rfl)

end Args

end Cert.RetFwdRefIdeal.Operands
end
-- ==== Proof.RetFwdLoop.lean ====
/- The reference's loop over the chunks, read at the ideal values.

   A trip takes one chunk: it multiplies the chunk's decayed queries into the state, adds what the chunk's own keys add,
   writes that into the chunk's place of the result, and decays the state and adds the chunk's keys and values to it. After
   `n` trips the state is `state n` and the first `n` chunks of the result are those of `retention`. -/
module

public import proofs.«01_k».proof.Proof.RetFwdOperands
public import Idealize.ShloMosaic.Lib.WordCmp

@[expose] public section

set_option maxRecDepth 16384

noncomputable section

namespace Cert.RetFwdRefIdeal.Operands

open Cert.RetFwdRefIdeal Cert.RetFwdRefIdeal.Gen Cert.RetFwdRefIdeal.Step Idealize.ShloMosaic
open Cert.Proof.RetFwdMath
open Idealize.ShloMosaic.ValueIdx (ix1 ix2 ix3 ix4 ix5)

/-! ## A chunk of an array -/

/-- Where trip `n` reads and writes. -/
abbrev starts (n : ℕ) : Fin 5 → ℕ := ![n, 0, 0, 0, 0]

theorem word_chunk (n : Fin 64) : (BitVec.ofNat 32 n.val).toInt = (n.val : ℤ) :=
  (by decide +kernel : ∀ n : Fin 64, (BitVec.ofNat 32 n.val).toInt = (n.val : ℤ)) n

/-- The starting words name that place. -/
theorem starts_eq (n : Fin 64) (x : Fin 5 → (⟨S_, .i32⟩ : BufTy).Contents (Elt Ideal))
    (h0 : x 0 = constantI S_ 32 (BitVec.ofNat 32 n.val)) (h1 : x 1 = constantI S_ 32 0#32) (h2 : x 2 = constantI S_ 32 0#32)
    (h3 : x 3 = constantI S_ 32 0#32) (h4 : x 4 = constantI S_ 32 0#32) (k : Fin 5) :
    (x k (Shape.Idx.first h_S_)).toInt = ((starts n.val k : ℕ) : ℤ) := by
  match k with
  | ⟨0, _⟩ => exact (congrArg (fun z : (⟨S_, .i32⟩ : BufTy).Contents (Elt Ideal) => (z (Shape.Idx.first h_S_)).toInt) h0).trans (word_chunk n)
  | ⟨1, _⟩ => exact (congrArg (fun z : (⟨S_, .i32⟩ : BufTy).Contents (Elt Ideal) => (z (Shape.Idx.first h_S_)).toInt) h1)
  | ⟨2, _⟩ => exact (congrArg (fun z : (⟨S_, .i32⟩ : BufTy).Contents (Elt Ideal) => (z (Shape.Idx.first h_S_)).toInt) h2)
  | ⟨3, _⟩ => exact (congrArg (fun z : (⟨S_, .i32⟩ : BufTy).Contents (Elt Ideal) => (z (Shape.Idx.first h_S_)).toInt) h3)
  | ⟨4, _⟩ => exact (congrArg (fun z : (⟨S_, .i32⟩ : BufTy).Contents (Elt Ideal) => (z (Shape.Idx.first h_S_)).toInt) h4)

theorem fits_rows (n : Fin 64) : S64x2x8x128x256.Slices (starts n.val) S1x2x8x128x256 := ⟨rfl, fun a => by
  have hn := n.isLt
  match a with
  | ⟨0, _⟩ => show n.val + 1 ≤ 64; omega
  | ⟨1, _⟩ => show 0 + 2 ≤ 2; omega
  | ⟨2, _⟩ => show 0 + 8 ≤ 8; omega
  | ⟨3, _⟩ => show 0 + 128 ≤ 128; omega
  | ⟨4, _⟩ => show 0 + 256 ≤ 256; omega⟩

theorem fits_states (n : Fin 64) : S64x2x8x256x256.Slices (starts n.val) S1x2x8x256x256 := ⟨rfl, fun a => by
  have hn := n.isLt
  match a with
  | ⟨0, _⟩ => show n.val + 1 ≤ 64; omega
  | ⟨1, _⟩ => show 0 + 2 ≤ 2; omega
  | ⟨2, _⟩ => show 0 + 8 ≤ 8; omega
  | ⟨3, _⟩ => show 0 + 256 ≤ 256; omega
  | ⟨4, _⟩ => show 0 + 256 ≤ 256; omega⟩

/-- The rows a trip takes. -/
theorem rowsTaken_apply (n : Fin 64) (x : Vec Ideal S64x2x8x128x256 .f32) (st : Fin 5 → ℤ) (hst : ∀ k, st k = ((starts n.val k : ℕ) : ℤ))
    (b : Fin 2) (h : Fin 8) (i : Fin 128) (d : Fin 256) :
    shapeCast S2x8x128x256 (Host.dynamicSlice S1x2x8x128x256 x st sliceFits_S64x2x8x128x256_S1x2x8x128x256)
      shapeCasts_S1x2x8x128x256_S2x8x128x256 (ix4 b h i d) = x (ix5 n b h i d) := by
  rw [WordCmp.dynamicSlice_eq_extract _ x st _ (starts n.val) (fits_rows n) hst]
  rw [shapeCast_apply _ shapeCasts_S1x2x8x128x256_S2x8x128x256 _ (ix5 (0 : Fin 1) b h i d) (by
    rewrite [Shape.rowMajor_val_five, Shape.rowMajor_val_four]
    show (((0 * 2 + b.val) * 8 + h.val) * 128 + i.val) * 256 + d.val = ((b.val * 8 + h.val) * 128 + i.val) * 256 + d.val
    omega)]
  exact extractStridedSlice_apply _ x (fits_rows n) _ _ (fun a => by
    match a with
    | ⟨0, _⟩ => rfl
    | ⟨1, _⟩ => show b.val = 0 + b.val; omega
    | ⟨2, _⟩ => show h.val = 0 + h.val; omega
    | ⟨3, _⟩ => show i.val = 0 + i.val; omega
    | ⟨4, _⟩ => show d.val = 0 + d.val; omega)

/-- What a trip adds to the state. -/
theorem addsTaken_apply (n : Fin 64) (x : Vec Ideal S64x2x8x256x256 .f32) (st : Fin 5 → ℤ) (hst : ∀ k, st k = ((starts n.val k : ℕ) : ℤ))
    (b : Fin 2) (h : Fin 8) (i : Fin 256) (d : Fin 256) :
    shapeCast S2x8x256x256 (Host.dynamicSlice S1x2x8x256x256 x st sliceFits_S64x2x8x256x256_S1x2x8x256x256)
      shapeCasts_S1x2x8x256x256_S2x8x256x256 (ix4 b h i d) = x (ix5 n b h i d) := by
  rw [WordCmp.dynamicSlice_eq_extract _ x st _ (starts n.val) (fits_states n) hst]
  rw [shapeCast_apply _ shapeCasts_S1x2x8x256x256_S2x8x256x256 _ (ix5 (0 : Fin 1) b h i d) (by
    rewrite [Shape.rowMajor_val_five, Shape.rowMajor_val_four]
    show (((0 * 2 + b.val) * 8 + h.val) * 256 + i.val) * 256 + d.val = ((b.val * 8 + h.val) * 256 + i.val) * 256 + d.val
    omega)]
  exact extractStridedSlice_apply _ x (fits_states n) _ _ (fun a => by
    match a with
    | ⟨0, _⟩ => rfl
    | ⟨1, _⟩ => show b.val = 0 + b.val; omega
    | ⟨2, _⟩ => show h.val = 0 + h.val; omega
    | ⟨3, _⟩ => show i.val = 0 + i.val; omega
    | ⟨4, _⟩ => show d.val = 0 + d.val; omega)

/-- A trip's rows in the result after it. -/
theorem written_same (n : Fin 64) (x : Vec Ideal S64x2x8x128x256 .f32) (u : Vec Ideal S2x8x128x256 .f32) (st : Fin 5 → ℤ)
    (hst : ∀ k, st k = ((starts n.val k : ℕ) : ℤ)) (b : Fin 2) (h : Fin 8) (i : Fin 128) (d : Fin 256) :
    Host.dynamicUpdateSlice x (broadcastInDim S1x2x8x128x256 ![1, 2, 3, 4] bcast_S2x8x128x256_S1x2x8x128x256_1_2_3_4 u) st
      updateFits_S64x2x8x128x256_S1x2x8x128x256 (ix5 n b h i d) = u (ix4 b h i d) := by
  rw [WordCmp.dynamicUpdateSlice_eq_update x _ st _ (starts n.val) (fits_rows n) hst]
  unfold updateSlice
  rw [dif_pos (fun a => by
    match a with
    | ⟨0, _⟩ => show n.val ≤ n.val ∧ n.val < n.val + 1; omega
    | ⟨1, _⟩ => have := b.isLt; show 0 ≤ b.val ∧ b.val < 0 + 2; omega
    | ⟨2, _⟩ => have := h.isLt; show 0 ≤ h.val ∧ h.val < 0 + 8; omega
    | ⟨3, _⟩ => have := i.isLt; show 0 ≤ i.val ∧ i.val < 0 + 128; omega
    | ⟨4, _⟩ => have := d.isLt; show 0 ≤ d.val ∧ d.val < 0 + 256; omega)]
  exact broadcastInDim_apply _ bcast_S2x8x128x256_S1x2x8x128x256_1_2_3_4 u _ (ix4 b h i d) (fun a => by
    match a with
    | ⟨0, _⟩ => rfl
    | ⟨1, _⟩ => rfl
    | ⟨2, _⟩ => rfl
    | ⟨3, _⟩ => rfl)

/-- The other chunks' rows keep what they hold. -/
theorem written_other (n n' : Fin 64) (hn : n' ≠ n) (x : Vec Ideal S64x2x8x128x256 .f32) (u : Vec Ideal S1x2x8x128x256 .f32) (st : Fin 5 → ℤ)
    (hst : ∀ k, st k = ((starts n.val k : ℕ) : ℤ)) (b : Fin 2) (h : Fin 8) (i : Fin 128) (d : Fin 256) :
    Host.dynamicUpdateSlice x u st updateFits_S64x2x8x128x256_S1x2x8x128x256 (ix5 n' b h i d) = x (ix5 n' b h i d) := by
  rw [WordCmp.dynamicUpdateSlice_eq_update x _ st _ (starts n.val) (fits_rows n) hst]
  unfold updateSlice
  rw [dif_neg (fun hin => hn (Fin.ext (by
    have h0 : n.val ≤ n'.val ∧ n'.val < n.val + 1 := hin 0
    omega)))]

/-! ## The trips -/

/-- The loop's state after so many trips. -/
def refIter (a : Vec Ideal S112x16384x128 .bf16) (r : Vec Ideal S2x8 .f32) : ℕ → State Ideal
  | 0 => init a r
  | n + 1 => step n (refIter a r n)

section Args
variable (a : Vec Ideal S112x16384x128 .bf16) (r : Vec Ideal S2x8 .f32) (b : Fin 2) (h : Fin 8)

theorem kept0 (n : ℕ) : (refIter a r n).main_v184_0 = A_main_v180 a r := by
  induction n with
  | zero => unfold refIter init; rfl
  | succ n ih => unfold refIter step; exact ih
theorem kept1 (n : ℕ) : (refIter a r n).main_v184_1 = A_main_v181 a r := by
  induction n with
  | zero => unfold refIter init; rfl
  | succ n ih => unfold refIter step; exact ih
theorem kept2 (n : ℕ) : (refIter a r n).main_v184_2 = A_main_v182 a r := by
  induction n with
  | zero => unfold refIter init; rfl
  | succ n ih => unfold refIter step; exact ih
theorem kept3 (n : ℕ) : (refIter a r n).main_v184_3 = A_main_v168 a r := by
  induction n with
  | zero => unfold refIter init; rfl
  | succ n ih => unfold refIter step; exact ih

theorem zeros_apply (d e : Fin 256) : K_main_v179 (F := Ideal) (ix4 b h d e) = 0 := by
  rw [← Ideal.ofBits_zero_f32]
  unfold K_main_v179
  rfl

theorem ofNat_eq (n : Fin 64) : Fin.ofNat 64 n.val = n := Fin.ext (Nat.mod_eq_of_lt n.isLt)

/-- The chunk's decayed queries a trip takes. -/
theorem b5_apply (n : Fin 64) (i : Fin 128) (d : Fin 256) : b5 n.val (refIter a r n.val) (ix4 b h i d)
    = qs a C S b h n i d * decayQ (L a r (ix2 (0 : Fin 2) h)) i := by
  rw [← qTaken_apply, ← kept0 a r n.val]
  unfold b5 b4
  exact rowsTaken_apply n (refIter a r n.val).main_v184_0 _ (starts_eq n _ rfl rfl rfl rfl rfl) b h i d

theorem b11_apply (n : Fin 64) (d e : Fin 256) : b11 n.val (refIter a r n.val) (ix4 b h d e)
    = chunkAdd (L a r (ix2 (0 : Fin 2) h)) (ks a C S b h n) (vs a b h n) d e := by
  rw [← addTaken_apply, ← kept1 a r n.val]
  unfold b11 b10
  exact addsTaken_apply n (refIter a r n.val).main_v184_1 _ (starts_eq n _ rfl rfl rfl rfl rfl) b h d e

theorem b17_apply (n : Fin 64) (i : Fin 128) (e : Fin 256) : b17 n.val (refIter a r n.val) (ix4 b h i e)
    = own (L a r (ix2 (0 : Fin 2) h)) (L a r (ix2 (1 : Fin 2) h)) (qs a C S b h n) (ks a C S b h n) (vs a b h n) i e := by
  rw [← ownTaken_apply, ← kept2 a r n.val]
  unfold b17 b16
  exact rowsTaken_apply n (refIter a r n.val).main_v184_2 _ (starts_eq n _ rfl rfl rfl rfl rfl) b h i e

theorem b18_apply (n : ℕ) (d e : Fin 256) : b18 n (refIter a r n) (ix4 b h d e) = decayC (L a r (ix2 (0 : Fin 2) h)) := by
  rw [← decayTaken_apply, ← kept3 a r n]
  unfold b18
  exact broadcastInDim_apply _ bcast_S1x8x1x1_S2x8x256x256_0_1_2_3 (refIter a r n).main_v184_3 _ (ix4 (0 : Fin 1) h (0 : Fin 1) (0 : Fin 1)) (fun c => by
    match c with
    | ⟨0, _⟩ => rfl
    | ⟨1, _⟩ => rfl
    | ⟨2, _⟩ => rfl
    | ⟨3, _⟩ => rfl)

/-- The state after `n` trips. -/
theorem state_apply (n : ℕ) (hn : n ≤ 64) (d e : Fin 256) : (refIter a r n).main_v184_5 (ix4 b h d e)
    = state (L a r (ix2 (0 : Fin 2) h)) (ks a C S b h) (vs a b h) n d e := by
  induction n generalizing d e with
  | zero =>
    unfold refIter init state
    exact zeros_apply b h d e
  | succ n ih =>
    have hn' : n < 64 := by omega
    unfold refIter state chunkNext
    rw [step_main_v184_5, ofNat_eq ⟨n, hn'⟩, ← b11_apply a r b h ⟨n, hn'⟩, ← ih (by omega), ← b18_apply a r b h n d e]
    unfold b20 b19
    exact (sum_at _ (b11 n (refIter a r n)) _).trans (congrArg (· + _) (product_at (b18 n (refIter a r n)) (refIter a r n).main_v184_5 _))

/-- A trip's rows. -/
theorem b22_apply (n : Fin 64) (i : Fin 128) (e : Fin 256) : b22 n.val (refIter a r n.val) (ix4 b h i e) = retention a (L a r) C S b h n i e := by
  unfold retention chunkOut
  rw [← b17_apply]
  unfold b22
  refine (sum_at (b17 n.val (refIter a r n.val)) (b21 n.val (refIter a r n.val)) _).trans (congrArg (_ + ·) ?_)
  unfold b21
  rw [dotState]
  refine Finset.sum_congr rfl fun d _ => ?_
  rw [b5_apply, state_apply a r b h n.val (le_of_lt n.isLt)]

/-- The chunks written after `n` trips. -/
theorem written_apply (n : ℕ) (hn : n ≤ 64) (n' : Fin 64) (hlt : n'.val < n) (i : Fin 128) (e : Fin 256) :
    (refIter a r n).main_v184_6 (ix5 n' b h i e) = retention a (L a r) C S b h n' i e := by
  induction n with
  | zero => exact absurd hlt (Nat.not_lt_zero _)
  | succ n ih =>
    have hn' : n < 64 := by omega
    unfold refIter
    rw [step_main_v184_6]
    unfold b28 b23
    by_cases hd : n' = ⟨n, hn'⟩
    · subst hd
      rw [← b22_apply]
      exact written_same ⟨n, hn'⟩ (refIter a r n).main_v184_6 (b22 n (refIter a r n)) _ (starts_eq ⟨n, hn'⟩ _ rfl rfl rfl rfl rfl) b h i e
    · have hv : n'.val ≠ n := fun hv => hd (Fin.ext hv)
      rw [← ih (by omega) (by omega)]
      exact written_other ⟨n, hn'⟩ n' hd (refIter a r n).main_v184_6 _ _ (starts_eq ⟨n, hn'⟩ _ rfl rfl rfl rfl rfl) b h i e

end Args

/-! ## The result -/

/-- The result's slabs from the chunks. -/
theorem slabsOut_apply (x : Vec Ideal S64x2x8x128x256 .f32) (y : S16x16384x128.Idx) (b : Fin 2) (h : Fin 8) (n : Fin 64) (i : Fin 128) (e : Fin 256)
    (hb : b.val = (y 1).val / 8192) (hh : h.val = (y 0).val / 2) (hn : n.val = (y 1).val % 8192 / 128) (hi : i.val = (y 1).val % 128)
    (he : e.val = 128 * ((y 0).val % 2) + (y 2).val) :
    shapeCast S16x16384x128 (transpose S8x2x2x8192x128 [1, 3, 0, 2, 4] (shapeCast S2x8x8192x2x128 (shapeCast S2x8x8192x256
      (transpose S2x8x64x128x256 [1, 2, 0, 3, 4] x transposes_S64x2x8x128x256_S2x8x64x128x256_1_2_0_3_4) shapeCasts_S2x8x64x128x256_S2x8x8192x256)
      shapeCasts_S2x8x8192x256_S2x8x8192x2x128) transposes_S2x8x8192x2x128_S8x2x2x8192x128_1_3_0_2_4) shapeCasts_S8x2x2x8192x128_S16x16384x128 y
      = x (ix5 n b h i e) := by
  have h0 : (y 0).val < 16 := (y 0).isLt
  have h1 : (y 1).val < 16384 := (y 1).isLt
  have h2 : (y 2).val < 128 := (y 2).isLt
  rw [shapeCast_apply _ shapeCasts_S8x2x2x8192x128_S16x16384x128 y (ix5 h (⟨(y 0).val % 2, by omega⟩ : Fin 2) b (row n i) (⟨(y 2).val, h2⟩ : Fin 128)) (by
    rewrite [Shape.rowMajor_val_five, Shape.rowMajor_val_three]
    show (((h.val * 2 + (y 0).val % 2) * 2 + b.val) * 8192 + (128 * n.val + i.val)) * 128 + (y 2).val = ((y 0).val * 16384 + (y 1).val) * 128 + (y 2).val
    omega)]
  rw [transpose_apply _ _ transposes_S2x8x8192x2x128_S8x2x2x8192x128_1_3_0_2_4 _
    (ix5 b h (row n i) (⟨(y 0).val % 2, by omega⟩ : Fin 2) (⟨(y 2).val, h2⟩ : Fin 128)) (fun a => by
    match a with
    | ⟨0, _⟩ => rfl
    | ⟨1, _⟩ => rfl
    | ⟨2, _⟩ => rfl
    | ⟨3, _⟩ => rfl
    | ⟨4, _⟩ => rfl)]
  rw [shapeCast_apply _ shapeCasts_S2x8x8192x256_S2x8x8192x2x128 _ (ix4 b h (row n i) e) (by
    rewrite [Shape.rowMajor_val_five, Shape.rowMajor_val_four]
    show ((b.val * 8 + h.val) * 8192 + (128 * n.val + i.val)) * 256 + e.val
      = (((b.val * 8 + h.val) * 8192 + (128 * n.val + i.val)) * 2 + (y 0).val % 2) * 128 + (y 2).val
    omega)]
  rw [joined_apply]
  exact transpose_apply _ x transposes_S64x2x8x128x256_S2x8x64x128x256_1_2_0_3_4 _ (ix5 n b h i e) (fun a => by
    match a with
    | ⟨0, _⟩ => rfl
    | ⟨1, _⟩ => rfl
    | ⟨2, _⟩ => rfl
    | ⟨3, _⟩ => rfl
    | ⟨4, _⟩ => rfl)

/-- The reference's result. -/
theorem result_eq (a : Vec Ideal S112x16384x128 .bf16) (r : Vec Ideal S2x8 .f32) :
    R_main_v189 (refIter a r 64) = result a (L a r) C S := by
  funext y
  have h0 : (y 0).val < 16 := (y 0).isLt
  have h1 : (y 1).val < 16384 := (y 1).isLt
  have h2 : (y 2).val < 128 := (y 2).isLt
  unfold R_main_v189 result
  refine (slabsOut_apply (refIter a r 64).main_v184_6 y ⟨(y 1).val / 8192, by omega⟩ ⟨(y 0).val / 2, by omega⟩
    ⟨(y 1).val % 8192 / 128, by omega⟩ ⟨(y 1).val % 128, by omega⟩ ⟨128 * ((y 0).val % 2) + (y 2).val, by omega⟩ rfl rfl rfl rfl rfl).trans ?_
  exact written_apply a r _ _ 64 le_rfl _ (Fin.isLt _) _ _

end Cert.RetFwdRefIdeal.Operands
end
-- ==== Proof.RetFwdValue.lean ====
/- The retention kernel's forward call, read at the ideal values.

   The grid walks the batches, in each the eight heads and in each of those eight row blocks of eight chunks. The scratch
   carries a head's state from one row block to the next, so after a row block's point it holds `state` at the chunk after
   the block, and the block written is the one `retention` has there. -/
module

public import proofs.«01_k».proof.Proof.Gen.RetFwdIdeal.Value
public import proofs.«01_k».proof.Proof.RetFwdChunk
public import proofs.«01_k».proof.Proof.RetFwdLoop
public import Idealize.ShloMosaic.Lib.Pipeline.ValueKit.Geometry

@[expose] public section

set_option maxRecDepth 16384

noncomputable section

namespace Cert.RetFwdIdeal.Retention

open Cert.RetFwdIdeal Cert.RetFwdIdeal.Gen Cert.RetFwdIdeal.Value
open Idealize.ShloMosaic Idealize.ShloMosaic.TcCoe Idealize.SL.Sem
open Cert.Proof.RetFwdMath

variable (m : (ℓ : Loc nD τ sig) → Buf (Elt Ideal) ℓ) (c : Dev nD)

/-- The arguments: the projected tokens' slabs and the decays. -/
abbrev slabsArg : Slabs := m ((c : Thread nD τ).loc main_arg0)
abbrev decaysArg : Rates := m ((c : Thread nD τ).loc main_arg1)
/-- The rates, the cosines and the sines. -/
abbrev ratesOf : Rates := Cert.RetFwdRefIdeal.Operands.L (slabsArg m c) (decaysArg m c)
abbrev cosines : Cert.Proof.RetFwdMath.Table := Cert.RetFwdRefIdeal.Operands.C
abbrev sines : Cert.Proof.RetFwdMath.Table := Cert.RetFwdRefIdeal.Operands.S

/-! ## What the call finds -/

theorem rates_at_entry : V m c main_v5 = ratesOf m c := by
  show StableHlo.after (List.flatten [hostOps0, hostOps0_1, hostOps0_2]) _ (Proc.devRef .tc main_v5) = _
  simp only [List.flatten_cons, List.flatten_nil, List.append_nil, List.cons_append, List.nil_append]
  after_results
  rfl

theorem cosines_at_entry : V m c main_v16 = cosines := by
  show StableHlo.after (List.flatten [hostOps0, hostOps0_1, hostOps0_2]) _ (Proc.devRef .tc main_v16) = _
  simp only [List.flatten_cons, List.flatten_nil, List.append_nil, List.cons_append, List.nil_append]
  after_results
  rfl

theorem sines_at_entry : V m c main_v17 = sines := by
  show StableHlo.after (List.flatten [hostOps0, hostOps0_1, hostOps0_2]) _ (Proc.devRef .tc main_v17) = _
  simp only [List.flatten_cons, List.flatten_nil, List.append_nil, List.cons_append, List.nil_append]
  after_results
  rfl

/-! ## Where a point is -/

theorem points (t : Fin cfg0.N) : t.val < 128 := lt_of_lt_of_eq t.isLt (show cfg0.N = 128 from N_0)

/-- A point's batch, head, and the chunks of its row block. -/
abbrev batch (t : Fin cfg0.N) : Fin 2 := ⟨t.val / 64, by have := points t; omega⟩
abbrev head (t : Fin cfg0.N) : Fin 8 := ⟨t.val / 8 % 8, by omega⟩
abbrev chunkOf (t : Fin cfg0.N) (k : Fin 8) : Fin 64 := ⟨8 * (t.val % 8) + k.val, by omega⟩

theorem index_facts : ∀ t : Fin cfg0.N,
    (win0_1.index t (0 : Fin 3) = t.val / 8 % 8 ∧ win0_1.index t (1 : Fin 3) = t.val / 64 * 8 + t.val % 8 ∧ win0_1.index t (2 : Fin 3) = 0)
    ∧ (win0_2.index t (0 : Fin 3) = 8 + t.val / 8 % 8 ∧ win0_2.index t (1 : Fin 3) = t.val / 64 * 8 + t.val % 8 ∧ win0_2.index t (2 : Fin 3) = 0)
    ∧ (win0_3.index t (0 : Fin 3) = 16 + t.val / 8 % 8 ∧ win0_3.index t (1 : Fin 3) = t.val / 64 * 8 + t.val % 8 ∧ win0_3.index t (2 : Fin 3) = 0)
    ∧ (win0_4.index t (0 : Fin 2) = t.val % 8 ∧ win0_4.index t (1 : Fin 2) = 0)
    ∧ (win0_5.index t (0 : Fin 2) = t.val % 8 ∧ win0_5.index t (1 : Fin 2) = 0)
    ∧ (win0_6.index t (0 : Fin 3) = t.val / 8 % 8 ∧ win0_6.index t (1 : Fin 3) = t.val / 64 * 8 + t.val % 8 ∧ win0_6.index t (2 : Fin 3) = 0)
    ∧ (grid0.coords t 1).val = t.val / 8 % 8 :=
  (by decide +kernel : ∀ t : Fin grid0.N, _)

theorem index_zero : ∀ t : Fin cfg0.N, win0_0.index t (0 : Fin 2) = 0 ∧ win0_0.index t (1 : Fin 2) = 0 :=
  (by decide +kernel : ∀ t : Fin grid0.N, _)

/-! ## The blocks a point sees -/

/-- The table of rates, whole at every point. -/
theorem rates_block (t : Fin cfg0.N) (y : S2x8.Idx) : iblk m c 0 t y = ratesOf m c y := by
  obtain ⟨e0, e1⟩ := index_zero t
  rw [← rates_at_entry m c]
  show V m c main_v5 (((cfg0.win 0).blk t).view.emb y) = _
  refine congrArg _ (funext fun a => Fin.ext ?_)
  match a with
  | ⟨0, _⟩ => show win0_0.index t (0 : Fin 2) * 2 + 1 * (y 0).val = (y 0).val; omega
  | ⟨1, _⟩ => show win0_0.index t (1 : Fin 2) * 8 + 1 * (y 1).val = (y 1).val; omega

/-- The scalar a point loads. -/
theorem rate_apply (t : Fin cfg0.N) (d : Fin 2) : logAt (grid0.coords t) (iblk m c 0 t) d = ratesOf m c (ValueIdx.ix2 d (head t)) := by
  obtain ⟨-, -, -, -, -, -, e⟩ := index_facts t
  rw [logAt_eq, rates_block]
  refine congrArg _ (funext fun a => Fin.ext ?_)
  match a with
  | ⟨0, _⟩ => rfl
  | ⟨1, _⟩ => exact e

theorem q_block (t : Fin cfg0.N) (k : Fin 8) (p : Fin 2) (i l : Fin 128) :
    slab (iblk m c 1 t) p k (ValueIdx.ix3 (0 : Fin 1) i l) = part (slabsArg m c) 0 (by decide) (batch t) (head t) (chunkOf t k) i p l := by
  obtain ⟨⟨e0, e1, e2⟩, -⟩ := index_facts t
  have hk := k.isLt
  rw [slab_apply _ p k i l (ValueIdx.ix3 p (⟨128 * k.val + i.val, by omega⟩ : Fin 1024) l) rfl rfl rfl]
  unfold part
  rw [slabsArg, ← V_main_arg0 m c]
  show V m c main_arg0 (((cfg0.win 1).blk t).view.emb _) = _
  refine congrArg _ (funext fun a => Fin.ext ?_)
  match a with
  | ⟨0, _⟩ => show win0_1.index t (0 : Fin 3) * 2 + 1 * p.val = 0 + 2 * (t.val / 8 % 8) + p.val; omega
  | ⟨1, _⟩ => show win0_1.index t (1 : Fin 3) * 1024 + 1 * (128 * k.val + i.val) = 8192 * (t.val / 64) + 128 * (8 * (t.val % 8) + k.val) + i.val; omega
  | ⟨2, _⟩ => show win0_1.index t (2 : Fin 3) * 128 + 1 * l.val = l.val; omega

theorem k_block (t : Fin cfg0.N) (k : Fin 8) (p : Fin 2) (i l : Fin 128) :
    slab (iblk m c 2 t) p k (ValueIdx.ix3 (0 : Fin 1) i l) = part (slabsArg m c) 16 (by decide) (batch t) (head t) (chunkOf t k) i p l := by
  obtain ⟨-, ⟨e0, e1, e2⟩, -⟩ := index_facts t
  have hk := k.isLt
  rw [slab_apply _ p k i l (ValueIdx.ix3 p (⟨128 * k.val + i.val, by omega⟩ : Fin 1024) l) rfl rfl rfl]
  unfold part
  rw [slabsArg, ← V_main_arg0 m c]
  show V m c main_arg0 (((cfg0.win 2).blk t).view.emb _) = _
  refine congrArg _ (funext fun a => Fin.ext ?_)
  match a with
  | ⟨0, _⟩ => show win0_2.index t (0 : Fin 3) * 2 + 1 * p.val = 16 + 2 * (t.val / 8 % 8) + p.val; omega
  | ⟨1, _⟩ => show win0_2.index t (1 : Fin 3) * 1024 + 1 * (128 * k.val + i.val) = 8192 * (t.val / 64) + 128 * (8 * (t.val % 8) + k.val) + i.val; omega
  | ⟨2, _⟩ => show win0_2.index t (2 : Fin 3) * 128 + 1 * l.val = l.val; omega

theorem v_block (t : Fin cfg0.N) (k : Fin 8) (p : Fin 2) (i l : Fin 128) :
    slab (iblk m c 3 t) p k (ValueIdx.ix3 (0 : Fin 1) i l) = part (slabsArg m c) 32 (by decide) (batch t) (head t) (chunkOf t k) i p l := by
  obtain ⟨-, -, ⟨e0, e1, e2⟩, -⟩ := index_facts t
  have hk := k.isLt
  rw [slab_apply _ p k i l (ValueIdx.ix3 p (⟨128 * k.val + i.val, by omega⟩ : Fin 1024) l) rfl rfl rfl]
  unfold part
  rw [slabsArg, ← V_main_arg0 m c]
  show V m c main_arg0 (((cfg0.win 3).blk t).view.emb _) = _
  refine congrArg _ (funext fun a => Fin.ext ?_)
  match a with
  | ⟨0, _⟩ => show win0_3.index t (0 : Fin 3) * 2 + 1 * p.val = 32 + 2 * (t.val / 8 % 8) + p.val; omega
  | ⟨1, _⟩ => show win0_3.index t (1 : Fin 3) * 1024 + 1 * (128 * k.val + i.val) = 8192 * (t.val / 64) + 128 * (8 * (t.val % 8) + k.val) + i.val; omega
  | ⟨2, _⟩ => show win0_3.index t (2 : Fin 3) * 128 + 1 * l.val = l.val; omega

theorem cos_block (t : Fin cfg0.N) (k : Fin 8) (i l : Fin 128) :
    rows (iblk m c 4 t) k (ValueIdx.ix2 i l) = tableRow cosines (chunkOf t k) i l := by
  obtain ⟨-, -, -, ⟨e0, e1⟩, -⟩ := index_facts t
  have hk := k.isLt
  rw [rows_apply _ k i l (ValueIdx.ix2 (⟨128 * k.val + i.val, by omega⟩ : Fin 1024) l) rfl rfl]
  unfold tableRow
  rw [← cosines_at_entry m c]
  show V m c main_v16 (((cfg0.win 4).blk t).view.emb _) = _
  refine congrArg _ (funext fun a => Fin.ext ?_)
  match a with
  | ⟨0, _⟩ => show win0_4.index t (0 : Fin 2) * 1024 + 1 * (128 * k.val + i.val) = 128 * (8 * (t.val % 8) + k.val) + i.val; omega
  | ⟨1, _⟩ => show win0_4.index t (1 : Fin 2) * 128 + 1 * l.val = l.val; omega

theorem sin_block (t : Fin cfg0.N) (k : Fin 8) (i l : Fin 128) :
    rows (iblk m c 5 t) k (ValueIdx.ix2 i l) = tableRow sines (chunkOf t k) i l := by
  obtain ⟨-, -, -, -, ⟨e0, e1⟩, -⟩ := index_facts t
  have hk := k.isLt
  rw [rows_apply _ k i l (ValueIdx.ix2 (⟨128 * k.val + i.val, by omega⟩ : Fin 1024) l) rfl rfl]
  unfold tableRow
  rw [← sines_at_entry m c]
  show V m c main_v17 (((cfg0.win 5).blk t).view.emb _) = _
  refine congrArg _ (funext fun a => Fin.ext ?_)
  match a with
  | ⟨0, _⟩ => show win0_5.index t (0 : Fin 2) * 1024 + 1 * (128 * k.val + i.val) = 128 * (8 * (t.val % 8) + k.val) + i.val; omega
  | ⟨1, _⟩ => show win0_5.index t (1 : Fin 2) * 128 + 1 * l.val = l.val; omega

/-! ## A chunk's operands -/

theorem queries_block (t : Fin cfg0.N) (k : Fin 8) (i : Fin 128) (d : Fin 256) :
    queries (iblk m c 1 t) (iblk m c 4 t) (iblk m c 5 t) k (ValueIdx.ix2 i d)
      = qs (slabsArg m c) cosines sines (batch t) (head t) (chunkOf t k) i d := by
  unfold queries qs
  rw [pay10_apply, funext (q_block m c t k 0 i), funext (q_block m c t k 1 i), funext (cos_block m c t k i), funext (sin_block m c t k i)]

theorem keys_block (t : Fin cfg0.N) (k : Fin 8) (i : Fin 128) (d : Fin 256) :
    keys (iblk m c 2 t) (iblk m c 4 t) (iblk m c 5 t) k (ValueIdx.ix2 i d)
      = ks (slabsArg m c) cosines sines (batch t) (head t) (chunkOf t k) i d := by
  unfold keys ks
  rw [pay11_apply, funext (k_block m c t k 0 i), funext (k_block m c t k 1 i), funext (cos_block m c t k i), funext (sin_block m c t k i)]

theorem vals_block (t : Fin cfg0.N) (k : Fin 8) (i : Fin 128) (e : Fin 256) :
    vals (iblk m c 3 t) k (ValueIdx.ix2 i e) = vs (slabsArg m c) (batch t) (head t) (chunkOf t k) i e := by
  unfold vals vs
  rw [pay12_apply, funext (v_block m c t k 0 i), funext (v_block m c t k 1 i)]

/-! ## The state -/

/-- A head's state before chunk `n`. -/
abbrev stateOf (b : Fin 2) (h : Fin 8) (n : ℕ) : Fin 256 → Fin 256 → EReal :=
  state (ratesOf m c (ValueIdx.ix2 (0 : Fin 2) h)) (ks (slabsArg m c) cosines sines b h) (vs (slabsArg m c) b h) n

/-- Inside a row block the state goes on from chunk to chunk. -/
theorem chain_apply (t : Fin cfg0.N) (S : Vec Ideal S256x256 .f32)
    (hS : ∀ d e, S (ValueIdx.ix2 d e) = stateOf m c (batch t) (head t) (8 * (t.val % 8)) d e) (n : ℕ) (hn : n ≤ 8) (d e : Fin 256) :
    chain (logAt (grid0.coords t) (iblk m c 0 t) 0) (iblk m c 2 t) (iblk m c 3 t) (iblk m c 4 t) (iblk m c 5 t) S n (ValueIdx.ix2 d e)
      = stateOf m c (batch t) (head t) (8 * (t.val % 8) + n) d e := by
  induction n generalizing d e with
  | zero => exact hS d e
  | succ n ih =>
    have hn' : n < 8 := by omega
    have ek : Fin.ofNat 8 n = ⟨n, hn'⟩ := Fin.ext (Nat.mod_eq_of_lt hn')
    have ec : Fin.ofNat 64 (8 * (t.val % 8) + n) = chunkOf t ⟨n, hn'⟩ := Fin.ext (Nat.mod_eq_of_lt (by omega))
    unfold chain stateOf state
    simp only [Nat.add_eq]
    rw [ek, ec, ← rate_apply m c t 0]
    exact next_apply _ _ _ _ _ _ _ _ _ _ (keys_block m c t ⟨n, hn'⟩) (vals_block m c t ⟨n, hn'⟩)
      (fun d e => (ih (by omega) d e).trans (by rw [stateOf, ← rate_apply m c t 0])) d e

theorem zeros_apply (d e : Fin 256) : k0_pay2 (F := Ideal) (ValueIdx.ix2 d e) = 0 := by
  rw [← Ideal.ofBits_zero_f32]
  unfold k0_pay2
  rfl

/-- After every point the scratch holds the state after the point's row block. -/
theorem scratch_eq : ∀ (n : ℕ) (h : n < cfg0.N) (d e : Fin 256), (outsAt0 m c n h).2 (ValueIdx.ix2 d e)
    = stateOf m c (batch ⟨n, h⟩) (head ⟨n, h⟩) (8 * (n % 8) + 8) d e := by
  intro n
  induction n with
  | zero =>
    intro h d e
    rw [outsAt0_A m c ⟨0, h⟩ (Nat.zero_mod _)]
    dsimp only
    rw [scratch_A]
    exact chain_apply m c ⟨0, h⟩ _ (fun d e => zeros_apply d e) 8 le_rfl d e
  | succ n ih =>
    intro h d e
    by_cases h0 : (n + 1) % 8 = 0
    · rw [outsAt0_A m c ⟨n + 1, h⟩ h0]
      dsimp only
      rw [scratch_A]
      refine chain_apply m c ⟨n + 1, h⟩ _ (fun d e => (zeros_apply d e).trans ?_) 8 le_rfl d e
      show 0 = stateOf m c _ _ (8 * ((n + 1) % 8)) d e
      rw [h0]
      rfl
    · rw [outsAt0_B m c ⟨n + 1, h⟩ h0]
      dsimp only
      rw [scratch_B]
      refine chain_apply m c ⟨n + 1, h⟩ _ (fun d e => (ih (by omega) d e).trans ?_) 8 le_rfl d e
      have eb : batch ⟨n, by omega⟩ = batch ⟨n + 1, h⟩ := Fin.ext (by show n / 64 = (n + 1) / 64; omega)
      have eh : head ⟨n, by omega⟩ = head ⟨n + 1, h⟩ := Fin.ext (by show n / 8 % 8 = (n + 1) / 8 % 8; omega)
      have es : 8 * (n % 8) + 8 = 8 * ((n + 1) % 8) := by omega
      rw [eb, eh, es]

/-- A block of outputs over the state before its row block. -/
theorem blockOut_apply (t : Fin cfg0.N) (S : Vec Ideal S256x256 .f32)
    (hS : ∀ d e, S (ValueIdx.ix2 d e) = stateOf m c (batch t) (head t) (8 * (t.val % 8)) d e) (y : S2x1024x128.Idx) (z : S16x16384x128.Idx)
    (h0 : (z 0).val = 2 * (t.val / 8 % 8) + (y 0).val) (h1 : (z 1).val = 8192 * (t.val / 64) + 1024 * (t.val % 8) + (y 1).val) (h2 : (z 2).val = (y 2).val) :
    blockOut (logAt (grid0.coords t) (iblk m c 0 t) 0) (logAt (grid0.coords t) (iblk m c 0 t) 1) (iblk m c 1 t) (iblk m c 2 t) (iblk m c 3 t)
      (iblk m c 4 t) (iblk m c 5 t) S y = result (slabsArg m c) (ratesOf m c) cosines sines z := by
  have hp := points t
  have y0 : (y 0).val < 2 := (y 0).isLt
  have y1 : (y 1).val < 1024 := (y 1).isLt
  have y2 : (y 2).val < 128 := (y 2).isLt
  have eb : (⟨(z 1).val / 8192, by omega⟩ : Fin 2) = batch t := Fin.ext (by show (z 1).val / 8192 = t.val / 64; omega)
  have eh : (⟨(z 0).val / 2, by omega⟩ : Fin 8) = head t := Fin.ext (by show (z 0).val / 2 = t.val / 8 % 8; omega)
  have en : (⟨(z 1).val % 8192 / 128, by omega⟩ : Fin 64) = chunkOf t ⟨(y 1).val / 128, by omega⟩ :=
    Fin.ext (by show (z 1).val % 8192 / 128 = 8 * (t.val % 8) + (y 1).val / 128; omega)
  have ei : (⟨(z 1).val % 128, by omega⟩ : Fin 128) = ⟨(y 1).val % 128, by omega⟩ := Fin.ext (by show (z 1).val % 128 = (y 1).val % 128; omega)
  have ee : (⟨128 * ((z 0).val % 2) + (z 2).val, by omega⟩ : Fin 256) = ⟨128 * (y 0).val + (y 2).val, by omega⟩ :=
    Fin.ext (by show 128 * ((z 0).val % 2) + (z 2).val = 128 * (y 0).val + (y 2).val; omega)
  unfold blockOut result
  dsimp only
  rw [eb, eh, en, ei, ee]
  unfold retention
  rw [← rate_apply m c t 0, ← rate_apply m c t 1]
  exact output_apply _ _ _ _ _ _ _ _ _ _ _ _ _ (queries_block m c t _) (keys_block m c t _) (vals_block m c t _)
    (fun d e => (chain_apply m c t S hS _ (by omega) d e).trans (by rw [stateOf, ← rate_apply m c t 0])) _ _

/-- What every point writes. -/
theorem block_eq (n : ℕ) (h : n < cfg0.N) (y : S2x1024x128.Idx) (z : S16x16384x128.Idx)
    (h0 : (z 0).val = 2 * (n / 8 % 8) + (y 0).val) (h1 : (z 1).val = 8192 * (n / 64) + 1024 * (n % 8) + (y 1).val) (h2 : (z 2).val = (y 2).val) :
    (outsAt0 m c n h).1 y = result (slabsArg m c) (ratesOf m c) cosines sines z := by
  by_cases hA : n % 8 = 0
  · rw [outsAt0_A m c ⟨n, h⟩ hA]
    dsimp only
    rw [out_A]
    refine blockOut_apply m c ⟨n, h⟩ _ (fun d e => (zeros_apply d e).trans ?_) y z h0 h1 h2
    show 0 = stateOf m c _ _ (8 * (n % 8)) d e
    rw [hA]
    rfl
  · rw [outsAt0_B m c ⟨n, h⟩ hA]
    dsimp only
    rw [out_B]
    refine blockOut_apply m c ⟨n, h⟩ _ (fun d e => (scratch_eq m c (n - 1) (by omega) d e).trans ?_) y z h0 h1 h2
    have eb : batch ⟨n - 1, by omega⟩ = batch ⟨n, h⟩ := Fin.ext (by show (n - 1) / 64 = n / 64; omega)
    have eh : head ⟨n - 1, by omega⟩ = head ⟨n, h⟩ := Fin.ext (by show (n - 1) / 8 % 8 = n / 8 % 8; omega)
    have es : 8 * ((n - 1) % 8) + 8 = 8 * (n % 8) := by omega
    rw [eb, eh, es]

/-! ## The array -/

theorem covers : (cfg0.win 6).Covers := by decide +kernel

/-- The array the call leaves. -/
theorem array_eq : (dats m 0 c).arrAt 6 cfg0.N = result (slabsArg m c) (ratesOf m c) cosines sines :=
  (dats m 0 c).arrAt_eq_of_covers 6 _ covers (fun t _ y => by
    obtain ⟨-, -, -, -, -, ⟨e0, e1, e2⟩, -⟩ := index_facts t
    rw [after0_6]
    refine block_eq m c t.val t.isLt _ (((cfg0.win 6).blk t).view.emb y) ?_ ?_ ?_
    · show win0_6.index t (0 : Fin 3) * 2 + 1 * (y 0).val = 2 * (t.val / 8 % 8) + (y 0).val; omega
    · show win0_6.index t (1 : Fin 3) * 1024 + 1 * (y 1).val = 8192 * (t.val / 64) + 1024 * (t.val % 8) + (y 1).val; omega
    · show win0_6.index t (2 : Fin 3) * 128 + 1 * (y 2).val = (y 2).val; omega)

end Cert.RetFwdIdeal.Retention
end
-- ==== Proof.RetFwdClaims.lean ====
/- The claims about the retention's forward call: the runs, and that the kernel's result is the reference's. -/
module

public import proofs.«01_k».proof.Defs
public import proofs.«01_k».proof.Proof.Gen.RetFwd.Frame
public import proofs.«01_k».proof.Proof.RetFwdEntry
public import proofs.«01_k».proof.Proof.RetFwdValue

@[expose] public section

noncomputable section

namespace Cert.Proof.RetFwdClaims

open Idealize.ShloMosaic Idealize.SL.Sem

/-- The kernel runs at the machine's words and keeps its arguments. -/
theorem frame_kernel : Cert.quiescent_RetFwd := fun m ρ _ => Cert.RetFwd.Gen.frame m ρ

/-- So does its idealized text at the ideal values. -/
theorem frame_ideal : Cert.quiescent_RetFwdIdeal := fun m ρ _ => Cert.RetFwdIdeal.Gen.frame m ρ

section Reference
open Cert.RetFwdRefIdeal

variable (m : (ℓ : Loc nD τ sig) → Buf (Elt Ideal) ℓ) (ρ : Dev nD → PrngReg)

/-- What the reference leaves: the retention of its arguments. -/
theorem reference_run : θ_run (defs (F := Ideal)) (onTc (τ := τ) (main (F := Ideal))) ⟨m, fun _ => 0, ρ⟩ fun r => ∀ c : Dev nD,
    r.2.mem ((c.tc : Thread nD τ).loc main_v189)
      = Cert.Proof.RetFwdMath.result (m ((c.tc : Thread nD τ).loc main_arg0))
          (Operands.L (m ((c.tc : Thread nD τ).loc main_arg0)) (m ((c.tc : Thread nD τ).loc main_arg1))) Operands.C Operands.S
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨(h c).1.trans (Operands.result_eq _ _), (h c).2⟩)
    (Entry.run_states (F := Ideal) m ρ
      (fun c => Operands.refIter (m ((c.tc : Thread nD τ).loc main_arg0)) (m ((c.tc : Thread nD τ).loc main_arg1)))
      (fun _ => rfl) (fun _ _ => rfl))

end Reference

/-- The reference is host operations around a loop and declares no semaphore. -/
theorem frame_reference : Cert.quiescent_RetFwdRefIdeal := fun m ρ _ =>
  (θ_run Cert.RetFwdRefIdeal.defs _ _).mono (fun r h => ⟨fun c => (h c).2, Idealize.ShloMosaic.sem_eq_zero_of_no_sems (by decide) r.2⟩)
    (reference_run m ρ)

/-- The idealization rewrote nothing. -/
theorem preserves : Cert.preserves_RetFwd_RetFwdIdeal := trivial

/-- Over the ideal values the kernel's result array is the reference's. -/
theorem algebraic : Cert.algebraic_RetFwdIdeal_RetFwdRefIdeal := by
  intro m ρ m' ρ' _ hag
  refine ⟨fun c => Cert.Proof.RetFwdMath.result (Cert.RetFwdIdeal.Retention.slabsArg m c) (Cert.RetFwdIdeal.Retention.ratesOf m c)
    Cert.RetFwdIdeal.Retention.cosines Cert.RetFwdIdeal.Retention.sines, ?_, ?_⟩
  · exact (θ_run Cert.RetFwdIdeal.defs _ _).mono (fun r h c => ⟨(h c).1.trans (Cert.RetFwdIdeal.Retention.array_eq m c), (h c).2⟩)
      (Cert.RetFwdIdeal.Value.run_blocks (F := Ideal) m ρ)
  · refine (θ_run Cert.RetFwdRefIdeal.defs _ _).mono (fun r h c => ⟨(h c).1.trans ?_, (h c).2⟩) (reference_run m' ρ')
    rw [(hag c).1, (hag c).2]

end Cert.Proof.RetFwdClaims

end
-- ==== Proof.RetBwdEntry.lean ====
/- The backward retention reference's run, over the states its loop goes through.

   The operations before the loop are taken in parts, so that no value is written out further than the part it is made in:
   the rotated queries, then the rotated keys and the values, then their reversals and the forward pass's sums, then the
   products the loop takes chunk by chunk. -/
module

public import proofs.«01_k».proof.Proof.Gen.RetBwdRefIdeal.Run
public import proofs.«01_k».proof.Proof.Gen.RetBwdRefIdeal.Step

@[expose] public section

set_option maxRecDepth 16384

noncomputable section

namespace Cert.RetBwdRefIdeal.Entry

open Idealize.ShloMosaic Idealize.ShloMosaic.TcCoe Idealize.SL.Sem Idealize.ShloMosaic.StableHlo
open Cert.RetBwdRefIdeal Cert.RetBwdRefIdeal.Gen Cert.RetBwdRefIdeal.Value Cert.RetBwdRefIdeal.Step

variable {F : FTy → Type} [FloatOps F]

/-! ## Before the loop -/

section Parts
variable (a : (⟨S112x16384x128, .bf16⟩ : BufTy).Contents (Elt F)) (o : (⟨S16x16384x128, .f32⟩ : BufTy).Contents (Elt F))
  (r : (⟨S2x8, .f32⟩ : BufTy).Contents (Elt F))

/-- What the first part leaves that is read later. -/
structure First (W : Valuation τ sig (Elt F)) : Prop where
  arg0 : W (Proc.devRef .tc main_arg0) = a
  arg1 : W (Proc.devRef .tc main_arg1) = o
  v5 : W (Proc.devRef .tc main_v5) = A_main_v5 a o r
  v39 : W (Proc.devRef .tc main_v39) = A_main_v39 a o r
  v44 : W (Proc.devRef .tc main_v44) = A_main_v44 a o r
  v45 : W (Proc.devRef .tc main_v45) = K_main_v45

/-- What the second part leaves that is read later. -/
structure Middle (W : Valuation τ sig (Elt F)) : Prop where
  arg1 : W (Proc.devRef .tc main_arg1) = o
  v5 : W (Proc.devRef .tc main_v5) = A_main_v5 a o r
  v39 : W (Proc.devRef .tc main_v39) = A_main_v39 a o r
  v75 : W (Proc.devRef .tc main_v75) = A_main_v75 a o r
  v80 : W (Proc.devRef .tc main_v80) = A_main_v80 a o r

/-- The reversed queries, keys and values, with what is read later. -/
structure Flipped (W : Valuation τ sig (Elt F)) : Prop where
  arg1 : W (Proc.devRef .tc main_arg1) = o
  v5 : W (Proc.devRef .tc main_v5) = A_main_v5 a o r
  v81 : W (Proc.devRef .tc main_v81) = A_main_v81 a o r
  v82 : W (Proc.devRef .tc main_v82) = A_main_v82 a o r
  v83 : W (Proc.devRef .tc main_v83) = A_main_v83 a o r

/-- The same with the head's rate and the forward pass's sums. -/
structure Summed (W : Valuation τ sig (Elt F)) : Prop where
  v81 : W (Proc.devRef .tc main_v81) = A_main_v81 a o r
  v82 : W (Proc.devRef .tc main_v82) = A_main_v82 a o r
  v83 : W (Proc.devRef .tc main_v83) = A_main_v83 a o r
  v85 : W (Proc.devRef .tc main_v85) = A_main_v85 a o r
  v88 : W (Proc.devRef .tc main_v88) = A_main_v88 a o r

/-- The same with those sums reversed. -/
structure Ready (W : Valuation τ sig (Elt F)) : Prop where
  v81 : W (Proc.devRef .tc main_v81) = A_main_v81 a o r
  v82 : W (Proc.devRef .tc main_v82) = A_main_v82 a o r
  v83 : W (Proc.devRef .tc main_v83) = A_main_v83 a o r
  v85 : W (Proc.devRef .tc main_v85) = A_main_v85 a o r
  v89 : W (Proc.devRef .tc main_v89) = A_main_v89 a o r

/-- A valuation the loop's condition sees holds a state, the loop's constants with it, and the trip's number. -/
structure At (W : Valuation τ sig (Elt F)) (s : State F) (n : ℕ) : Prop where
  sums : W (Proc.devRef .tc main_v126_5) = s.main_v126_5
  written : W (Proc.devRef .tc main_v126_6) = s.main_v126_6
  queries : W (Proc.devRef .tc main_v126_0) = s.main_v126_0
  adds : W (Proc.devRef .tc main_v126_1) = s.main_v126_1
  sumsOf : W (Proc.devRef .tc main_v126_2) = s.main_v126_2
  decay : W (Proc.devRef .tc main_v126_3) = s.main_v126_3
  count : W (Proc.devRef .tc main_v126_4) = constantI S_ 32 (BitVec.ofNat 32 n)

variable {a o r}

set_option maxHeartbeats 4000000 in
theorem first_of (W : Valuation τ sig (Elt F)) (h0 : W (Proc.devRef .tc main_arg0) = a) (h1 : W (Proc.devRef .tc main_arg1) = o)
    (h2 : W (Proc.devRef .tc main_arg2) = r) : First a o r (afterL [hostOps0, hostOps0_1, hostOps0_2, hostOps0_3] W) := by
  constructor <;> (simp only [afterL_cons, afterL_nil]; after_results; (try rw [h0]); (try rw [h1]); (try rw [h2])) <;> rfl

set_option maxHeartbeats 4000000 in
theorem middle_of (W : Valuation τ sig (Elt F)) (h : First a o r W) : Middle a o r (afterL [hostOps0_4] W) := by
  obtain ⟨h0, h1, h5, h39, h44, h45⟩ := h
  constructor <;> (simp only [afterL_cons, afterL_nil]; after_results; (try rw [h0]); (try rw [h1]); (try rw [h5]); (try rw [h39]); (try rw [h44]); (try rw [h45])) <;> rfl

/-- A reversal, of any array. -/
theorem flip_first (W : Valuation τ sig (Elt F)) (x : (⟨S2x8x8192x256, .f32⟩ : BufTy).Contents (Elt F)) (h : W (Proc.devRef .tc main_v39) = x) :
    afterL [hostOps0_5, hostOps0_6, hostOps0_7] W (Proc.devRef .tc main_v81) = Host.reverse [2] x := by
  simp only [afterL_cons, afterL_nil]
  after_results
  rw [h]
  rfl

theorem flip_second (W : Valuation τ sig (Elt F)) (x : (⟨S2x8x8192x256, .f32⟩ : BufTy).Contents (Elt F)) (h : W (Proc.devRef .tc main_v75) = x) :
    afterL [hostOps0_5, hostOps0_6, hostOps0_7] W (Proc.devRef .tc main_v82) = Host.reverse [2] x := by
  simp only [afterL_cons, afterL_nil]
  after_results
  rw [h]
  rfl

theorem flip_third (W : Valuation τ sig (Elt F)) (x : (⟨S2x8x8192x256, .f32⟩ : BufTy).Contents (Elt F)) (h : W (Proc.devRef .tc main_v80) = x) :
    afterL [hostOps0_5, hostOps0_6, hostOps0_7] W (Proc.devRef .tc main_v83) = Host.reverse [2] x := by
  simp only [afterL_cons, afterL_nil]
  after_results
  rw [h]
  rfl

theorem flip_sums (W : Valuation τ sig (Elt F)) (x : (⟨S2x8x8192x256, .f32⟩ : BufTy).Contents (Elt F)) (h : W (Proc.devRef .tc main_v88) = x) :
    afterL [hostOps0_9] W (Proc.devRef .tc main_v89) = Host.reverse [2] x := by
  simp only [afterL_cons, afterL_nil]
  after_results
  rw [h]
  rfl

theorem flipped_of (W : Valuation τ sig (Elt F)) (h : Middle a o r W) : Flipped a o r (afterL [hostOps0_5, hostOps0_6, hostOps0_7] W) := by
  obtain ⟨h1, h5, h39, h75, h80⟩ := h
  refine ⟨?_, ?_, flip_first W _ h39, flip_second W _ h75, flip_third W _ h80⟩
  · simp only [afterL_cons, afterL_nil]; after_results; exact h1
  · simp only [afterL_cons, afterL_nil]; after_results; exact h5

theorem summed_of (W : Valuation τ sig (Elt F)) (h : Flipped a o r W) : Summed a o r (afterL [hostOps0_8] W) := by
  obtain ⟨h1, h5, h81, h82, h83⟩ := h
  refine ⟨?_, ?_, ?_, ?_, ?_⟩
  · simp only [afterL_cons, afterL_nil]; after_results; exact h81
  · simp only [afterL_cons, afterL_nil]; after_results; exact h82
  · simp only [afterL_cons, afterL_nil]; after_results; exact h83
  · simp only [afterL_cons, afterL_nil]; after_results; rw [h5]; rfl
  · simp only [afterL_cons, afterL_nil]; after_results; rw [h1]; rfl

theorem ready_of (W : Valuation τ sig (Elt F)) (h : Summed a o r W) : Ready a o r (afterL [hostOps0_9] W) := by
  obtain ⟨h81, h82, h83, h85, h88⟩ := h
  refine ⟨?_, ?_, ?_, ?_, flip_sums W _ h88⟩
  · simp only [afterL_cons, afterL_nil]; after_results; exact h81
  · simp only [afterL_cons, afterL_nil]; after_results; exact h82
  · simp only [afterL_cons, afterL_nil]; after_results; exact h83
  · simp only [afterL_cons, afterL_nil]; after_results; exact h85

set_option maxHeartbeats 4000000 in
theorem at_of (W : Valuation τ sig (Elt F)) (h : Ready a o r W) : At (afterL [hostOps0_10] W) (init a o r) 0 := by
  obtain ⟨h81, h82, h83, h85, h89⟩ := h
  constructor <;> (simp only [afterL_cons, afterL_nil]; after_results; (try rw [h81]); (try rw [h82]); (try rw [h83]); (try rw [h85]); (try rw [h89])) <;> rfl

end Parts

/-- What the loop starts from. -/
theorem entry (m : (ℓ : Loc nD τ sig) → Buf (Elt F) ℓ) (c : Dev nD) :
    At (entryContents preI m c) (init (m ((c.tc : Thread nD τ).loc main_arg0)) (m ((c.tc : Thread nD τ).loc main_arg1)) (m ((c.tc : Thread nD τ).loc main_arg2))) 0 :=
  at_of _ (ready_of _ (summed_of _ (flipped_of _ (middle_of _ (first_of (launchContents m c) rfl rfl rfl)))))

/-! ## A trip -/

theorem sums_after {V : Valuation τ sig (Elt F)} {s : State F} {n : ℕ} (h : At V s n) : Value.step_main_v126_5 V = (step n s).main_v126_5 := by
  unfold Value.step_main_v126_5
  rw [h.decay, h.sums, h.adds, h.count]
  rfl

theorem written_after {V : Valuation τ sig (Elt F)} {s : State F} {n : ℕ} (h : At V s n) : Value.step_main_v126_6 V = (step n s).main_v126_6 := by
  unfold Value.step_main_v126_6
  rw [h.written, h.sumsOf, h.queries, h.sums, h.count]
  rfl

theorem count_after {V : Valuation τ sig (Elt F)} {s : State F} {n : ℕ} (h : At V s n) :
    Value.step_main_v126_4 V = constantI S_ 32 (BitVec.ofNat 32 (n + 1)) := by
  unfold Value.step_main_v126_4
  rw [h.count]
  funext i
  show BitVec.ofNat 32 n + 1#32 = _
  exact (BitVec.ofNat_add n 1).symm

/-- One trip goes to the next state. -/
theorem after_trip {V : Valuation τ sig (Elt F)} {s : State F} {n : ℕ} (h : At V s n) : At (STEP V) (step n s) (n + 1) :=
  ⟨(STEP_main_v126_5 V).trans (sums_after h), (STEP_main_v126_6 V).trans (written_after h), (STEP_main_v126_0 V).trans h.queries,
    (STEP_main_v126_1 V).trans h.adds, (STEP_main_v126_2 V).trans h.sumsOf, (STEP_main_v126_3 V).trans h.decay,
    (STEP_main_v126_4 V).trans (count_after h)⟩

/-- So any number of them. -/
theorem after_trips (it : ℕ → State F) (hs : ∀ n, it (n + 1) = step n (it n)) (V : Valuation τ sig (Elt F)) (h : At V (it 0) 0) (n : ℕ) :
    At (STEP^[n] V) (it n) n := by
  induction n with
  | zero => exact h
  | succ n ih =>
    rw [Function.iterate_succ_apply', hs n]
    exact after_trip ih

theorem result_of {V : Valuation τ sig (Elt F)} {s : State F} {n : ℕ} (h : At V s n) :
    out_main_v161 V = R_main_v161 s (V (Proc.devRef .tc main_arg0)) (V (Proc.devRef .tc main_arg3)) := by
  unfold out_main_v161
  rw [h.written]
  rfl

/-- Every run ends with the result of the last state, and keeps the arguments. -/
theorem run_states (m : (ℓ : Loc nD τ sig) → Buf (Elt F) ℓ) (ρ : Dev nD → PrngReg) (it : Dev nD → ℕ → State F)
    (h0 : ∀ c, it c 0 = init (m ((c.tc : Thread nD τ).loc main_arg0)) (m ((c.tc : Thread nD τ).loc main_arg1)) (m ((c.tc : Thread nD τ).loc main_arg2)))
    (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v161)
        = R_main_v161 (it c 64) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c).1.trans ((result_of (after_trips (it c) (hs c) _ ((h0 c).symm ▸ entry m c) 64)).trans
      (by rw [iter_main_arg0 m c 64, iter_main_arg3 m c 64])), (h c).2⟩) (run m ρ)

end Cert.RetBwdRefIdeal.Entry
end
-- ==== Proof.RetBwdMath.lean ====
/- The backward retention's arithmetic, on extended reals.

   The backward pass goes through a head's chunks from the last to the first, and through each chunk's rows the same way: its
   state is the forward pass's over the reversed rows. A row's decay to the end of its chunk is then the decay to the chunk's
   start, and the other way round. What the state adds to a row goes onto the forward pass's sum; the row's 256 features are
   normalised to mean zero and variance one, scaled, and multiplied by the gate's `z · logistic z`. The kernel computes the
   logistic function from a hyperbolic tangent: `half_tanh` says that it is the same function. -/
module

public import proofs.«01_k».proof.Proof.RetFwdMath
public import Idealize.ShloMosaic.Lib.IdealHost

@[expose] public section

noncomputable section

namespace Cert.Proof.RetBwdMath

open Idealize.ShloMosaic
open Cert.Proof.RetFwdMath

/-! ## Constants -/

theorem word_half : Ideal.ofBits .f32 0x3F000000#32 = (((1 : ℝ) / 2 : ℝ) : EReal) := by
  simp [Ideal.ofBits, Ideal.ieee, -EReal.coe_mul]; norm_num
theorem word_127 : Ideal.ofBits .f32 0x42FE0000#32 = ((127 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_1 : Ideal.ofBits .f32 0x3F800000#32 = ((1 : ℝ) : EReal) := by
  simp [Ideal.ofBits, Ideal.ieee, -EReal.coe_mul]; norm_num

/-! ## The gate -/

theorem half_tanh_real (r : ℝ) : 1 / 2 * Real.tanh (1 / 2 * r) + 1 / 2 = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [e1]
  have p1 := Real.exp_pos (1 / 2 * r)
  have p2 := Real.exp_pos (-(1 / 2 * r))
  generalize Real.exp (1 / 2 * r) = u at *
  generalize Real.exp (-(1 / 2 * r)) = v at *
  have hs : u + v ≠ 0 := by positivity
  have ht : 1 + v * v ≠ 0 := by positivity
  field_simp
  nlinarith [e2, mul_pos p1 p2]

/-- The logistic function from a hyperbolic tangent. -/
theorem half_tanh (z : EReal) :
    Ideal.ofBits .f32 0x3F000000#32 * Ideal.tanh (Ideal.ofBits .f32 0x3F000000#32 * z) + Ideal.ofBits .f32 0x3F000000#32 = Ideal.logistic z := by
  rw [word_half]
  have hp : (0 : ℝ) < 1 / 2 := by norm_num
  induction z with
  | bot =>
    rw [EReal.coe_mul_bot_of_pos hp, Ideal.logistic_bot]
    show (((1 : ℝ) / 2 : ℝ) : EReal) * (-1) + _ = 0
    rw [show (-1 : EReal) = ((-1 : ℝ) : EReal) by rw [EReal.coe_neg, EReal.coe_one], ← EReal.coe_mul, ← EReal.coe_add, ← EReal.coe_zero]
    congr 1; norm_num
  | top =>
    rw [EReal.coe_mul_top_of_pos hp, Ideal.logistic_top]
    show (((1 : ℝ) / 2 : ℝ) : EReal) * 1 + _ = 1
    rw [mul_one, ← EReal.coe_add, ← EReal.coe_one]
    congr 1; norm_num
  | coe r =>
    rw [← EReal.coe_mul, Ideal.logistic_coe]
    show (((1 : ℝ) / 2 : ℝ) : EReal) * ((Real.tanh (1 / 2 * r) : ℝ) : EReal) + _ = _
    rw [← EReal.coe_mul, ← EReal.coe_add, half_tanh_real]

/-! ## The decays of the reversed rows -/

/-- The decay from row `i` to its chunk's end, the last row counted whole. -/
def decayEnd (lg : EReal) (i : Fin 128) : EReal := Ideal.exp (lg * (Ideal.ofBits .f32 0x43000000#32 - place i))
/-- The decay from a chunk's start to row `i`. -/
def decayStart (lg : EReal) (i : Fin 128) : EReal := Ideal.exp (lg * place i)

theorem decayQ_rev (lg : EReal) (i : Fin 128) : decayQ lg i.rev = decayEnd lg i := by
  unfold decayQ decayEnd place
  have hi := i.isLt
  rw [word_1, word_128, ← EReal.coe_add, ← EReal.coe_sub, Fin.val_rev, Nat.cast_sub (by omega)]
  congr 3
  push_cast
  ring

theorem decayK_rev (lg : EReal) (i : Fin 128) : decayK lg i.rev = decayStart lg i := by
  unfold decayK decayStart place
  have hi := i.isLt
  rw [word_127, ← EReal.coe_sub, Fin.val_rev, Nat.cast_sub (by omega)]
  congr 3
  push_cast
  ring

/-- What a chunk adds, over its reversed rows. -/
theorem chunkAdd_rev (lg : EReal) (K V : Fin 128 → Fin 256 → EReal) (d e : Fin 256) :
    chunkAdd lg (fun i => K i.rev) (fun i => V i.rev) d e = ∑ c : Fin 128, K c d * decayStart lg c * V c e := by
  unfold chunkAdd
  rw [← Equiv.sum_comp Fin.revPerm]
  refine Finset.sum_congr rfl fun c _ => ?_
  show K c.rev.rev d * decayK lg c.rev * V c.rev.rev e = _
  rw [Fin.rev_rev, decayK_rev]

/-- The state after the last `n` chunks. -/
abbrev later (lg : EReal) (K V : Fin 64 → Fin 128 → Fin 256 → EReal) (n : ℕ) : Fin 256 → Fin 256 → EReal :=
  state lg (fun n i => K n.rev i.rev) (fun n i => V n.rev i.rev) n

/-- A chunk's sums: the forward pass's, and what the state of the later chunks adds. -/
def sumsOf (lg : EReal) (O Q : Fin 128 → Fin 256 → EReal) (T : Fin 256 → Fin 256 → EReal) (i : Fin 128) (e : Fin 256) : EReal :=
  O i e + ∑ d : Fin 256, Q i d * decayEnd lg i * T d e

/-! ## Normalising -/

/-- A row's mean. -/
def mean (x : Fin 256 → EReal) : EReal := Ideal.div (∑ e : Fin 256, x e) (Ideal.ofBits .f32 0x43800000#32)

/-- A row with mean zero and variance one. -/
def normed (x : Fin 256 → EReal) (e : Fin 256) : EReal :=
  (x e - mean x) * Ideal.rsqrt (mean (fun e => (x e - mean x) * (x e - mean x)) + Ideal.ofBits .f32 0x358637BD#32)

/-- It scaled and gated. -/
def gated (x w z : Fin 256 → EReal) (e : Fin 256) : EReal := normed x e * w e * (z e * Ideal.logistic (z e))

/-! ## The operands -/

abbrev Sums := (⟨3, ![16, 16384, 128]⟩ : Shape).Idx → EReal
abbrev Scales := (⟨1, ![2048]⟩ : Shape).Idx → EReal

/-- The forward pass's sums of a row. -/
def sumPart (o : Sums) (b : Fin 2) (h : Fin 8) (n : Fin 64) (i : Fin 128) (p : Fin 2) (l : Fin 128) : EReal :=
  o (ValueIdx.ix3 (⟨2 * h.val + p.val, by omega⟩ : Fin 16) (⟨8192 * b.val + 128 * n.val + i.val, by omega⟩ : Fin 16384) l)
def os (o : Sums) (b : Fin 2) (h : Fin 8) (n : Fin 64) (i : Fin 128) : Fin 256 → EReal :=
  joined (sumPart o b h n i 0) (sumPart o b h n i 1)

/-- A row's gates. -/
def gatePart (a : Slabs) (b : Fin 2) (h : Fin 8) (n : Fin 64) (i : Fin 128) (p : Fin 2) (l : Fin 128) : EReal :=
  a (ValueIdx.ix3 (⟨48 + 2 * h.val + p.val, by omega⟩ : Fin 112) (⟨8192 * b.val + 128 * n.val + i.val, by omega⟩ : Fin 16384) l)
def gs (a : Slabs) (b : Fin 2) (h : Fin 8) (n : Fin 64) (i : Fin 128) : Fin 256 → EReal :=
  joined (gatePart a b h n i 0) (gatePart a b h n i 1)

/-- A head's scales. -/
def ws (w : Scales) (h : Fin 8) (e : Fin 256) : EReal := w (ValueIdx.ix1 (⟨256 * h.val + e.val, by omega⟩ : Fin 2048))

/-- The sums of both passes at a row. -/
def bothSums (a : Slabs) (o : Sums) (L : Rates) (C S : RetFwdMath.Table) (b : Fin 2) (h : Fin 8) (n : Fin 64) : Fin 128 → Fin 256 → EReal :=
  sumsOf (L (ValueIdx.ix2 (1 : Fin 2) h)) (os o b h n) (qs a C S b h n)
    (later (L (ValueIdx.ix2 (1 : Fin 2) h)) (ks a C S b h) (vs a b h) (63 - n.val))

/-- The whole result at batch `b`, head `h`, row `i` of chunk `n` and feature `e`. -/
def retained (a : Slabs) (o : Sums) (L : Rates) (w : Scales) (C S : RetFwdMath.Table) (b : Fin 2) (h : Fin 8) (n : Fin 64) (i : Fin 128) (e : Fin 256) : EReal :=
  gated (bothSums a o L C S b h n i) (ws w h) (gs a b h n i) e

/-- The same, as an array of tokens by heads and features. -/
def result (a : Slabs) (o : Sums) (L : Rates) (w : Scales) (C S : RetFwdMath.Table) : (⟨2, ![16384, 2048]⟩ : Shape).Idx → EReal := fun y =>
  have h0 : (y 0).val < 16384 := (y 0).isLt
  have h1 : (y 1).val < 2048 := (y 1).isLt
  retained a o L w C S ⟨(y 0).val / 8192, by omega⟩ ⟨(y 1).val / 256, by omega⟩ ⟨(y 0).val % 8192 / 128, by omega⟩
    ⟨(y 0).val % 128, by omega⟩ ⟨(y 1).val % 256, by omega⟩

end Cert.Proof.RetBwdMath
end
-- ==== Proof.RetBwdOperands.lean ====
/- The backward reference's values before its loop, read at an index at the ideal values.

   The reference lays each head's rows out as [batch, head, row, feature], reverses the rows, cuts them into 64 chunks of 128
   and lets the loop go through the chunks in order. Every value here is one of the arithmetic in `RetBwdMath`. -/
module

public import proofs.«01_k».proof.Proof.Gen.RetBwdRefIdeal.Step
public import proofs.«01_k».proof.Proof.RetBwdMath
public import Idealize.ShloMosaic.Lib.Pipeline.ValueKit.Tiles

@[expose] public section

set_option maxRecDepth 16384

noncomputable section

namespace Cert.RetBwdRefIdeal.Operands

open Cert.RetBwdRefIdeal Cert.RetBwdRefIdeal.Gen Cert.RetBwdRefIdeal.Step Idealize.ShloMosaic
open Cert.Proof.RetFwdMath Cert.Proof.RetBwdMath
open Idealize.ShloMosaic.ValueIdx (ix1 ix2 ix3 ix4 ix5)

/-- Row `i` of chunk `n`. -/
abbrev row (n : Fin 64) (i : Fin 128) : Fin 8192 := ⟨128 * n.val + i.val, by omega⟩

theorem product_at {s : Shape} (x y : Vec Ideal s .f32) (j : s.Idx) : mulf (F := Ideal) (φ := .f32) x y j = x j * y j := rfl
theorem sum_at {s : Shape} (x y : Vec Ideal s .f32) (j : s.Idx) : addf (F := Ideal) (φ := .f32) x y j = x j + y j := rfl
theorem exp_at {s : Shape} (x : Vec Ideal s .f32) (j : s.Idx) : Host.exp (F := Ideal) (φ := .f32) x j = Ideal.exp (x j) := rfl

/-! ## Layouts -/

/-- A head's rows from the slabs: feature `d` of head `h` is in slab `2 h + d / 128` at lane `d % 128`. -/
theorem heads_apply (x : Vec Ideal S16x16384x128 .f32) (b : Fin 2) (h : Fin 8) (t : Fin 8192) (d : Fin 256) (z : S16x16384x128.Idx)
    (h0 : (z 0).val = 2 * h.val + d.val / 128) (h1 : (z 1).val = 8192 * b.val + t.val) (h2 : (z 2).val = d.val % 128) :
    shapeCast S2x8x8192x256 (transpose S2x8x8192x2x128 [2, 0, 3, 1, 4] (shapeCast S8x2x2x8192x128 x shapeCasts_S16x16384x128_S8x2x2x8192x128)
      transposes_S8x2x2x8192x128_S2x8x8192x2x128_2_0_3_1_4) shapeCasts_S2x8x8192x2x128_S2x8x8192x256 (ix4 b h t d) = x z := by
  have hd := d.isLt
  rw [shapeCast_apply _ shapeCasts_S2x8x8192x2x128_S2x8x8192x256 _ (ix5 b h t (⟨d.val / 128, by omega⟩ : Fin 2) (⟨d.val % 128, by omega⟩ : Fin 128)) (by
    rewrite [Shape.rowMajor_val_five, Shape.rowMajor_val_four]
    show (((b.val * 8 + h.val) * 8192 + t.val) * 2 + d.val / 128) * 128 + d.val % 128 = ((b.val * 8 + h.val) * 8192 + t.val) * 256 + d.val
    omega)]
  rw [transpose_apply _ _ transposes_S8x2x2x8192x128_S2x8x8192x2x128_2_0_3_1_4 _
    (ix5 h (⟨d.val / 128, by omega⟩ : Fin 2) b t (⟨d.val % 128, by omega⟩ : Fin 128)) (fun a => by
    match a with
    | ⟨0, _⟩ => rfl
    | ⟨1, _⟩ => rfl
    | ⟨2, _⟩ => rfl
    | ⟨3, _⟩ => rfl
    | ⟨4, _⟩ => rfl)]
  exact shapeCast_apply x shapeCasts_S16x16384x128_S8x2x2x8192x128 _ z (by
    rewrite [Shape.rowMajor_val_three, Shape.rowMajor_val_five]
    show ((z 0).val * 16384 + (z 1).val) * 128 + (z 2).val
      = (((h.val * 2 + d.val / 128) * 2 + b.val) * 8192 + t.val) * 128 + d.val % 128
    omega)

/-- The rows cut into chunks. -/
theorem chunks_apply (x : Vec Ideal S2x8x8192x256 .f32) (b : Fin 2) (h : Fin 8) (n : Fin 64) (i : Fin 128) (d : Fin 256) :
    shapeCast S2x8x64x128x256 x shapeCasts_S2x8x8192x256_S2x8x64x128x256 (ix5 b h n i d) = x (ix4 b h (row n i) d) :=
  shapeCast_apply x shapeCasts_S2x8x8192x256_S2x8x64x128x256 _ _ (by
    rewrite [Shape.rowMajor_val_five, Shape.rowMajor_val_four]
    show ((b.val * 8 + h.val) * 8192 + (128 * n.val + i.val)) * 256 + d.val
      = (((b.val * 8 + h.val) * 64 + n.val) * 128 + i.val) * 256 + d.val
    omega)

/-- And joined again. -/
theorem joined_apply (x : Vec Ideal S2x8x64x128x256 .f32) (b : Fin 2) (h : Fin 8) (n : Fin 64) (i : Fin 128) (d : Fin 256) :
    shapeCast S2x8x8192x256 x shapeCasts_S2x8x64x128x256_S2x8x8192x256 (ix4 b h (row n i) d) = x (ix5 b h n i d) :=
  shapeCast_apply x shapeCasts_S2x8x64x128x256_S2x8x8192x256 _ _ (by
    rewrite [Shape.rowMajor_val_five, Shape.rowMajor_val_four]
    show (((b.val * 8 + h.val) * 64 + n.val) * 128 + i.val) * 256 + d.val
      = ((b.val * 8 + h.val) * 8192 + (128 * n.val + i.val)) * 256 + d.val
    omega)

/-- The rows read from the last. -/
theorem reverse_apply (x : Vec Ideal S2x8x8192x256 .f32) (b : Fin 2) (h : Fin 8) (n : Fin 64) (i : Fin 128) (d : Fin 256) :
    Host.reverse [2] x (ix4 b h (row n i) d) = x (ix4 b h (row n.rev i.rev) d) := by
  unfold Host.reverse
  refine congrArg x (funext fun a => ?_)
  match a with
  | ⟨0, _⟩ => rfl
  | ⟨1, _⟩ => rfl
  | ⟨2, _⟩ =>
    refine Fin.ext ?_
    show 8192 - (128 * n.val + i.val + 1) = 128 * (64 - (n.val + 1)) + (128 - (i.val + 1))
    omega
  | ⟨3, _⟩ => rfl

/-- A table of positions, for every batch and head. -/
theorem table_apply (x : Vec Ideal S8192x128 .f32) (b : Fin 2) (h : Fin 8) (t : Fin 8192) (l : Fin 128) :
    broadcastInDim S2x8x8192x128 ![0, 1, 2, 3] bcast_S1x1x8192x128_S2x8x8192x128_0_1_2_3
      (broadcastInDim S1x1x8192x128 ![2, 3] bcast_S8192x128_S1x1x8192x128_2_3 x) (ix4 b h t l) = x (ix2 t l) := by
  rw [broadcastInDim_apply _ bcast_S1x1x8192x128_S2x8x8192x128_0_1_2_3 _ _ (ix4 (0 : Fin 1) (0 : Fin 1) t l) (fun a => by
    match a with
    | ⟨0, _⟩ => rfl
    | ⟨1, _⟩ => rfl
    | ⟨2, _⟩ => rfl
    | ⟨3, _⟩ => rfl)]
  exact broadcastInDim_apply _ bcast_S8192x128_S1x1x8192x128_2_3 _ _ (ix2 t l) (fun a => by
    match a with
    | ⟨0, _⟩ => rfl
    | ⟨1, _⟩ => rfl)

/-- A row's decay, for every batch, head, chunk and feature. -/
theorem perRow_apply (x : Vec Ideal S8x1x128x1 .f32) (b : Fin 2) (h : Fin 8) (n : Fin 64) (i : Fin 128) (d : Fin 256) :
    broadcastInDim S2x8x64x128x256 ![0, 1, 2, 3, 4] bcast_S1x8x1x128x1_S2x8x64x128x256_0_1_2_3_4
      (broadcastInDim S1x8x1x128x1 ![1, 2, 3, 4] bcast_S8x1x128x1_S1x8x1x128x1_1_2_3_4 x) (ix5 b h n i d) = x (ix4 h (0 : Fin 1) i (0 : Fin 1)) := by
  rw [broadcastInDim_apply _ bcast_S1x8x1x128x1_S2x8x64x128x256_0_1_2_3_4 _ _ (ix5 (0 : Fin 1) h (0 : Fin 1) i (0 : Fin 1)) (fun a => by
    match a with
    | ⟨0, _⟩ => rfl
    | ⟨1, _⟩ => rfl
    | ⟨2, _⟩ => rfl
    | ⟨3, _⟩ => rfl
    | ⟨4, _⟩ => rfl)]
  exact broadcastInDim_apply _ bcast_S8x1x128x1_S1x8x1x128x1_1_2_3_4 _ _ (ix4 h (0 : Fin 1) i (0 : Fin 1)) (fun a => by
    match a with
    | ⟨0, _⟩ => rfl
    | ⟨1, _⟩ => rfl
    | ⟨2, _⟩ => rfl
    | ⟨3, _⟩ => rfl)

/-- A rate of each head, for every row. -/
theorem rateRow_apply (x : Vec Ideal S8 .f32) (h : Fin 8) (i : Fin 128) :
    broadcastInDim S8x1x128x1 ![0, 1, 2, 3] bcast_S8x1x1x1_S8x1x128x1_0_1_2_3 (broadcastInDim S8x1x1x1 ![0] bcast_S8_S8x1x1x1_0 x)
      (ix4 h (0 : Fin 1) i (0 : Fin 1)) = x (ix1 h) := by
  rw [broadcastInDim_apply _ bcast_S8x1x1x1_S8x1x128x1_0_1_2_3 _ _ (ix4 h (0 : Fin 1) (0 : Fin 1) (0 : Fin 1)) (fun a => by
    match a with
    | ⟨0, _⟩ => rfl
    | ⟨1, _⟩ => rfl
    | ⟨2, _⟩ => rfl
    | ⟨3, _⟩ => rfl)]
  exact broadcastInDim_apply _ bcast_S8_S8x1x1x1_0 _ _ (ix1 h) (fun a => by
    match a with
    | ⟨0, _⟩ => rfl)

/-- A row's number, for every head. -/
theorem placeRow_apply (x : Vec Ideal S128 .f32) (h : Fin 8) (i : Fin 128) :
    broadcastInDim S8x1x128x1 ![0, 1, 2, 3] bcast_S1x1x128x1_S8x1x128x1_0_1_2_3 (broadcastInDim S1x1x128x1 ![2] bcast_S128_S1x1x128x1_2 x)
      (ix4 h (0 : Fin 1) i (0 : Fin 1)) = x (ix1 i) := by
  rw [broadcastInDim_apply _ bcast_S1x1x128x1_S8x1x128x1_0_1_2_3 _ _ (ix4 (0 : Fin 1) (0 : Fin 1) i (0 : Fin 1)) (fun a => by
    match a with
    | ⟨0, _⟩ => rfl
    | ⟨1, _⟩ => rfl
    | ⟨2, _⟩ => rfl
    | ⟨3, _⟩ => rfl)]
  exact broadcastInDim_apply _ bcast_S128_S1x1x128x1_2 _ _ (ix1 i) (fun a => by
    match a with
    | ⟨0, _⟩ => rfl)

/-! ## Products -/

/-- The decayed keys with the values. -/
theorem dotAdd (x : Vec Ideal S2x8x64x128x256 .f32) (y : Vec Ideal S2x8x64x128x256 .f32) (b : Fin 2) (h : Fin 8) (n : Fin 64) (d e : Fin 256) :
    Host.dotGeneral (F := Ideal) (φ₁ := .f32) (φ₂ := .f32) dot_S2x8x64x128x256_S2x8x64x128x256_S2x8x64x256x256_3_3_4_4_012_012 none x y (ix5 b h n d e) = ∑ k : Fin 128, x (ix5 b h n k d) * y (ix5 b h n k e) := by
  simp only [Host.dotGeneral]
  rw [Ideal.dotGeneral_apply, ← Equiv.sum_comp (ValueIdx.contrEquiv1 dot_S2x8x64x128x256_S2x8x64x128x256_S2x8x64x256x256_3_3_4_4_012_012 128 rfl rfl).symm]
  refine Finset.sum_congr rfl fun k _ => ?_
  have hk := ValueIdx.contrEquiv1_symm_val dot_S2x8x64x128x256_S2x8x64x128x256_S2x8x64x256x256_3_3_4_4_012_012 128 rfl rfl k
  have el : dot_S2x8x64x128x256_S2x8x64x128x256_S2x8x64x256x256_3_3_4_4_012_012.lhsIdx (ix5 b h n d e) ((ValueIdx.contrEquiv1 dot_S2x8x64x128x256_S2x8x64x128x256_S2x8x64x256x256_3_3_4_4_012_012 128 rfl rfl).symm k) = ix5 b h n k d := funext fun a => Fin.ext (by
    match a with
    | ⟨0, _⟩ => rfl
    | ⟨1, _⟩ => rfl
    | ⟨2, _⟩ => rfl
    | ⟨3, _⟩ => exact (DotDims.lhsIdx_val_of_single dot_S2x8x64x128x256_S2x8x64x128x256_S2x8x64x256x256_3_3_4_4_012_012 rfl _ _).trans hk
    | ⟨4, _⟩ => rfl)
  have er : dot_S2x8x64x128x256_S2x8x64x128x256_S2x8x64x256x256_3_3_4_4_012_012.rhsIdx (ix5 b h n d e) ((ValueIdx.contrEquiv1 dot_S2x8x64x128x256_S2x8x64x128x256_S2x8x64x256x256_3_3_4_4_012_012 128 rfl rfl).symm k) = ix5 b h n k e := funext fun a => Fin.ext (by
    match a with
    | ⟨0, _⟩ => rfl
    | ⟨1, _⟩ => rfl
    | ⟨2, _⟩ => rfl
    | ⟨3, _⟩ => exact (DotDims.rhsIdx_val_of_single dot_S2x8x64x128x256_S2x8x64x128x256_S2x8x64x256x256_3_3_4_4_012_012 rfl _ _).trans hk
    | ⟨4, _⟩ => rfl)
  rw [el, er]

/-- The decayed queries with the state. -/
theorem dotState (x : Vec Ideal S2x8x128x256 .f32) (y : Vec Ideal S2x8x256x256 .f32) (b : Fin 2) (h : Fin 8) (i : Fin 128) (e : Fin 256) :
    Host.dotGeneral (F := Ideal) (φ₁ := .f32) (φ₂ := .f32) dot_S2x8x128x256_S2x8x256x256_S2x8x128x256_3_2_2_3_01_01 none x y (ix4 b h i e) = ∑ k : Fin 256, x (ix4 b h i k) * y (ix4 b h k e) := by
  simp only [Host.dotGeneral]
  rw [Ideal.dotGeneral_apply, ← Equiv.sum_comp (ValueIdx.contrEquiv1 dot_S2x8x128x256_S2x8x256x256_S2x8x128x256_3_2_2_3_01_01 256 rfl rfl).symm]
  refine Finset.sum_congr rfl fun k _ => ?_
  have hk := ValueIdx.contrEquiv1_symm_val dot_S2x8x128x256_S2x8x256x256_S2x8x128x256_3_2_2_3_01_01 256 rfl rfl k
  have el : dot_S2x8x128x256_S2x8x256x256_S2x8x128x256_3_2_2_3_01_01.lhsIdx (ix4 b h i e) ((ValueIdx.contrEquiv1 dot_S2x8x128x256_S2x8x256x256_S2x8x128x256_3_2_2_3_01_01 256 rfl rfl).symm k) = ix4 b h i k := funext fun a => Fin.ext (by
    match a with
    | ⟨0, _⟩ => rfl
    | ⟨1, _⟩ => rfl
    | ⟨2, _⟩ => rfl
    | ⟨3, _⟩ => exact (DotDims.lhsIdx_val_of_single dot_S2x8x128x256_S2x8x256x256_S2x8x128x256_3_2_2_3_01_01 rfl _ _).trans hk)
  have er : dot_S2x8x128x256_S2x8x256x256_S2x8x128x256_3_2_2_3_01_01.rhsIdx (ix4 b h i e) ((ValueIdx.contrEquiv1 dot_S2x8x128x256_S2x8x256x256_S2x8x128x256_3_2_2_3_01_01 256 rfl rfl).symm k) = ix4 b h k e := funext fun a => Fin.ext (by
    match a with
    | ⟨0, _⟩ => rfl
    | ⟨1, _⟩ => rfl
    | ⟨2, _⟩ => exact (DotDims.rhsIdx_val_of_single dot_S2x8x128x256_S2x8x256x256_S2x8x128x256_3_2_2_3_01_01 rfl _ _).trans hk
    | ⟨3, _⟩ => rfl)
  rw [el, er]

/-! ## The operands -/

section Args
variable (a : Vec Ideal S112x16384x128 .bf16) (o : Vec Ideal S16x16384x128 .f32) (r : Vec Ideal S2x8 .f32) (b : Fin 2) (h : Fin 8) (n : Fin 64)

/-- The rates, the cosines and the sines. -/
abbrev L : Vec Ideal S2x8 .f32 := A_main_v5 a o r
abbrev C : Vec Ideal S8192x128 .f32 := K_main_v21
abbrev S : Vec Ideal S8192x128 .f32 := K_main_v22

/-- A head's rows, of sixteen slabs from slab `g` on. -/
theorem slabs_apply (g : ℕ) (hg : g ≤ 32) (hs : S112x16384x128.Slices ![g, 0, 0] S16x16384x128) (i : Fin 128) (d : Fin 256) (p : Fin 2) (l : Fin 128)
    (hp : d.val / 128 = p.val) (hl : d.val % 128 = l.val) :
    shapeCast S2x8x8192x256 (transpose S2x8x8192x2x128 [2, 0, 3, 1, 4]
      (shapeCast S8x2x2x8192x128 (extf (F := Ideal) .f32 (extractStridedSlice S16x16384x128 ![g, 0, 0] a hs) bitsLt_bf16_f32) shapeCasts_S16x16384x128_S8x2x2x8192x128)
      transposes_S8x2x2x8192x128_S2x8x8192x2x128_2_0_3_1_4) shapeCasts_S2x8x8192x2x128_S2x8x8192x256 (ix4 b h (row n i) d)
      = part a g hg b h n i p l := by
  have hpl := p.isLt
  rw [heads_apply _ b h (row n i) d (ix3 (⟨2 * h.val + p.val, by omega⟩ : Fin 16) (⟨8192 * b.val + 128 * n.val + i.val, by omega⟩ : Fin 16384) l)
    (by show 2 * h.val + p.val = _; omega) (by show 8192 * b.val + 128 * n.val + i.val = 8192 * b.val + (128 * n.val + i.val); omega) hl.symm]
  unfold part
  exact extractStridedSlice_apply _ a hs _ _ (fun c => by
    match c with
    | ⟨0, _⟩ => show g + 2 * h.val + p.val = g + (2 * h.val + p.val); omega
    | ⟨1, _⟩ => show 8192 * b.val + 128 * n.val + i.val = 0 + (8192 * b.val + 128 * n.val + i.val); omega
    | ⟨2, _⟩ => show l.val = 0 + l.val; omega)

/-- The first half of a row's features. -/
theorem first_apply (x : Vec Ideal S2x8x8192x256 .f32) (t : Fin 8192) (l : Fin 128) :
    extractStridedSlice S2x8x8192x128 ![0, 0, 0, 0] x slices_S2x8x8192x256_S2x8x8192x128_0_0_0_0 (ix4 b h t l) = x (ix4 b h t (⟨l.val, by omega⟩ : Fin 256)) :=
  extractStridedSlice_apply _ x slices_S2x8x8192x256_S2x8x8192x128_0_0_0_0 _ _ (fun c => by
    match c with
    | ⟨0, _⟩ => show b.val = 0 + b.val; omega
    | ⟨1, _⟩ => show h.val = 0 + h.val; omega
    | ⟨2, _⟩ => show t.val = 0 + t.val; omega
    | ⟨3, _⟩ => show l.val = 0 + l.val; omega)

/-- The second half. -/
theorem second_apply (x : Vec Ideal S2x8x8192x256 .f32) (t : Fin 8192) (l : Fin 128) :
    extractStridedSlice S2x8x8192x128 ![0, 0, 0, 128] x slices_S2x8x8192x256_S2x8x8192x128_0_0_0_128 (ix4 b h t l) = x (ix4 b h t (⟨128 + l.val, by omega⟩ : Fin 256)) :=
  extractStridedSlice_apply _ x slices_S2x8x8192x256_S2x8x8192x128_0_0_0_128 _ _ (fun c => by
    match c with
    | ⟨0, _⟩ => show b.val = 0 + b.val; omega
    | ⟨1, _⟩ => show h.val = 0 + h.val; omega
    | ⟨2, _⟩ => show t.val = 0 + t.val; omega
    | ⟨3, _⟩ => rfl)

/-- Two halves side by side. -/
theorem beside_apply (x y : Vec Ideal S2x8x8192x128 .f32) (t : Fin 8192) (d : Fin 256) :
    concatenate S2x8x8192x256 3 [⟨S2x8x8192x128, x⟩, ⟨S2x8x8192x128, y⟩] concatenates_S2x8x8192x128_S2x8x8192x128_S2x8x8192x256_d3 (ix4 b h t d)
      = joined (fun l => x (ix4 b h t l)) (fun l => y (ix4 b h t l)) d := by
  unfold joined
  by_cases hd : d.val < 128
  · rw [dif_pos hd]
    exact concatenate_pair_apply_left 3 x y concatenates_S2x8x8192x128_S2x8x8192x128_S2x8x8192x256_d3 _ rfl _ (fun c => by
      match c with
      | ⟨0, _⟩ => rfl
      | ⟨1, _⟩ => rfl
      | ⟨2, _⟩ => rfl
      | ⟨3, _⟩ => rfl)
  · rw [dif_neg hd]
    exact concatenate_pair_apply_right 3 x y concatenates_S2x8x8192x128_S2x8x8192x128_S2x8x8192x256_d3 _ rfl rfl _ (fun c hc => by
      match c with
      | ⟨0, _⟩ => rfl
      | ⟨1, _⟩ => rfl
      | ⟨2, _⟩ => rfl
      | ⟨3, _⟩ => exact absurd rfl hc) (by show d.val - 128 + 128 = d.val; omega)

/-- A row turned by its position. -/
theorem turn_apply (x : Vec Ideal S2x8x8192x256 .f32) (c s : Vec Ideal S8192x128 .f32) (i : Fin 128) (d : Fin 256) (u v : Fin 128 → EReal)
    (hu : ∀ l : Fin 128, x (ix4 b h (row n i) (⟨l.val, by omega⟩ : Fin 256)) = u l)
    (hv : ∀ l : Fin 128, x (ix4 b h (row n i) (⟨128 + l.val, by omega⟩ : Fin 256)) = v l)
    (X Y X' Y' P Q P' Q' : Vec Ideal S2x8x8192x128 .f32)
    (hX : X = extractStridedSlice S2x8x8192x128 ![0, 0, 0, 0] x slices_S2x8x8192x256_S2x8x8192x128_0_0_0_0)
    (hY : Y = extractStridedSlice S2x8x8192x128 ![0, 0, 0, 128] x slices_S2x8x8192x256_S2x8x8192x128_0_0_0_128)
    (hP : ∀ l, P (ix4 b h (row n i) l) = tableRow c n i l) (hQ : ∀ l, Q (ix4 b h (row n i) l) = tableRow s n i l)
    (hP' : ∀ l, P' (ix4 b h (row n i) l) = tableRow s n i l) (hQ' : ∀ l, Q' (ix4 b h (row n i) l) = tableRow c n i l) :
    concatenate S2x8x8192x256 3 [⟨S2x8x8192x128, subf (F := Ideal) (φ := .f32) (mulf (F := Ideal) (φ := .f32) X P) (mulf (F := Ideal) (φ := .f32) Y Q)⟩,
        ⟨S2x8x8192x128, addf (F := Ideal) (φ := .f32) (mulf (F := Ideal) (φ := .f32) X P') (mulf (F := Ideal) (φ := .f32) Y Q')⟩]
        concatenates_S2x8x8192x128_S2x8x8192x128_S2x8x8192x256_d3 (ix4 b h (row n i) d)
      = turned u v (tableRow c n i) (tableRow s n i) d := by
  rw [beside_apply]
  have e1 : ∀ l, subf (F := Ideal) (φ := .f32) (mulf (F := Ideal) (φ := .f32) X P) (mulf (F := Ideal) (φ := .f32) Y Q) (ix4 b h (row n i) l)
      = u l * tableRow c n i l - v l * tableRow s n i l := fun l => by
    show X (ix4 b h (row n i) l) * P (ix4 b h (row n i) l) - Y (ix4 b h (row n i) l) * Q (ix4 b h (row n i) l) = _
    rw [hP, hQ, hX, hY, first_apply, second_apply, hu, hv]
  have e2 : ∀ l, addf (F := Ideal) (φ := .f32) (mulf (F := Ideal) (φ := .f32) X P') (mulf (F := Ideal) (φ := .f32) Y Q') (ix4 b h (row n i) l)
      = u l * tableRow s n i l + v l * tableRow c n i l := fun l => by
    show X (ix4 b h (row n i) l) * P' (ix4 b h (row n i) l) + Y (ix4 b h (row n i) l) * Q' (ix4 b h (row n i) l) = _
    rw [hP', hQ', hX, hY, first_apply, second_apply, hu, hv]
  simp only [e1, e2]
  unfold joined turned
  by_cases hd : d.val < 128
  · simp only [dif_pos hd]
  · simp only [dif_neg hd]

/-- The turned queries. -/
theorem q_apply (i : Fin 128) (d : Fin 256) : A_main_v39 a o r (ix4 b h (row n i) d) = qs a C S b h n i d := by
  unfold A_main_v39
  exact turn_apply b h n (A_main_v10 a o r) C S i d _ _
    (fun l => slabs_apply a b h n 0 (by decide) slices_S112x16384x128_S16x16384x128_0_0_0 i _ 0 l
      (by show l.val / 128 = 0; omega) (by show l.val % 128 = l.val; omega))
    (fun l => slabs_apply a b h n 0 (by decide) slices_S112x16384x128_S16x16384x128_0_0_0 i _ 1 l
      (by show (128 + l.val) / 128 = 1; omega) (by show (128 + l.val) % 128 = l.val; omega))
    (A_main_v23 a o r) (A_main_v24 a o r) (A_main_v23 a o r) (A_main_v24 a o r) K_main_v26 K_main_v29 K_main_v33 K_main_v36 rfl rfl
    (fun l => table_apply K_main_v21 b h (row n i) l) (fun l => table_apply K_main_v22 b h (row n i) l)
    (fun l => table_apply K_main_v22 b h (row n i) l) (fun l => table_apply K_main_v21 b h (row n i) l)

/-- The turned and scaled keys. -/
theorem k_apply (i : Fin 128) (d : Fin 256) : A_main_v75 a o r (ix4 b h (row n i) d) = ks a C S b h n i d := by
  unfold A_main_v75
  refine congrArg (· * Ideal.ofBits .f32 0x3D800000#32) ?_
  unfold A_main_v73
  exact turn_apply b h n (A_main_v44 a o r) C S i d _ _
    (fun l => slabs_apply a b h n 16 (by decide) slices_S112x16384x128_S16x16384x128_16_0_0 i _ 0 l
      (by show l.val / 128 = 0; omega) (by show l.val % 128 = l.val; omega))
    (fun l => slabs_apply a b h n 16 (by decide) slices_S112x16384x128_S16x16384x128_16_0_0 i _ 1 l
      (by show (128 + l.val) / 128 = 1; omega) (by show (128 + l.val) % 128 = l.val; omega))
    (A_main_v57 a o r) (A_main_v58 a o r) (A_main_v57 a o r) (A_main_v58 a o r) K_main_v60 K_main_v63 K_main_v67 K_main_v70 rfl rfl
    (fun l => table_apply K_main_v55 b h (row n i) l) (fun l => table_apply K_main_v56 b h (row n i) l)
    (fun l => table_apply K_main_v56 b h (row n i) l) (fun l => table_apply K_main_v55 b h (row n i) l)

/-- The values. -/
theorem v_apply (i : Fin 128) (e : Fin 256) : A_main_v80 a o r (ix4 b h (row n i) e) = vs a b h n i e := by
  have he := e.isLt
  unfold vs joined
  by_cases hd : e.val < 128
  · rw [dif_pos hd]
    exact slabs_apply a b h n 32 (by decide) slices_S112x16384x128_S16x16384x128_32_0_0 i e 0 _
      (by show e.val / 128 = 0; omega) (by show e.val % 128 = e.val; omega)
  · rw [dif_neg hd]
    exact slabs_apply a b h n 32 (by decide) slices_S112x16384x128_S16x16384x128_32_0_0 i e 1 _
      (by show e.val / 128 = 1; omega) (by show e.val % 128 = e.val - 128; omega)

/-- The forward pass's sums. -/
theorem o_apply (i : Fin 128) (e : Fin 256) : A_main_v88 a o r (ix4 b h (row n i) e) = os o b h n i e := by
  have he := e.isLt
  unfold A_main_v88 A_main_v87 A_main_v86 os joined sumPart
  by_cases hd : e.val < 128
  · rw [dif_pos hd]
    exact heads_apply o b h (row n i) e _ (by show 2 * h.val + 0 = _; omega)
      (by show 8192 * b.val + 128 * n.val + i.val = 8192 * b.val + (128 * n.val + i.val); omega) (by show e.val = _; omega)
  · rw [dif_neg hd]
    exact heads_apply o b h (row n i) e _ (by show 2 * h.val + 1 = _; omega)
      (by show 8192 * b.val + 128 * n.val + i.val = 8192 * b.val + (128 * n.val + i.val); omega) (by show e.val - 128 = _; omega)

/-- A head's rate. -/
theorem rate_apply : A_main_v85 a o r (ix1 h) = L a o r (ix2 (1 : Fin 2) h) := by
  unfold A_main_v85
  rw [shapeCast_apply _ shapeCasts_S1x8_S8 _ (ix2 (0 : Fin 1) h) (by
    rewrite [Shape.rowMajor_val_two, Shape.rowMajor_val_one]
    show 0 * 8 + h.val = h.val
    omega)]
  exact extractStridedSlice_apply _ _ slices_S2x8_S1x8_1_0 _ _ (fun c => by
    match c with
    | ⟨0, _⟩ => rfl
    | ⟨1, _⟩ => show h.val = 0 + h.val; omega)

/-! The chunks of the reversed queries, keys, values and sums. -/

theorem v90_apply (i : Fin 128) (d : Fin 256) : A_main_v90 a o r (ix5 b h n i d) = A_main_v39 a o r (ix4 b h (row n.rev i.rev) d) := by
  unfold A_main_v90 A_main_v81
  exact (chunks_apply (Host.reverse [2] (A_main_v39 a o r)) b h n i d).trans (reverse_apply (A_main_v39 a o r) b h n i d)

theorem v91_apply (i : Fin 128) (d : Fin 256) : A_main_v91 a o r (ix5 b h n i d) = A_main_v75 a o r (ix4 b h (row n.rev i.rev) d) := by
  unfold A_main_v91 A_main_v82
  exact (chunks_apply (Host.reverse [2] (A_main_v75 a o r)) b h n i d).trans (reverse_apply (A_main_v75 a o r) b h n i d)

theorem v92_apply (i : Fin 128) (d : Fin 256) : A_main_v92 a o r (ix5 b h n i d) = A_main_v80 a o r (ix4 b h (row n.rev i.rev) d) := by
  unfold A_main_v92 A_main_v83
  exact (chunks_apply (Host.reverse [2] (A_main_v80 a o r)) b h n i d).trans (reverse_apply (A_main_v80 a o r) b h n i d)

theorem v93_apply (i : Fin 128) (d : Fin 256) : A_main_v93 a o r (ix5 b h n i d) = A_main_v88 a o r (ix4 b h (row n.rev i.rev) d) := by
  unfold A_main_v93 A_main_v89
  exact (chunks_apply (Host.reverse [2] (A_main_v88 a o r)) b h n i d).trans (reverse_apply (A_main_v88 a o r) b h n i d)

/-! Their decays. -/

theorem v105_apply (i : Fin 128) (d : Fin 256) : A_main_v105 a o r (ix5 b h n i d) = A_main_v91 a o r (ix5 b h n i d) * A_main_v104 a o r (ix5 b h n i d) := by
  unfold A_main_v105
  exact product_at (A_main_v91 a o r) (A_main_v104 a o r) (ix5 b h n i d)

theorem v120_apply (i : Fin 128) (d : Fin 256) : A_main_v120 a o r (ix5 b h n i d) = A_main_v90 a o r (ix5 b h n i d) * A_main_v119 a o r (ix5 b h n i d) := by
  unfold A_main_v120
  exact product_at (A_main_v90 a o r) (A_main_v119 a o r) (ix5 b h n i d)

theorem v119_apply (i : Fin 128) (d : Fin 256) : A_main_v119 a o r (ix5 b h n i d) = A_main_v117 a o r (ix4 h (0 : Fin 1) i (0 : Fin 1)) := by
  unfold A_main_v119 A_main_v118
  exact perRow_apply (A_main_v117 a o r) b h n i d

theorem v104_apply (i : Fin 128) (d : Fin 256) : A_main_v104 a o r (ix5 b h n i d) = A_main_v102 a o r (ix4 h (0 : Fin 1) i (0 : Fin 1)) := by
  unfold A_main_v104 A_main_v103
  exact perRow_apply (A_main_v102 a o r) b h n i d

theorem v115_apply (i : Fin 128) : K_main_v115 (F := Ideal) (ix4 h (0 : Fin 1) i (0 : Fin 1)) = K_main_v112 (F := Ideal) (ix1 i) :=
  placeRow_apply K_main_v112 h i

theorem v100_apply (i : Fin 128) : K_main_v100 (F := Ideal) (ix4 h (0 : Fin 1) i (0 : Fin 1)) = K_main_v97 (F := Ideal) (ix1 i) :=
  placeRow_apply K_main_v97 h i

theorem v114_apply (i : Fin 128) : A_main_v114 a o r (ix4 h (0 : Fin 1) i (0 : Fin 1)) = A_main_v85 a o r (ix1 h) := by
  unfold A_main_v114
  exact rateRow_apply (A_main_v85 a o r) h i

theorem v99_apply (i : Fin 128) : A_main_v99 a o r (ix4 h (0 : Fin 1) i (0 : Fin 1)) = A_main_v85 a o r (ix1 h) := by
  unfold A_main_v99 A_main_v95
  exact rateRow_apply (A_main_v85 a o r) h i

theorem decayQ_apply (i : Fin 128) : A_main_v117 a o r (ix4 h (0 : Fin 1) i (0 : Fin 1)) = decayQ (L a o r (ix2 (1 : Fin 2) h)) i := by
  rw [← rate_apply, ← v114_apply a o r h i]
  unfold decayQ
  rw [← word_place]
  unfold A_main_v117 A_main_v116
  refine (exp_at _ _).trans (congrArg Ideal.exp ((product_at (A_main_v114 a o r) K_main_v115 _).trans ?_))
  rw [v115_apply]
  rfl

theorem decayK_apply (i : Fin 128) : A_main_v102 a o r (ix4 h (0 : Fin 1) i (0 : Fin 1)) = decayK (L a o r (ix2 (1 : Fin 2) h)) i := by
  rw [← rate_apply, ← v99_apply a o r h i]
  unfold decayK
  rw [← word_place]
  unfold A_main_v102 A_main_v101
  refine (exp_at _ _).trans (congrArg Ideal.exp ((product_at (A_main_v99 a o r) K_main_v100 _).trans ?_))
  rw [v100_apply]
  rfl

/-! ## What the loop takes -/

theorem v124_apply (i : Fin 128) (e : Fin 256) : A_main_v124 a o r (ix5 n b h i e) = A_main_v93 a o r (ix5 b h n i e) := by
  unfold A_main_v124
  exact transpose_apply _ (A_main_v93 a o r) transposes_S2x8x64x128x256_S64x2x8x128x256_2_0_1_3_4 _ (ix5 b h n i e) (fun c => by
    match c with
    | ⟨0, _⟩ => rfl
    | ⟨1, _⟩ => rfl
    | ⟨2, _⟩ => rfl
    | ⟨3, _⟩ => rfl
    | ⟨4, _⟩ => rfl)

theorem v122_apply (i : Fin 128) (e : Fin 256) : A_main_v122 a o r (ix5 n b h i e) = A_main_v120 a o r (ix5 b h n i e) := by
  unfold A_main_v122
  exact transpose_apply _ (A_main_v120 a o r) transposes_S2x8x64x128x256_S64x2x8x128x256_2_0_1_3_4 _ (ix5 b h n i e) (fun c => by
    match c with
    | ⟨0, _⟩ => rfl
    | ⟨1, _⟩ => rfl
    | ⟨2, _⟩ => rfl
    | ⟨3, _⟩ => rfl
    | ⟨4, _⟩ => rfl)

theorem v123_apply (i : Fin 256) (e : Fin 256) : A_main_v123 a o r (ix5 n b h i e) = A_main_v106 a o r (ix5 b h n i e) := by
  unfold A_main_v123
  exact transpose_apply _ (A_main_v106 a o r) transposes_S2x8x64x256x256_S64x2x8x256x256_2_0_1_3_4 _ (ix5 b h n i e) (fun c => by
    match c with
    | ⟨0, _⟩ => rfl
    | ⟨1, _⟩ => rfl
    | ⟨2, _⟩ => rfl
    | ⟨3, _⟩ => rfl
    | ⟨4, _⟩ => rfl)

theorem sumsTaken_apply (i : Fin 128) (e : Fin 256) : A_main_v124 a o r (ix5 n b h i e) = os o b h n.rev i.rev e := by
  rw [v124_apply, v93_apply, o_apply]

theorem qTaken_apply (i : Fin 128) (d : Fin 256) : A_main_v122 a o r (ix5 n b h i d)
    = qs a C S b h n.rev i.rev d * decayQ (L a o r (ix2 (1 : Fin 2) h)) i := by
  rw [v122_apply, v120_apply, v90_apply, v119_apply, q_apply, decayQ_apply]

theorem addTaken_apply (d e : Fin 256) : A_main_v123 a o r (ix5 n b h d e)
    = chunkAdd (L a o r (ix2 (1 : Fin 2) h)) (fun i => ks a C S b h n.rev i.rev) (fun i => vs a b h n.rev i.rev) d e := by
  rw [v123_apply]
  unfold A_main_v106 chunkAdd
  rw [dotAdd]
  refine Finset.sum_congr rfl fun i _ => ?_
  rw [v105_apply, v91_apply, v104_apply, v92_apply, k_apply, v_apply, decayK_apply]

theorem decayTaken_apply : A_main_v110 a o r (ix4 (0 : Fin 1) h (0 : Fin 1) (0 : Fin 1)) = decayC (L a o r (ix2 (1 : Fin 2) h)) := by
  rw [← rate_apply]
  exact broadcastInDim_apply _ bcast_S8_S1x8x1x1_1 _ _ (ix1 h) (fun c => by
    match c with
    | ⟨0, _⟩ => rfl)

end Args

end Cert.RetBwdRefIdeal.Operands
end
-- ==== Proof.RetBwdLoop.lean ====
/- The backward reference's loop over the chunks, read at the ideal values.

   A trip takes one chunk of the reversed rows: it multiplies the chunk's decayed queries into the state, adds that to the
   forward pass's sums, writes them into the chunk's place of the result, and decays the state and adds the chunk's keys and
   values to it. After `n` trips the state is `later n`, and the first `n` chunks of the result are `bothSums` of the last
   `n` chunks, reversed. -/
module

public import proofs.«01_k».proof.Proof.RetBwdOperands
public import Idealize.ShloMosaic.Lib.WordCmp

@[expose] public section

set_option maxRecDepth 16384

noncomputable section

namespace Cert.RetBwdRefIdeal.Operands

open Cert.RetBwdRefIdeal Cert.RetBwdRefIdeal.Gen Cert.RetBwdRefIdeal.Step Idealize.ShloMosaic
open Cert.Proof.RetFwdMath Cert.Proof.RetBwdMath
open Idealize.ShloMosaic.ValueIdx (ix1 ix2 ix3 ix4 ix5)

/-! ## A chunk of an array -/

/-- Where trip `n` reads and writes. -/
abbrev starts (n : ℕ) : Fin 5 → ℕ := ![n, 0, 0, 0, 0]

theorem word_chunk (n : Fin 64) : (BitVec.ofNat 32 n.val).toInt = (n.val : ℤ) :=
  (by decide +kernel : ∀ n : Fin 64, (BitVec.ofNat 32 n.val).toInt = (n.val : ℤ)) n

/-- The starting words name that place. -/
theorem starts_eq (n : Fin 64) (x : Fin 5 → (⟨S_, .i32⟩ : BufTy).Contents (Elt Ideal))
    (h0 : x 0 = constantI S_ 32 (BitVec.ofNat 32 n.val)) (h1 : x 1 = constantI S_ 32 0#32) (h2 : x 2 = constantI S_ 32 0#32)
    (h3 : x 3 = constantI S_ 32 0#32) (h4 : x 4 = constantI S_ 32 0#32) (k : Fin 5) :
    (x k (Shape.Idx.first h_S_)).toInt = ((starts n.val k : ℕ) : ℤ) := by
  match k with
  | ⟨0, _⟩ => exact (congrArg (fun z : (⟨S_, .i32⟩ : BufTy).Contents (Elt Ideal) => (z (Shape.Idx.first h_S_)).toInt) h0).trans (word_chunk n)
  | ⟨1, _⟩ => exact (congrArg (fun z : (⟨S_, .i32⟩ : BufTy).Contents (Elt Ideal) => (z (Shape.Idx.first h_S_)).toInt) h1)
  | ⟨2, _⟩ => exact (congrArg (fun z : (⟨S_, .i32⟩ : BufTy).Contents (Elt Ideal) => (z (Shape.Idx.first h_S_)).toInt) h2)
  | ⟨3, _⟩ => exact (congrArg (fun z : (⟨S_, .i32⟩ : BufTy).Contents (Elt Ideal) => (z (Shape.Idx.first h_S_)).toInt) h3)
  | ⟨4, _⟩ => exact (congrArg (fun z : (⟨S_, .i32⟩ : BufTy).Contents (Elt Ideal) => (z (Shape.Idx.first h_S_)).toInt) h4)

theorem fits_rows (n : Fin 64) : S64x2x8x128x256.Slices (starts n.val) S1x2x8x128x256 := ⟨rfl, fun a => by
  have hn := n.isLt
  match a with
  | ⟨0, _⟩ => show n.val + 1 ≤ 64; omega
  | ⟨1, _⟩ => show 0 + 2 ≤ 2; omega
  | ⟨2, _⟩ => show 0 + 8 ≤ 8; omega
  | ⟨3, _⟩ => show 0 + 128 ≤ 128; omega
  | ⟨4, _⟩ => show 0 + 256 ≤ 256; omega⟩

theorem fits_states (n : Fin 64) : S64x2x8x256x256.Slices (starts n.val) S1x2x8x256x256 := ⟨rfl, fun a => by
  have hn := n.isLt
  match a with
  | ⟨0, _⟩ => show n.val + 1 ≤ 64; omega
  | ⟨1, _⟩ => show 0 + 2 ≤ 2; omega
  | ⟨2, _⟩ => show 0 + 8 ≤ 8; omega
  | ⟨3, _⟩ => show 0 + 256 ≤ 256; omega
  | ⟨4, _⟩ => show 0 + 256 ≤ 256; omega⟩

/-- The rows a trip takes. -/
theorem rowsTaken_apply (n : Fin 64) (x : Vec Ideal S64x2x8x128x256 .f32) (st : Fin 5 → ℤ) (hst : ∀ k, st k = ((starts n.val k : ℕ) : ℤ))
    (b : Fin 2) (h : Fin 8) (i : Fin 128) (d : Fin 256) :
    shapeCast S2x8x128x256 (Host.dynamicSlice S1x2x8x128x256 x st sliceFits_S64x2x8x128x256_S1x2x8x128x256)
      shapeCasts_S1x2x8x128x256_S2x8x128x256 (ix4 b h i d) = x (ix5 n b h i d) := by
  rw [WordCmp.dynamicSlice_eq_extract _ x st _ (starts n.val) (fits_rows n) hst]
  rw [shapeCast_apply _ shapeCasts_S1x2x8x128x256_S2x8x128x256 _ (ix5 (0 : Fin 1) b h i d) (by
    rewrite [Shape.rowMajor_val_five, Shape.rowMajor_val_four]
    show (((0 * 2 + b.val) * 8 + h.val) * 128 + i.val) * 256 + d.val = ((b.val * 8 + h.val) * 128 + i.val) * 256 + d.val
    omega)]
  exact extractStridedSlice_apply _ x (fits_rows n) _ _ (fun a => by
    match a with
    | ⟨0, _⟩ => rfl
    | ⟨1, _⟩ => show b.val = 0 + b.val; omega
    | ⟨2, _⟩ => show h.val = 0 + h.val; omega
    | ⟨3, _⟩ => show i.val = 0 + i.val; omega
    | ⟨4, _⟩ => show d.val = 0 + d.val; omega)

/-- What a trip adds to the state. -/
theorem addsTaken_apply (n : Fin 64) (x : Vec Ideal S64x2x8x256x256 .f32) (st : Fin 5 → ℤ) (hst : ∀ k, st k = ((starts n.val k : ℕ) : ℤ))
    (b : Fin 2) (h : Fin 8) (i : Fin 256) (d : Fin 256) :
    shapeCast S2x8x256x256 (Host.dynamicSlice S1x2x8x256x256 x st sliceFits_S64x2x8x256x256_S1x2x8x256x256)
      shapeCasts_S1x2x8x256x256_S2x8x256x256 (ix4 b h i d) = x (ix5 n b h i d) := by
  rw [WordCmp.dynamicSlice_eq_extract _ x st _ (starts n.val) (fits_states n) hst]
  rw [shapeCast_apply _ shapeCasts_S1x2x8x256x256_S2x8x256x256 _ (ix5 (0 : Fin 1) b h i d) (by
    rewrite [Shape.rowMajor_val_five, Shape.rowMajor_val_four]
    show (((0 * 2 + b.val) * 8 + h.val) * 256 + i.val) * 256 + d.val = ((b.val * 8 + h.val) * 256 + i.val) * 256 + d.val
    omega)]
  exact extractStridedSlice_apply _ x (fits_states n) _ _ (fun a => by
    match a with
    | ⟨0, _⟩ => rfl
    | ⟨1, _⟩ => show b.val = 0 + b.val; omega
    | ⟨2, _⟩ => show h.val = 0 + h.val; omega
    | ⟨3, _⟩ => show i.val = 0 + i.val; omega
    | ⟨4, _⟩ => show d.val = 0 + d.val; omega)

/-- A trip's rows in the result after it. -/
theorem written_same (n : Fin 64) (x : Vec Ideal S64x2x8x128x256 .f32) (u : Vec Ideal S2x8x128x256 .f32) (st : Fin 5 → ℤ)
    (hst : ∀ k, st k = ((starts n.val k : ℕ) : ℤ)) (b : Fin 2) (h : Fin 8) (i : Fin 128) (d : Fin 256) :
    Host.dynamicUpdateSlice x (broadcastInDim S1x2x8x128x256 ![1, 2, 3, 4] bcast_S2x8x128x256_S1x2x8x128x256_1_2_3_4 u) st
      updateFits_S64x2x8x128x256_S1x2x8x128x256 (ix5 n b h i d) = u (ix4 b h i d) := by
  rw [WordCmp.dynamicUpdateSlice_eq_update x _ st _ (starts n.val) (fits_rows n) hst]
  unfold updateSlice
  rw [dif_pos (fun a => by
    match a with
    | ⟨0, _⟩ => show n.val ≤ n.val ∧ n.val < n.val + 1; omega
    | ⟨1, _⟩ => have := b.isLt; show 0 ≤ b.val ∧ b.val < 0 + 2; omega
    | ⟨2, _⟩ => have := h.isLt; show 0 ≤ h.val ∧ h.val < 0 + 8; omega
    | ⟨3, _⟩ => have := i.isLt; show 0 ≤ i.val ∧ i.val < 0 + 128; omega
    | ⟨4, _⟩ => have := d.isLt; show 0 ≤ d.val ∧ d.val < 0 + 256; omega)]
  exact broadcastInDim_apply _ bcast_S2x8x128x256_S1x2x8x128x256_1_2_3_4 u _ (ix4 b h i d) (fun a => by
    match a with
    | ⟨0, _⟩ => rfl
    | ⟨1, _⟩ => rfl
    | ⟨2, _⟩ => rfl
    | ⟨3, _⟩ => rfl)

/-- The other chunks' rows keep what they hold. -/
theorem written_other (n n' : Fin 64) (hn : n' ≠ n) (x : Vec Ideal S64x2x8x128x256 .f32) (u : Vec Ideal S1x2x8x128x256 .f32) (st : Fin 5 → ℤ)
    (hst : ∀ k, st k = ((starts n.val k : ℕ) : ℤ)) (b : Fin 2) (h : Fin 8) (i : Fin 128) (d : Fin 256) :
    Host.dynamicUpdateSlice x u st updateFits_S64x2x8x128x256_S1x2x8x128x256 (ix5 n' b h i d) = x (ix5 n' b h i d) := by
  rw [WordCmp.dynamicUpdateSlice_eq_update x _ st _ (starts n.val) (fits_rows n) hst]
  unfold updateSlice
  rw [dif_neg (fun hin => hn (Fin.ext (by
    have h0 : n.val ≤ n'.val ∧ n'.val < n.val + 1 := hin 0
    omega)))]

/-! ## The trips -/

/-- The loop's state after so many trips. -/
def refIter (a : Vec Ideal S112x16384x128 .bf16) (o : Vec Ideal S16x16384x128 .f32) (r : Vec Ideal S2x8 .f32) : ℕ → State Ideal
  | 0 => init a o r
  | n + 1 => step n (refIter a o r n)

section Args
variable (a : Vec Ideal S112x16384x128 .bf16) (o : Vec Ideal S16x16384x128 .f32) (r : Vec Ideal S2x8 .f32) (b : Fin 2) (h : Fin 8)

theorem kept0 (n : ℕ) : (refIter a o r n).main_v126_0 = A_main_v122 a o r := by
  induction n with
  | zero => unfold refIter init; rfl
  | succ n ih => unfold refIter step; exact ih
theorem kept1 (n : ℕ) : (refIter a o r n).main_v126_1 = A_main_v123 a o r := by
  induction n with
  | zero => unfold refIter init; rfl
  | succ n ih => unfold refIter step; exact ih
theorem kept2 (n : ℕ) : (refIter a o r n).main_v126_2 = A_main_v124 a o r := by
  induction n with
  | zero => unfold refIter init; rfl
  | succ n ih => unfold refIter step; exact ih
theorem kept3 (n : ℕ) : (refIter a o r n).main_v126_3 = A_main_v110 a o r := by
  induction n with
  | zero => unfold refIter init; rfl
  | succ n ih => unfold refIter step; exact ih

theorem zeros_apply (d e : Fin 256) : K_main_v121 (F := Ideal) (ix4 b h d e) = 0 := by
  rw [← Ideal.ofBits_zero_f32]
  unfold K_main_v121
  rfl

theorem ofNat_eq (n : Fin 64) : Fin.ofNat 64 n.val = n := Fin.ext (Nat.mod_eq_of_lt n.isLt)

/-- The chunk's decayed queries a trip takes. -/
theorem b5_apply (n : Fin 64) (i : Fin 128) (d : Fin 256) : b5 n.val (refIter a o r n.val) (ix4 b h i d)
    = qs a C S b h n.rev i.rev d * decayQ (L a o r (ix2 (1 : Fin 2) h)) i := by
  rw [← qTaken_apply, ← kept0 a o r n.val]
  unfold b5 b4
  exact rowsTaken_apply n (refIter a o r n.val).main_v126_0 _ (starts_eq n _ rfl rfl rfl rfl rfl) b h i d

theorem b11_apply (n : Fin 64) (d e : Fin 256) : b11 n.val (refIter a o r n.val) (ix4 b h d e)
    = chunkAdd (L a o r (ix2 (1 : Fin 2) h)) (fun i => ks a C S b h n.rev i.rev) (fun i => vs a b h n.rev i.rev) d e := by
  rw [← addTaken_apply, ← kept1 a o r n.val]
  unfold b11 b10
  exact addsTaken_apply n (refIter a o r n.val).main_v126_1 _ (starts_eq n _ rfl rfl rfl rfl rfl) b h d e

theorem b17_apply (n : Fin 64) (i : Fin 128) (e : Fin 256) : b17 n.val (refIter a o r n.val) (ix4 b h i e)
    = os o b h n.rev i.rev e := by
  rw [← sumsTaken_apply a o r, ← kept2 a o r n.val]
  unfold b17 b16
  exact rowsTaken_apply n (refIter a o r n.val).main_v126_2 _ (starts_eq n _ rfl rfl rfl rfl rfl) b h i e

theorem b18_apply (n : ℕ) (d e : Fin 256) : b18 n (refIter a o r n) (ix4 b h d e) = decayC (L a o r (ix2 (1 : Fin 2) h)) := by
  rw [← decayTaken_apply, ← kept3 a o r n]
  unfold b18
  exact broadcastInDim_apply _ bcast_S1x8x1x1_S2x8x256x256_0_1_2_3 (refIter a o r n).main_v126_3 _ (ix4 (0 : Fin 1) h (0 : Fin 1) (0 : Fin 1)) (fun c => by
    match c with
    | ⟨0, _⟩ => rfl
    | ⟨1, _⟩ => rfl
    | ⟨2, _⟩ => rfl
    | ⟨3, _⟩ => rfl)

/-- The state after `n` trips. -/
theorem state_apply (n : ℕ) (hn : n ≤ 64) (d e : Fin 256) : (refIter a o r n).main_v126_5 (ix4 b h d e)
    = later (L a o r (ix2 (1 : Fin 2) h)) (ks a C S b h) (vs a b h) n d e := by
  induction n generalizing d e with
  | zero =>
    unfold refIter init later state
    exact zeros_apply b h d e
  | succ n ih =>
    have hn' : n < 64 := by omega
    have ih' := ih (by omega) d e
    unfold later at ih'
    unfold refIter later state chunkNext
    rw [step_main_v126_5, ofNat_eq ⟨n, hn'⟩, ← b11_apply a o r b h ⟨n, hn'⟩, ← ih', ← b18_apply a o r b h n d e]
    unfold b20 b19
    exact (sum_at _ (b11 n (refIter a o r n)) _).trans (congrArg (· + _) (product_at (b18 n (refIter a o r n)) (refIter a o r n).main_v126_5 _))

/-- A trip's rows. -/
theorem b22_apply (n : Fin 64) (i : Fin 128) (e : Fin 256) :
    b22 n.val (refIter a o r n.val) (ix4 b h i e) = bothSums a o (L a o r) C S b h n.rev i.rev e := by
  have hn : 63 - n.rev.val = n.val := by have := n.isLt; rw [Fin.val_rev]; omega
  unfold bothSums sumsOf
  rw [hn, ← b17_apply]
  unfold b22
  refine (sum_at (b17 n.val (refIter a o r n.val)) (b21 n.val (refIter a o r n.val)) _).trans (congrArg (_ + ·) ?_)
  unfold b21
  rw [dotState]
  refine Finset.sum_congr rfl fun d _ => ?_
  rw [b5_apply, state_apply a o r b h n.val (le_of_lt n.isLt), ← decayQ_rev, Fin.rev_rev]

/-- The chunks written after `n` trips. -/
theorem written_apply (n : ℕ) (hn : n ≤ 64) (n' : Fin 64) (hlt : n'.val < n) (i : Fin 128) (e : Fin 256) :
    (refIter a o r n).main_v126_6 (ix5 n' b h i e) = bothSums a o (L a o r) C S b h n'.rev i.rev e := by
  induction n with
  | zero => exact absurd hlt (Nat.not_lt_zero _)
  | succ n ih =>
    have hn' : n < 64 := by omega
    unfold refIter
    rw [step_main_v126_6]
    unfold b28 b23
    by_cases hd : n' = ⟨n, hn'⟩
    · subst hd
      rw [← b22_apply]
      exact written_same ⟨n, hn'⟩ (refIter a o r n).main_v126_6 (b22 n (refIter a o r n)) _ (starts_eq ⟨n, hn'⟩ _ rfl rfl rfl rfl rfl) b h i e
    · have hv : n'.val ≠ n := fun hv => hd (Fin.ext hv)
      rw [← ih (by omega) (by omega)]
      exact written_other ⟨n, hn'⟩ n' hd (refIter a o r n).main_v126_6 _ _ (starts_eq ⟨n, hn'⟩ _ rfl rfl rfl rfl rfl) b h i e

end Args

end Cert.RetBwdRefIdeal.Operands
end
-- ==== Proof.RetBwdNormed.lean ====
/- The backward reference's ending, read at an index at the ideal values: the sums of both passes, normalised head by head,
   scaled and gated, as an array of tokens by heads and features. -/
module

public import proofs.«01_k».proof.Proof.RetBwdLoop
public import Idealize.ShloMosaic.Lib.Pointwise.Reduce

@[expose] public section

set_option maxRecDepth 16384

noncomputable section

namespace Cert.RetBwdRefIdeal.Operands

open Cert.RetBwdRefIdeal Cert.RetBwdRefIdeal.Gen Cert.RetBwdRefIdeal.Step Idealize.ShloMosaic
open Cert.Proof.RetFwdMath Cert.Proof.RetBwdMath

/-! ## Its parts -/

abbrev Rows := Vec Ideal S2x8x8192x256 .f32
abbrev Column := Vec Ideal S2x8x8192x1 .f32

/-- A column's value at each feature. -/
def spread (m : Column) : Rows := broadcastInDim S2x8x8192x256 ![0, 1, 2, 3] bcast_S2x8x8192x1_S2x8x8192x256_0_1_2_3 m
/-- One number in a column. -/
def filled (w : BitVec 32) : Column := broadcastInDim S2x8x8192x1 ![] bcast_S_S2x8x8192x1 (constant (F := Ideal) S_ .f32 w)
/-- The rows' means. -/
def means (x : Rows) : Column :=
  Host.divf (F := Ideal) (φ := .f32) (broadcastInDim S2x8x8192x1 ![0, 1, 2] bcast_S2x8x8192_S2x8x8192x1_0_1_2
    (Host.reduceAdd (F := Ideal) (φ := .f32) x (constant (F := Ideal) S_ .f32 0x00000000#32) reducesTo_S2x8x8192x256_S2x8x8192_d3 h_S_)) (filled 0x43800000#32)
/-- The rows less their means. -/
def centred (x : Rows) : Rows := subf (F := Ideal) (φ := .f32) x (spread (means x))
/-- The rows normalised. -/
def standard (x : Rows) : Rows :=
  mulf (F := Ideal) (φ := .f32) (centred x) (spread (Host.rsqrt (F := Ideal) (φ := .f32) (addf (F := Ideal) (φ := .f32)
    (means (mulf (F := Ideal) (φ := .f32) (centred x) (centred x))) (filled 0x358637BD#32))))
/-- The heads' scales, for every row. -/
def scales (w : Vec Ideal S2048 .f32) : Rows :=
  broadcastInDim S2x8x8192x256 ![0, 1, 2, 3] bcast_S1x8x1x256_S2x8x8192x256_0_1_2_3
    (broadcastInDim S1x8x1x256 ![1, 3] bcast_S8x256_S1x8x1x256_1_3 (shapeCast S8x256 w shapeCasts_S2048_S8x256))
/-- The gates' rows. -/
def gateRows (a : Vec Ideal S112x16384x128 .bf16) : Rows :=
  shapeCast S2x8x8192x256 (transpose S2x8x8192x2x128 [2, 0, 3, 1, 4] (shapeCast S8x2x2x8192x128
    (extf (F := Ideal) (φ := .bf16) .f32 (extractStridedSlice S16x16384x128 ![48, 0, 0] a slices_S112x16384x128_S16x16384x128_48_0_0))
    shapeCasts_S16x16384x128_S8x2x2x8192x128) transposes_S8x2x2x8192x128_S2x8x8192x2x128_2_0_3_1_4) shapeCasts_S2x8x8192x2x128_S2x8x8192x256
/-- One over one and the exponential of the negative. -/
def sigmoid (z : Rows) : Rows :=
  Host.divf (F := Ideal) (φ := .f32) (broadcastInDim S2x8x8192x256 ![] bcast_S_S2x8x8192x256 (constant (F := Ideal) S_ .f32 0x3F800000#32))
    (addf (F := Ideal) (φ := .f32) (broadcastInDim S2x8x8192x256 ![] bcast_S_S2x8x8192x256 (constant (F := Ideal) S_ .f32 0x3F800000#32)) (Host.exp (F := Ideal) (φ := .f32) (Host.negf (F := Ideal) (φ := .f32) z)))
/-- The rows the loop has written, in their order. -/
def rowsOf (y : Vec Ideal S64x2x8x128x256 .f32) : Rows :=
  Host.reverse [2] (shapeCast S2x8x8192x256 (transpose S2x8x64x128x256 [1, 2, 0, 3, 4] y transposes_S64x2x8x128x256_S2x8x64x128x256_1_2_0_3_4)
    shapeCasts_S2x8x64x128x256_S2x8x8192x256)
/-- Tokens by heads and features. -/
def tokens (x : Rows) : Vec Ideal S16384x2048 .bf16 :=
  truncf (F := Ideal) (φ := .f32) .bf16 (shapeCast S16384x2048 (transpose S2x8192x8x256 [0, 2, 1, 3] x transposes_S2x8x8192x256_S2x8192x8x256_0_2_1_3) shapeCasts_S2x8192x8x256_S16384x2048)

theorem ending (s : State Ideal) (a : Vec Ideal S112x16384x128 .bf16) (w : Vec Ideal S2048 .f32) : R_main_v161 s a w
    = tokens (mulf (F := Ideal) (φ := .f32) (mulf (F := Ideal) (φ := .f32) (standard (rowsOf s.main_v126_6)) (scales w))
        (mulf (F := Ideal) (φ := .f32) (gateRows a) (sigmoid (gateRows a)))) := by
  unfold R_main_v161 tokens standard centred means spread filled scales sigmoid gateRows rowsOf
  rfl

/-! ## Each at an index -/

theorem spread_apply (m : Column) (b : Fin 2) (h : Fin 8) (t : Fin 8192) (e : Fin 256) : spread m (ValueIdx.ix4 b h t e) = m (ValueIdx.ix4 b h t (0 : Fin 1)) :=
  broadcastInDim_apply _ bcast_S2x8x8192x1_S2x8x8192x256_0_1_2_3 m _ _ (fun c => by
    match c with
    | ⟨0, _⟩ => rfl
    | ⟨1, _⟩ => rfl
    | ⟨2, _⟩ => rfl
    | ⟨3, _⟩ => rfl)

theorem column_apply (x : Vec Ideal S2x8x8192 .f32) (b : Fin 2) (h : Fin 8) (t : Fin 8192) :
    broadcastInDim S2x8x8192x1 ![0, 1, 2] bcast_S2x8x8192_S2x8x8192x1_0_1_2 x (ValueIdx.ix4 b h t (0 : Fin 1)) = x (ValueIdx.ix3 b h t) :=
  broadcastInDim_apply _ bcast_S2x8x8192_S2x8x8192x1_0_1_2 x _ _ (fun c => by
    match c with
    | ⟨0, _⟩ => rfl
    | ⟨1, _⟩ => rfl
    | ⟨2, _⟩ => rfl)

theorem rowSum_apply (x : Rows) (b : Fin 2) (h : Fin 8) (t : Fin 8192) :
    Host.reduceAdd (F := Ideal) (φ := .f32) x (constant (F := Ideal) S_ .f32 0x00000000#32) reducesTo_S2x8x8192x256_S2x8x8192_d3 h_S_ (ValueIdx.ix3 b h t)
      = ∑ e : Fin 256, x (ValueIdx.ix4 b h t e) := by
  show Ideal.hostReduceAdd _ _ _ _ = _
  rw [Ideal.hostReduceAdd_r4_a3]
  show Ideal.ofBits .f32 0x00000000#32 + _ = _
  rw [Ideal.ofBits_zero_f32, zero_add]
  rfl

theorem means_apply (x : Rows) (b : Fin 2) (h : Fin 8) (t : Fin 8192) : means x (ValueIdx.ix4 b h t (0 : Fin 1)) = mean (fun e => x (ValueIdx.ix4 b h t e)) :=
  congrArg (Ideal.div · (Ideal.ofBits .f32 0x43800000#32)) ((column_apply _ b h t).trans (rowSum_apply x b h t))

theorem centred_apply (x : Rows) (b : Fin 2) (h : Fin 8) (t : Fin 8192) (e : Fin 256) :
    centred x (ValueIdx.ix4 b h t e) = x (ValueIdx.ix4 b h t e) - mean (fun e => x (ValueIdx.ix4 b h t e)) :=
  congrArg (x (ValueIdx.ix4 b h t e) - ·) ((spread_apply (means x) b h t e).trans (means_apply x b h t))

theorem standard_apply (x : Rows) (b : Fin 2) (h : Fin 8) (t : Fin 8192) (e : Fin 256) :
    standard x (ValueIdx.ix4 b h t e) = normed (fun e => x (ValueIdx.ix4 b h t e)) e :=
  congrArg₂ (· * ·) (centred_apply x b h t e) ((spread_apply _ b h t e).trans
    (congrArg (fun m => Ideal.rsqrt (m + Ideal.ofBits .f32 0x358637BD#32)) ((means_apply _ b h t).trans
      (congrArg mean (funext fun e => congrArg₂ (· * ·) (centred_apply x b h t e) (centred_apply x b h t e))))))

theorem scales_apply (w : Vec Ideal S2048 .f32) (b : Fin 2) (h : Fin 8) (t : Fin 8192) (e : Fin 256) : scales w (ValueIdx.ix4 b h t e) = ws w h e := by
  unfold scales ws
  rw [broadcastInDim_apply _ bcast_S1x8x1x256_S2x8x8192x256_0_1_2_3 _ _ (ValueIdx.ix4 (0 : Fin 1) h (0 : Fin 1) e) (fun c => by
    match c with
    | ⟨0, _⟩ => rfl
    | ⟨1, _⟩ => rfl
    | ⟨2, _⟩ => rfl
    | ⟨3, _⟩ => rfl)]
  rw [broadcastInDim_apply _ bcast_S8x256_S1x8x1x256_1_3 _ _ (ValueIdx.ix2 h e) (fun c => by
    match c with
    | ⟨0, _⟩ => rfl
    | ⟨1, _⟩ => rfl)]
  exact shapeCast_apply w shapeCasts_S2048_S8x256 _ _ (by
    rewrite [Shape.rowMajor_val_one, Shape.rowMajor_val_two]
    show 256 * h.val + e.val = h.val * 256 + e.val
    omega)

theorem gateRows_apply (a : Vec Ideal S112x16384x128 .bf16) (b : Fin 2) (h : Fin 8) (n : Fin 64) (i : Fin 128) (e : Fin 256) :
    gateRows a (ValueIdx.ix4 b h (row n i) e) = gs a b h n i e := by
  have he := e.isLt
  unfold gateRows gs joined gatePart
  have hr : ∀ z : S16x16384x128.Idx, ∀ y : S112x16384x128.Idx, (y 0).val = 48 + (z 0).val → (y 1).val = (z 1).val → (y 2).val = (z 2).val →
      (extf (F := Ideal) (φ := .bf16) .f32 (extractStridedSlice S16x16384x128 ![48, 0, 0] a slices_S112x16384x128_S16x16384x128_48_0_0) : FVec Ideal S16x16384x128 .f32) z = a y := by
    intro z y h0 h1 h2
    show extractStridedSlice S16x16384x128 ![48, 0, 0] a slices_S112x16384x128_S16x16384x128_48_0_0 z = a y
    refine congrArg a (funext fun c => Fin.ext ?_)
    match c with
    | ⟨0, _⟩ => exact h0.symm
    | ⟨1, _⟩ => exact (Nat.zero_add _).trans h1.symm
    | ⟨2, _⟩ => exact (Nat.zero_add _).trans h2.symm
  rw [heads_apply _ b h (row n i) e (ValueIdx.ix3 (⟨2 * h.val + e.val / 128, by omega⟩ : Fin 16) (⟨8192 * b.val + (128 * n.val + i.val), by omega⟩ : Fin 16384)
    (⟨e.val % 128, by omega⟩ : Fin 128)) rfl rfl rfl]
  by_cases hd : e.val < 128
  · rw [dif_pos hd]
    exact hr _ _ (by show 48 + 2 * h.val + 0 = 48 + (2 * h.val + e.val / 128); omega)
      (by show 8192 * b.val + 128 * n.val + i.val = 8192 * b.val + (128 * n.val + i.val); omega) (by show e.val = e.val % 128; omega)
  · rw [dif_neg hd]
    exact hr _ _ (by show 48 + 2 * h.val + 1 = 48 + (2 * h.val + e.val / 128); omega)
      (by show 8192 * b.val + 128 * n.val + i.val = 8192 * b.val + (128 * n.val + i.val); omega) (by show e.val - 128 = e.val % 128; omega)

theorem sigmoid_apply (z : Rows) (y : S2x8x8192x256.Idx) : sigmoid z y = Ideal.logistic (z y) := by
  show Ideal.div (Ideal.ofBits .f32 0x3F800000#32) (Ideal.ofBits .f32 0x3F800000#32 + Ideal.exp (-(z y))) = _
  rw [Ideal.ofBits_one_f32]
  rfl

theorem rowsOf_apply (y : Vec Ideal S64x2x8x128x256 .f32) (b : Fin 2) (h : Fin 8) (n : Fin 64) (i : Fin 128) (e : Fin 256) :
    rowsOf y (ValueIdx.ix4 b h (row n i) e) = y (ValueIdx.ix5 n.rev b h i.rev e) := by
  unfold rowsOf
  rw [reverse_apply, joined_apply]
  exact transpose_apply _ y transposes_S64x2x8x128x256_S2x8x64x128x256_1_2_0_3_4 _ _ (fun c => by
    match c with
    | ⟨0, _⟩ => rfl
    | ⟨1, _⟩ => rfl
    | ⟨2, _⟩ => rfl
    | ⟨3, _⟩ => rfl
    | ⟨4, _⟩ => rfl)

theorem tokens_apply (x : Rows) (b : Fin 2) (h : Fin 8) (t : Fin 8192) (e : Fin 256) (y : S16384x2048.Idx)
    (h0 : (y 0).val = 8192 * b.val + t.val) (h1 : (y 1).val = 256 * h.val + e.val) : tokens x y = x (ValueIdx.ix4 b h t e) := by
  show shapeCast S16384x2048 (transpose S2x8192x8x256 [0, 2, 1, 3] x transposes_S2x8x8192x256_S2x8192x8x256_0_2_1_3) shapeCasts_S2x8192x8x256_S16384x2048 y = _
  rw [shapeCast_apply _ shapeCasts_S2x8192x8x256_S16384x2048 _ (ValueIdx.ix4 b t h e) (by
    rewrite [Shape.rowMajor_val_four, Shape.rowMajor_val_two]
    show ((b.val * 8192 + t.val) * 8 + h.val) * 256 + e.val = (y 0).val * 2048 + (y 1).val
    omega)]
  exact transpose_apply _ x transposes_S2x8x8192x256_S2x8192x8x256_0_2_1_3 _ _ (fun c => by
    match c with
    | ⟨0, _⟩ => rfl
    | ⟨1, _⟩ => rfl
    | ⟨2, _⟩ => rfl
    | ⟨3, _⟩ => rfl)

/-- Rows normalised, scaled and gated, at a token. -/
theorem ended_apply (x g z : Rows) (b : Fin 2) (h : Fin 8) (t : Fin 8192) (e : Fin 256) (y : S16384x2048.Idx)
    (h0 : (y 0).val = 8192 * b.val + t.val) (h1 : (y 1).val = 256 * h.val + e.val) :
    tokens (mulf (F := Ideal) (φ := .f32) (mulf (F := Ideal) (φ := .f32) (standard x) g) (mulf (F := Ideal) (φ := .f32) z (sigmoid z))) y
      = normed (fun e => x (ValueIdx.ix4 b h t e)) e * g (ValueIdx.ix4 b h t e)
        * (z (ValueIdx.ix4 b h t e) * Ideal.logistic (z (ValueIdx.ix4 b h t e))) := by
  rw [tokens_apply _ b h t e y h0 h1, product_at, product_at, product_at, standard_apply, sigmoid_apply]

/-- The reference's result. -/
theorem result_eq (a : (⟨S112x16384x128, .bf16⟩ : BufTy).Contents (Elt Ideal)) (o : (⟨S16x16384x128, .f32⟩ : BufTy).Contents (Elt Ideal))
    (r : (⟨S2x8, .f32⟩ : BufTy).Contents (Elt Ideal)) (w : (⟨S2048, .f32⟩ : BufTy).Contents (Elt Ideal)) :
    R_main_v161 (refIter a o r 64) a w = Cert.Proof.RetBwdMath.result a o (L a o r) w C S := by
  funext y
  have h0 : (y 0).val < 16384 := (y 0).isLt
  have h1 : (y 1).val < 2048 := (y 1).isLt
  have hx : ∀ (b : Fin 2) (h : Fin 8) (n : Fin 64) (i : Fin 128),
      (fun e => rowsOf (refIter a o r 64).main_v126_6 (ValueIdx.ix4 b h (row n i) e)) = bothSums a o (L a o r) C S b h n i := by
    intro b h n i
    funext e
    rw [rowsOf_apply, written_apply a o r _ _ 64 (le_refl _) _ (Fin.isLt _), Fin.rev_rev, Fin.rev_rev]
  rw [ending]
  rw [ended_apply _ _ _ (⟨(y 0).val / 8192, by omega⟩ : Fin 2) (⟨(y 1).val / 256, by omega⟩ : Fin 8)
    (row (⟨(y 0).val % 8192 / 128, by omega⟩ : Fin 64) (⟨(y 0).val % 128, by omega⟩ : Fin 128)) (⟨(y 1).val % 256, by omega⟩ : Fin 256) y
    (by show (y 0).val = 8192 * ((y 0).val / 8192) + (128 * ((y 0).val % 8192 / 128) + (y 0).val % 128); omega)
    (by show (y 1).val = 256 * ((y 1).val / 256) + (y 1).val % 256; omega)]
  rw [hx, scales_apply, gateRows_apply]
  unfold Cert.Proof.RetBwdMath.result retained gated
  rfl

end Cert.RetBwdRefIdeal.Operands
end
-- ==== Proof.RetBwdBody.lean ====
/- The backward retention's kernel body, at every grid point.

   A grid point has one head's 1024 rows of a batch: two slabs of 128 lanes each of queries, keys, values, of the forward
   pass's sums and of gates. The body goes through their eight chunks of 128 rows, the last one first. For each it turns the
   queries and the keys, adds what the state of the later chunks adds, normalises and gates the sums, stores them as one
   tile, and replaces the state it keeps in a scratch buffer. Here the eight stored tiles and the last state are one
   function of a chunk, applied to the chunks in turn. -/
module

public import proofs.«01_k».proof.Proof.Gen.RetBwdIdeal.Frame
public import proofs.«01_k».proof.Proof.Gen.RetBwdIdeal.Value
public import Idealize.ShloMosaic.Lib.ValueIdx
public import Idealize.ShloMosaic.Lib.Pipeline.ValueKit.Tiles

@[expose] public section

noncomputable section

namespace Cert.RetBwdIdeal.Retention

open Cert.RetBwdIdeal Cert.RetBwdIdeal.Gen Idealize.ShloMosaic Idealize.ShloMosaic.TcCoe Idealize.SL.Sem

variable {F : FTy → Type} [FloatOps F]

theorem zero2 : (![0, 0] : Fin 2 → ℕ) = fun _ => 0 := by decide

/-- A load of the whole scratch reads what the last store of it left, whatever was stored before. -/
theorem readCov_last {sig : RefSig} {κ : Kind} {sp : Space} (v : View sig κ sp S256x256 .f32) (w : Vec F S256x256 .f32)
    (L : List (View.Piece (Elt F) S256x256 .f32)) (inb : ∀ a, (![0, 0] : Fin S256x256.rank → ℕ) a + S256x256.size a ≤ S256x256.size a) :
    v.readCov ((⟨Rect.unit ![0, 0] S256x256.size inb, w⟩ : View.Piece (Elt F) S256x256 .f32) :: L)
      (Rect.unit ![0, 0] S256x256.size inb).toLoadRect = w := by
  rw [View.readCov_eq_canon_ld _ _ _ (fun y => ⟨_, List.mem_cons_self, View.mem_set_unit_zero zero2 inb y⟩),
    View.canon_cons_unit_zero zero2, View.ld_unit_zero zero2]

/-- The same, with the sizes written out. -/
theorem readCov_last' {sig : RefSig} {κ : Kind} {sp : Space} (v : View sig κ sp S256x256 .f32) (w : Vec F S256x256 .f32)
    (L : List (View.Piece (Elt F) S256x256 .f32)) (inb : ∀ a, (![0, 0] : Fin S256x256.rank → ℕ) a + (![256, 256] : Fin S256x256.rank → ℕ) a ≤ S256x256.size a) :
    v.readCov ((⟨Rect.unit ![0, 0] ![256, 256] inb, w⟩ : View.Piece (Elt F) S256x256 .f32) :: L)
      (Rect.unit ![0, 0] ![256, 256] inb).toLoadRect = w := readCov_last v w L inb

/-! ## One chunk -/

/-- Chunk `k`'s rows of a table. -/
def rows (x : Vec F S1024x128 .f32) (k : Fin 8) : Vec F S128x128 .f32 :=
  View.ld x (Rect.unit ![128 * k.val, 0] ![128, 128] (fun a => by
    have := k.isLt
    match a with
    | ⟨0, _⟩ => show 128 * k.val + 128 ≤ 1024; omega
    | ⟨1, _⟩ => show 0 + 128 ≤ 128; omega))

/-- Chunk `k`'s rows of slab `p` of a block. -/
def slab (x : Vec F S2x1024x128 .bf16) (p : Fin 2) (k : Fin 8) : Vec F S1x128x128 .bf16 :=
  View.ld x (Rect.unit ![p.val, 128 * k.val, 0] ![1, 128, 128] (fun a => by
    have := k.isLt
    have := p.isLt
    match a with
    | ⟨0, _⟩ => show p.val + 1 ≤ 2; omega
    | ⟨1, _⟩ => show 128 * k.val + 128 ≤ 1024; omega
    | ⟨2, _⟩ => show 0 + 128 ≤ 128; omega))

/-- Chunk `k`'s rows of slab `p` of the forward pass's sums. -/
def slabF (x : Vec F S2x1024x128 .f32) (p : Fin 2) (k : Fin 8) : Vec F S1x128x128 .f32 :=
  View.ld x (Rect.unit ![p.val, 128 * k.val, 0] ![1, 128, 128] (fun a => by
    have := k.isLt
    have := p.isLt
    match a with
    | ⟨0, _⟩ => show p.val + 1 ≤ 2; omega
    | ⟨1, _⟩ => show 128 * k.val + 128 ≤ 1024; omega
    | ⟨2, _⟩ => show 0 + 128 ≤ 128; omega))

section Chunk
variable (lg : Elt F .f32) (x1 x2 x3 : Vec F S2x1024x128 .bf16) (x4 x5 : Vec F S1024x128 .f32) (x6 : Vec F S2x1024x128 .f32)
  (x7 : Vec F S2x1024x128 .bf16) (x8 : Vec F S1x256 .f32)

/-- The chunk's turned queries. -/
def queries (k : Fin 8) : FVec F S128x256 .f32 := k0_pay9 (rows x4 k) (rows x5 k) (slab x1 0 k) (slab x1 1 k)

/-- What the chunk adds to the state. -/
def adds (k : Fin 8) : FVec F S256x256 .f32 :=
  k0_pay11 (k0_pay5 lg) (k0_pay7 (rows x4 k)) (k0_pay8 (rows x5 k)) (k0_pay10 (slab x2 0 k)) (slab x2 1 k) (slab x3 0 k) (slab x3 1 k)

/-- The state after the chunk. -/
def next (k : Fin 8) (S : Vec F S256x256 .f32) : Vec F S256x256 .f32 := k0_pay69 (k0_pay6 lg) (adds lg x2 x3 x4 x5 k) S

/-- The chunk's sums, given the state before it. -/
def sums (k : Fin 8) (S : Vec F S256x256 .f32) : FVec F S128x256 .f32 :=
  k0_pay68 (k0_pay12 (slabF x6 0 k) (slabF x6 1 k)) (k0_pay13 (k0_pay4 lg) (queries x1 x4 x5 k)) S

/-- The chunk's output: the sums normalised and gated. -/
def output (k : Fin 8) (S : Vec F S256x256 .f32) : FVec F S128x256 .bf16 :=
  k0_pay70 (sums lg x1 x4 x5 x6 k S) (slab x7 0 k) (slab x7 1 k) x8

/-- The state once the block's last `n` chunks are done, when `S` is the state before the block. -/
def chain (S : Vec F S256x256 .f32) : ℕ → Vec F S256x256 .f32
  | 0 => S
  | n + 1 => next lg x2 x3 x4 x5 (Fin.ofNat 8 (7 - n)) (chain S n)

/-- The block of outputs: row `r` of the block is row `r % 128` of chunk `r / 128`. -/
def blockOut (S : Vec F S256x256 .f32) : Vec F S1024x256 .bf16 := fun y =>
  output lg x1 x4 x5 x6 x7 x8 (⟨(y 0).val / 128, by have h : (y 0).val < 1024 := (y 0).isLt; omega⟩ : Fin 8)
    (chain lg x2 x3 x4 x5 S (7 - (y 0).val / 128))
    (ValueIdx.ix2 (⟨(y 0).val % 128, Nat.mod_lt _ (by decide)⟩ : Fin 128) (⟨(y 1).val, (y 1).isLt⟩ : Fin 256))

/-- One stored tile of it. -/
theorem tile_at (S : Vec F S256x256 .f32) (y : S1024x256.Idx) (k n : ℕ) (hk : k < 8) (hn : n = 7 - k)
    (x : S128x256.Idx) (hx : ∀ a, (y a : ℕ) = (![128 * k, 0] : Fin 2 → ℕ) a + x a) :
    output lg x1 x4 x5 x6 x7 x8 ⟨k, hk⟩ (chain lg x2 x3 x4 x5 S n) x = blockOut lg x1 x2 x3 x4 x5 x6 x7 x8 S y := by
  subst hn
  have b0 : (x 0).val < 128 := (x 0).isLt
  have e0 : (y 0).val = 128 * k + (x 0).val := hx 0
  have e1 : (y 1).val = 0 + (x 1).val := hx 1
  have hd : (y 0).val / 128 = k := by omega
  unfold blockOut
  have hk' : (⟨(y 0).val / 128, by omega⟩ : Fin 8) = ⟨k, hk⟩ := Fin.ext hd
  rw [hk', hd]
  refine congrArg _ (funext fun a => Fin.ext ?_)
  match a with
  | ⟨0, _⟩ => show (x 0).val = (y 0).val % 128; omega
  | ⟨1, _⟩ => show (x 1).val = (y 1).val; omega

end Chunk

/-- A head's number as a machine word is itself. -/
theorem head_word : ∀ k : Fin 8, (Scalar.indexCast (BitVec.ofNat 32 k.val)).toNat = k.val := by decide

/-- The scalar load of the decay logarithm of direction `d` at a point's head. -/
def logAt (i : grid0.Coords) (x0 : Vec F S2x8 .f32) (d : Fin 2) : Elt F .f32 :=
  View.ld x0 (Rect.unit ![d.val, (Scalar.indexCast (BitVec.ofNat 32 (i 1).val)).toNat] ![1, 1] (fun a => by
    have := d.isLt
    match a with
    | ⟨0, _⟩ => show d.val + 1 ≤ 2; omega
    | ⟨1, _⟩ =>
      have h8 : (i 1).val < 8 := (i 1).isLt
      have hw : (Scalar.indexCast (BitVec.ofNat 32 (i 1).val)).toNat = (i 1).val := head_word ⟨(i 1).val, h8⟩
      show (Scalar.indexCast (BitVec.ofNat 32 (i 1).val)).toNat + 1 ≤ 8
      omega)) (Shape.Idx.first (by
      show 0 < Shape.numel ⟨2, ![1, 1]⟩
      decide))

/-- It is the table's entry. -/
theorem logAt_eq (i : grid0.Coords) (x0 : Vec F S2x8 .f32) (d : Fin 2) :
    logAt i x0 d = x0 (ValueIdx.ix2 d (⟨(i 1).val, (i 1).isLt⟩ : Fin 8)) := by
  refine congrArg x0 (funext fun a => Fin.ext ?_)
  match a with
  | ⟨0, _⟩ => rfl
  | ⟨1, _⟩ => exact head_word ⟨(i 1).val, (i 1).isLt⟩

variable (c : Dev nD) (i : grid0.Coords) (a3 : Memref sig .tc .smem S2x8 .f32) (h3 : a3.IsWhole) (a4 : Memref sig .tc .vmem S2x1024x128 .bf16) (h4 : a4.IsWhole) (a5 : Memref sig .tc .vmem S2x1024x128 .bf16) (h5 : a5.IsWhole) (a6 : Memref sig .tc .vmem S2x1024x128 .bf16) (h6 : a6.IsWhole) (a7 : Memref sig .tc .vmem S1024x128 .f32) (h7 : a7.IsWhole) (a8 : Memref sig .tc .vmem S1024x128 .f32) (h8 : a8.IsWhole) (a9 : Memref sig .tc .vmem S2x1024x128 .f32) (h9 : a9.IsWhole) (a10 : Memref sig .tc .vmem S2x1024x128 .bf16) (h10 : a10.IsWhole) (a11 : Memref sig .tc .vmem S1x256 .f32) (h11 : a11.IsWhole) (a12 : Memref sig .tc .vmem S1024x256 .bf16) (h12 : a12.IsWhole) (a13 : Memref sig .tc .vmem S256x256 .f32) (h13 : a13.IsWhole)
    (x0 : Vec F S2x8 .f32) (x1 : Vec F S2x1024x128 .bf16) (x2 : Vec F S2x1024x128 .bf16) (x3 : Vec F S2x1024x128 .bf16) (x4 : Vec F S1024x128 .f32) (x5 : Vec F S1024x128 .f32) (x6 : Vec F S2x1024x128 .f32) (x7 : Vec F S2x1024x128 .bf16) (x8 : Vec F S1x256 .f32)

/-- After a later point of a head's row the scratch holds the state after the block's eight chunks. -/
theorem scratch_B (hc : ¬cond0_0 i) (xs : Vec F S256x256 .f32) :
    sout0_B_0 c i a3 h3 a4 h4 a5 h5 a6 h6 a7 h7 a8 h8 a9 h9 a10 h10 a11 h11 a12 h12 a13 h13 hc x0 x1 x2 x3 x4 x5 x6 x7 x8 xs = chain (logAt i x0 1) x2 x3 x4 x5 xs 8 := by
  unfold sout0_B_0
  rw [View.read_writes_eq_canon _ _ _ (scover0_B_0 c i a3 h3 a4 h4 a5 h5 a6 h6 a7 h7 a8 h8 a9 h9 a10 h10 a11 h11 a12 h12 a13 h13 hc x0 x1 x2 x3 x4 x5 x6 x7 x8 xs)]
  unfold kernelRun0_B
  dsimp only
  sl_unfold_words
  rw [View.canon_cons_unit_zero (S := S256x256) zero2]
  simp only [View.readAt_eq_ld, h3.read_unread, h4.read_unread, h5.read_unread, h6.read_unread, h7.read_unread, h8.read_unread, h9.read_unread, h10.read_unread, h11.read_unread, h13.read_unread, View.ld_unit_zero (S := S256x256) zero2, View.ld_unit_zero (S := S1x256) zero2, readCov_last']
  rfl

set_option maxHeartbeats 4000000 in
/-- At a later point the output block continues from the state the scratch held. -/
theorem out_B (hc : ¬cond0_0 i) (xs : Vec F S256x256 .f32) :
    out0_B_9 c i a3 h3 a4 h4 a5 h5 a6 h6 a7 h7 a8 h8 a9 h9 a10 h10 a11 h11 a12 h12 a13 h13 hc x0 x1 x2 x3 x4 x5 x6 x7 x8 xs = blockOut (logAt i x0 1) x1 x2 x3 x4 x5 x6 x7 x8 xs := by
  unfold out0_B_9
  rw [View.read_writes_eq_canon _ _ _ (cover0_B_9 c i a3 h3 a4 h4 a5 h5 a6 h6 a7 h7 a8 h8 a9 h9 a10 h10 a11 h11 a12 h12 a13 h13 hc x0 x1 x2 x3 x4 x5 x6 x7 x8 xs)]
  funext y
  have hcov := cover0_B_9 c i a3 h3 a4 h4 a5 h5 a6 h6 a7 h7 a8 h8 a9 h9 a10 h10 a11 h11 a12 h12 a13 h13 hc x0 x1 x2 x3 x4 x5 x6 x7 x8 xs y
  revert hcov
  unfold kernelRun0_B
  dsimp only
  sl_unfold_words
  simp only [View.readAt_eq_ld, h3.read_unread, h4.read_unread, h5.read_unread, h6.read_unread, h7.read_unread, h8.read_unread, h9.read_unread, h10.read_unread, h11.read_unread, h13.read_unread, View.ld_unit_zero (S := S256x256) zero2, View.ld_unit_zero (S := S1x256) zero2, readCov_last']
  intro hcov
  refine View.canon_eq_of_allAt _ y _ hcov ?_
  refine View.allAt_cons_unit _ _ _ _ _ (fun z hz => tile_at _ _ _ _ _ _ _ _ _ _ y 0 7 (by decide) rfl z hz) ?_
  refine View.allAt_cons_unit _ _ _ _ _ (fun z hz => tile_at _ _ _ _ _ _ _ _ _ _ y 1 6 (by decide) rfl z hz) ?_
  refine View.allAt_cons_unit _ _ _ _ _ (fun z hz => tile_at _ _ _ _ _ _ _ _ _ _ y 2 5 (by decide) rfl z hz) ?_
  refine View.allAt_cons_unit _ _ _ _ _ (fun z hz => tile_at _ _ _ _ _ _ _ _ _ _ y 3 4 (by decide) rfl z hz) ?_
  refine View.allAt_cons_unit _ _ _ _ _ (fun z hz => tile_at _ _ _ _ _ _ _ _ _ _ y 4 3 (by decide) rfl z hz) ?_
  refine View.allAt_cons_unit _ _ _ _ _ (fun z hz => tile_at _ _ _ _ _ _ _ _ _ _ y 5 2 (by decide) rfl z hz) ?_
  refine View.allAt_cons_unit _ _ _ _ _ (fun z hz => tile_at _ _ _ _ _ _ _ _ _ _ y 6 1 (by decide) rfl z hz) ?_
  exact View.allAt_cons_unit _ _ _ _ _ (fun z hz => tile_at _ _ _ _ _ _ _ _ _ _ y 7 0 (by decide) rfl z hz) (View.allAt_nil _ _)

/-- After the first point of a head's row, the same from the zero state. -/
theorem scratch_A (hc : cond0_0 i) :
    sout0_A_0 c i a3 h3 a4 h4 a5 h5 a6 h6 a7 h7 a8 h8 a9 h9 a10 h10 a11 h11 a12 h12 a13 h13 hc x0 x1 x2 x3 x4 x5 x6 x7 x8 = chain (logAt i x0 1) x2 x3 x4 x5 k0_pay2 8 := by
  unfold sout0_A_0
  rw [View.read_writes_eq_canon _ _ _ (scover0_A_0 c i a3 h3 a4 h4 a5 h5 a6 h6 a7 h7 a8 h8 a9 h9 a10 h10 a11 h11 a12 h12 a13 h13 hc x0 x1 x2 x3 x4 x5 x6 x7 x8)]
  unfold kernelRun0_A
  dsimp only
  sl_unfold_words
  rw [View.canon_cons_unit_zero (S := S256x256) zero2]
  simp only [View.readAt_eq_ld, h3.read_unread, h4.read_unread, h5.read_unread, h6.read_unread, h7.read_unread, h8.read_unread, h9.read_unread, h10.read_unread, h11.read_unread, View.ld_unit_zero (S := S256x256) zero2, View.ld_unit_zero (S := S1x256) zero2, readCov_last']
  rfl

set_option maxHeartbeats 4000000 in
/-- At the first point of a head's row the output block starts from the zero state. -/
theorem out_A (hc : cond0_0 i) :
    out0_A_9 c i a3 h3 a4 h4 a5 h5 a6 h6 a7 h7 a8 h8 a9 h9 a10 h10 a11 h11 a12 h12 a13 h13 hc x0 x1 x2 x3 x4 x5 x6 x7 x8 = blockOut (logAt i x0 1) x1 x2 x3 x4 x5 x6 x7 x8 k0_pay2 := by
  unfold out0_A_9
  rw [View.read_writes_eq_canon _ _ _ (cover0_A_9 c i a3 h3 a4 h4 a5 h5 a6 h6 a7 h7 a8 h8 a9 h9 a10 h10 a11 h11 a12 h12 a13 h13 hc x0 x1 x2 x3 x4 x5 x6 x7 x8)]
  funext y
  have hcov := cover0_A_9 c i a3 h3 a4 h4 a5 h5 a6 h6 a7 h7 a8 h8 a9 h9 a10 h10 a11 h11 a12 h12 a13 h13 hc x0 x1 x2 x3 x4 x5 x6 x7 x8 y
  revert hcov
  unfold kernelRun0_A
  dsimp only
  sl_unfold_words
  simp only [View.readAt_eq_ld, h3.read_unread, h4.read_unread, h5.read_unread, h6.read_unread, h7.read_unread, h8.read_unread, h9.read_unread, h10.read_unread, h11.read_unread, View.ld_unit_zero (S := S256x256) zero2, View.ld_unit_zero (S := S1x256) zero2, readCov_last']
  intro hcov
  refine View.canon_eq_of_allAt _ y _ hcov ?_
  refine View.allAt_cons_unit _ _ _ _ _ (fun z hz => tile_at _ _ _ _ _ _ _ _ _ _ y 0 7 (by decide) rfl z hz) ?_
  refine View.allAt_cons_unit _ _ _ _ _ (fun z hz => tile_at _ _ _ _ _ _ _ _ _ _ y 1 6 (by decide) rfl z hz) ?_
  refine View.allAt_cons_unit _ _ _ _ _ (fun z hz => tile_at _ _ _ _ _ _ _ _ _ _ y 2 5 (by decide) rfl z hz) ?_
  refine View.allAt_cons_unit _ _ _ _ _ (fun z hz => tile_at _ _ _ _ _ _ _ _ _ _ y 3 4 (by decide) rfl z hz) ?_
  refine View.allAt_cons_unit _ _ _ _ _ (fun z hz => tile_at _ _ _ _ _ _ _ _ _ _ y 4 3 (by decide) rfl z hz) ?_
  refine View.allAt_cons_unit _ _ _ _ _ (fun z hz => tile_at _ _ _ _ _ _ _ _ _ _ y 5 2 (by decide) rfl z hz) ?_
  refine View.allAt_cons_unit _ _ _ _ _ (fun z hz => tile_at _ _ _ _ _ _ _ _ _ _ y 6 1 (by decide) rfl z hz) ?_
  exact View.allAt_cons_unit _ _ _ _ _ (fun z hz => tile_at _ _ _ _ _ _ _ _ _ _ y 7 0 (by decide) rfl z hz) (View.allAt_nil _ _)

end Cert.RetBwdIdeal.Retention
end
-- ==== Proof.RetBwdChunk.lean ====
/- One chunk of the backward retention's kernel, at the ideal values: its sums, its normalised and gated output and the
   state after it are those of the arithmetic in `RetBwdMath`. -/
module

public import proofs.«01_k».proof.Proof.RetBwdBody
public import proofs.«01_k».proof.Proof.RetBwdMath

@[expose] public section

set_option maxRecDepth 16384

noncomputable section

namespace Cert.RetBwdIdeal.Retention

open Cert.RetBwdIdeal Cert.RetBwdIdeal.Gen Idealize.ShloMosaic Idealize.ShloMosaic.TcCoe Idealize.SL.Sem
open Cert.Proof.RetFwdMath Cert.Proof.RetBwdMath

theorem rows_apply (x : Vec Ideal S1024x128 .f32) (k : Fin 8) (i l : Fin 128) (y : S1024x128.Idx)
    (h0 : (y 0).val = 128 * k.val + i.val) (h1 : (y 1).val = l.val) : rows x k (ValueIdx.ix2 i l) = x y :=
  View.ld_unit_apply_of x _ _ _ _ y (fun a => by
    match a with
    | ⟨0, _⟩ => exact h0
    | ⟨1, _⟩ => show (y 1).val = 0 + l.val; omega)

theorem slab_apply (x : Vec Ideal S2x1024x128 .bf16) (p : Fin 2) (k : Fin 8) (i l : Fin 128) (y : S2x1024x128.Idx)
    (h0 : (y 0).val = p.val) (h1 : (y 1).val = 128 * k.val + i.val) (h2 : (y 2).val = l.val) :
    slab x p k (ValueIdx.ix3 (0 : Fin 1) i l) = x y :=
  View.ld_unit_apply_of x _ _ _ _ y (fun a => by
    match a with
    | ⟨0, _⟩ => show (y 0).val = p.val + 0; omega
    | ⟨1, _⟩ => exact h1
    | ⟨2, _⟩ => show (y 2).val = 0 + l.val; omega)

theorem slabF_apply (x : Vec Ideal S2x1024x128 .f32) (p : Fin 2) (k : Fin 8) (i l : Fin 128) (y : S2x1024x128.Idx)
    (h0 : (y 0).val = p.val) (h1 : (y 1).val = 128 * k.val + i.val) (h2 : (y 2).val = l.val) :
    slabF x p k (ValueIdx.ix3 (0 : Fin 1) i l) = x y :=
  View.ld_unit_apply_of x _ _ _ _ y (fun a => by
    match a with
    | ⟨0, _⟩ => show (y 0).val = p.val + 0; omega
    | ⟨1, _⟩ => exact h1
    | ⟨2, _⟩ => show (y 2).val = 0 + l.val; omega)

/-- A loaded slab with its unit axis dropped. -/
theorem flat_apply {φ : EltTy} (v : Vec Ideal S1x128x128 φ) (i l : Fin 128) :
    shapeCast S128x128 v shapeCasts_S1x128x128_S128x128 (ValueIdx.ix2 i l) = v (ValueIdx.ix3 (0 : Fin 1) i l) :=
  shapeCast_apply v shapeCasts_S1x128x128_S128x128 _ _ (by
    rewrite [Shape.rowMajor_val_three, Shape.rowMajor_val_two]
    show (0 * 128 + i.val) * 128 + l.val = i.val * 128 + l.val
    omega)

/-- Two halves of 128 columns, side by side. -/
theorem halves_apply {φ : FTy} (u w : FVec Ideal S128x128 φ) (i : Fin 128) (d : Fin 256) :
    concatenate S128x256 1 [⟨S128x128, u⟩, ⟨S128x128, w⟩] concatenates_S128x128_S128x128_S128x256_d1 (ValueIdx.ix2 i d)
      = joined (fun l => u (ValueIdx.ix2 i l)) (fun l => w (ValueIdx.ix2 i l)) d := by
  unfold joined
  by_cases h : d.val < 128
  · rw [dif_pos h]
    exact concatenate_pair_apply_left 1 u w concatenates_S128x128_S128x128_S128x256_d1 _ rfl _ (fun b => by
      match b with
      | ⟨0, _⟩ => rfl
      | ⟨1, _⟩ => rfl)
  · rw [dif_neg h]
    exact concatenate_pair_apply_right 1 u w concatenates_S128x128_S128x128_S128x256_d1 _ rfl rfl _ (fun b hb => by
      match b with
      | ⟨0, _⟩ => rfl
      | ⟨1, _⟩ => exact absurd rfl hb) (by show d.val - 128 + 128 = d.val; omega)

theorem joined_turned (x y c s : Fin 128 → EReal) (d : Fin 256) :
    joined (fun l => x l * c l - y l * s l) (fun l => x l * s l + y l * c l) d = turned x y c s d := by
  unfold joined turned
  by_cases h : d.val < 128
  · simp only [dif_pos h]
  · simp only [dif_neg h]

theorem pay9_apply (c s : Vec Ideal S128x128 .f32) (u w : Vec Ideal S1x128x128 .bf16) (i : Fin 128) (d : Fin 256) :
    k0_pay9 c s u w (ValueIdx.ix2 i d) = turned (fun l => u (ValueIdx.ix3 (0 : Fin 1) i l)) (fun l => w (ValueIdx.ix3 (0 : Fin 1) i l))
      (fun l => c (ValueIdx.ix2 i l)) (fun l => s (ValueIdx.ix2 i l)) d := by
  unfold k0_pay9 k0_pay7 k0_pay8
  rw [halves_apply, ← joined_turned, shapeCast_self, shapeCast_self]
  simp only [← flat_apply]
  rfl

/-! ## The decays -/

theorem pay3_apply (i : Fin 128) (d : Fin 256) : k0_pay3 (F := Ideal) (ValueIdx.ix2 i d) = place i := by
  rw [← word_place]
  unfold k0_pay3
  show (((BitVec.ofNat 32 (0 * 128 + i.val)).toInt : ℝ) : EReal) = _
  rw [Nat.zero_mul, Nat.zero_add]

theorem pay4_apply (l : EReal) (i : Fin 128) (d : Fin 256) : k0_pay4 (F := Ideal) l (ValueIdx.ix2 i d) = decayEnd l i := by
  unfold k0_pay4 decayEnd
  rw [← pay3_apply i d]
  rfl

theorem pay5_apply (l : EReal) (i : Fin 128) (d : Fin 256) : k0_pay5 (F := Ideal) l (ValueIdx.ix2 i d) = decayStart l i := by
  unfold k0_pay5 decayStart
  rw [← pay3_apply i d]
  rfl

theorem decay_apply (l : EReal) (d e : Fin 256) :
    broadcastTo S256x256 (k0_pay6 (F := Ideal) l) broadcasts_S1x1_S256x256 (ValueIdx.ix2 d e) = decayC l := by
  rw [broadcastTo_apply (s := S1x1) _ broadcasts_S1x1_S256x256 _ (ValueIdx.ix2 (0 : Fin 1) (0 : Fin 1)) (fun a => by
    match a with
    | ⟨0, _⟩ => rfl
    | ⟨1, _⟩ => rfl)]
  unfold k0_pay6 decayC
  rw [mul_comm]
  rfl

/-! ## The products -/

/-- The keys with the values. -/
theorem dotAdds (A V : FVec Ideal S128x256 .bf16) (d e : Fin 256) :
    FloatOps.matmul dot_S128x256_S128x256_S256x256_0_0_1_1_n_n none A V (constant S256x256 .f32 0x00000000#32) (ValueIdx.ix2 d e)
      = ∑ c : Fin 128, A (ValueIdx.ix2 c d) * V (ValueIdx.ix2 c e) := by
  rw [Ideal.matmul_constant_zero_apply,
    ← Equiv.sum_comp (ValueIdx.contrEquiv1 dot_S128x256_S128x256_S256x256_0_0_1_1_n_n 128 rfl rfl).symm]
  refine Finset.sum_congr rfl fun k _ => ?_
  have hk := ValueIdx.contrEquiv1_symm_val dot_S128x256_S128x256_S256x256_0_0_1_1_n_n 128 rfl rfl k
  have el : dot_S128x256_S128x256_S256x256_0_0_1_1_n_n.lhsIdx (ValueIdx.ix2 d e) ((ValueIdx.contrEquiv1 dot_S128x256_S128x256_S256x256_0_0_1_1_n_n 128 rfl rfl).symm k) = ValueIdx.ix2 k d := funext fun a => Fin.ext (by
    match a with
    | ⟨0, _⟩ => exact (DotDims.lhsIdx_val_of_single dot_S128x256_S128x256_S256x256_0_0_1_1_n_n rfl _ _).trans hk
    | ⟨1, _⟩ => rfl)
  have er : dot_S128x256_S128x256_S256x256_0_0_1_1_n_n.rhsIdx (ValueIdx.ix2 d e) ((ValueIdx.contrEquiv1 dot_S128x256_S128x256_S256x256_0_0_1_1_n_n 128 rfl rfl).symm k) = ValueIdx.ix2 k e := funext fun a => Fin.ext (by
    match a with
    | ⟨0, _⟩ => exact (DotDims.rhsIdx_val_of_single dot_S128x256_S128x256_S256x256_0_0_1_1_n_n rfl _ _).trans hk
    | ⟨1, _⟩ => rfl)
  rw [el, er]

theorem pay11_apply (l : EReal) (c s : Vec Ideal S128x128 .f32) (u w v0 v1 : Vec Ideal S1x128x128 .bf16) (d e : Fin 256) :
    k0_pay11 (F := Ideal) (k0_pay5 l) (k0_pay7 c) (k0_pay8 s) (k0_pay10 u) w v0 v1 (ValueIdx.ix2 d e)
      = ∑ x : Fin 128, turned (fun l => u (ValueIdx.ix3 (0 : Fin 1) x l)) (fun l => w (ValueIdx.ix3 (0 : Fin 1) x l))
          (fun l => c (ValueIdx.ix2 x l)) (fun l => s (ValueIdx.ix2 x l)) d * Ideal.ofBits .f32 0x3D800000#32 * decayStart l x
        * joined (fun l => v0 (ValueIdx.ix3 (0 : Fin 1) x l)) (fun l => v1 (ValueIdx.ix3 (0 : Fin 1) x l)) e := by
  unfold k0_pay11
  simp only [matmul]
  refine (dotAdds _ _ d e).trans (Finset.sum_congr rfl fun x _ => ?_)
  rw [halves_apply (φ := .bf16), ← pay9_apply, ← pay5_apply l x d]
  refine congrArg₂ (· * ·) rfl ?_
  refine congrFun (congrArg₂ joined (funext fun l => ?_) (funext fun l => ?_)) e
  · exact flat_apply v0 x l
  · exact flat_apply v1 x l

theorem pay68_apply (A : FVec Ideal S128x256 .f32) (Q : FVec Ideal S128x256 .bf16) (S : FVec Ideal S256x256 .f32) (i : Fin 128) (e : Fin 256) :
    k0_pay68 (F := Ideal) A Q S (ValueIdx.ix2 i e)
      = A (ValueIdx.ix2 i e) + ∑ d : Fin 256, Q (ValueIdx.ix2 i d) * S (ValueIdx.ix2 d e) := by
  unfold k0_pay68
  refine congrArg (A (ValueIdx.ix2 i e) + ·) ?_
  simp only [matmul]
  rw [Ideal.matmul_constant_zero_apply,
    ← Equiv.sum_comp (ValueIdx.contrEquiv1 dot_S128x256_S256x256_S128x256_1_0_0_1_n_n 256 rfl rfl).symm]
  refine Finset.sum_congr rfl fun k _ => ?_
  have hk := ValueIdx.contrEquiv1_symm_val dot_S128x256_S256x256_S128x256_1_0_0_1_n_n 256 rfl rfl k
  have el : dot_S128x256_S256x256_S128x256_1_0_0_1_n_n.lhsIdx (ValueIdx.ix2 i e) ((ValueIdx.contrEquiv1 dot_S128x256_S256x256_S128x256_1_0_0_1_n_n 256 rfl rfl).symm k) = ValueIdx.ix2 i k := funext fun a => Fin.ext (by
    match a with
    | ⟨0, _⟩ => rfl
    | ⟨1, _⟩ => exact (DotDims.lhsIdx_val_of_single dot_S128x256_S256x256_S128x256_1_0_0_1_n_n rfl _ _).trans hk)
  have er : dot_S128x256_S256x256_S128x256_1_0_0_1_n_n.rhsIdx (ValueIdx.ix2 i e) ((ValueIdx.contrEquiv1 dot_S128x256_S256x256_S128x256_1_0_0_1_n_n 256 rfl rfl).symm k) = ValueIdx.ix2 k e := funext fun a => Fin.ext (by
    match a with
    | ⟨0, _⟩ => exact (DotDims.rhsIdx_val_of_single dot_S128x256_S256x256_S128x256_1_0_0_1_n_n rfl _ _).trans hk
    | ⟨1, _⟩ => rfl)
  rw [el, er]
  rfl

/-! ## A chunk -/

/-- The rows' sums. -/
def rowSums (x : FVec Ideal S128x256 .f32) : FVec Ideal S128 .f32 :=
  multiReduction (F := Ideal) .add [1] S128 x 0x00000000#32 reduces_S128x256_S128 (.inl rfl) rfl
/-- Their means, in a column. -/
def means (x : FVec Ideal S128x256 .f32) : FVec Ideal S128x1 .f32 :=
  divf (F := Ideal) (shapeCast S128x1 (rowSums x) shapeCasts_S128_S128x1) (broadcast S128x1 (Scalar.ofBits (F := Ideal) .f32 0x43800000#32))
/-- The rows less their means. -/
def centred (x : FVec Ideal S128x256 .f32) : FVec Ideal S128x256 .f32 :=
  subf (F := Ideal) (φ := .f32) x (broadcastTo S128x256 (means x) broadcasts_S128x1_S128x256)
/-- The rows normalised. -/
def standard (x : FVec Ideal S128x256 .f32) : FVec Ideal S128x256 .f32 :=
  mulf (F := Ideal) (φ := .f32) (centred x) (broadcastTo S128x256 (rsqrt (F := Ideal) (addf (F := Ideal) (means (mulf (F := Ideal) (φ := .f32) (centred x) (centred x)))
    (broadcast S128x1 (Scalar.ofBits (F := Ideal) .f32 0x358637BD#32)))) broadcasts_S128x1_S128x256)

theorem rowSums_apply (x : FVec Ideal S128x256 .f32) (i : Fin 128) : rowSums x (ValueIdx.ix1 i) = ∑ e : Fin 256, x (ValueIdx.ix2 i e) := by
  unfold rowSums
  refine (Ideal.multiReduction_add_single x _ reduces_S128x256_S128 _ _ _).trans (Finset.sum_congr rfl fun e _ => congrArg x (funext fun a => Fin.ext ?_))
  match a with
  | ⟨0, _⟩ => rfl
  | ⟨1, _⟩ => rfl

/-- A row's value, at each of its features. -/
theorem perRow (x : FVec Ideal S128x1 .f32) (i : Fin 128) (e : Fin 256) :
    broadcastTo S128x256 x broadcasts_S128x1_S128x256 (ValueIdx.ix2 i e) = x (ValueIdx.ix2 i (0 : Fin 1)) :=
  broadcastTo_apply (s := S128x1) _ broadcasts_S128x1_S128x256 _ _ (fun a => by
    match a with
    | ⟨0, _⟩ => rfl
    | ⟨1, _⟩ => rfl)

theorem column (x : FVec Ideal S128 .f32) (i : Fin 128) :
    shapeCast S128x1 x shapeCasts_S128_S128x1 (ValueIdx.ix2 i (0 : Fin 1)) = x (ValueIdx.ix1 i) :=
  shapeCast_apply x shapeCasts_S128_S128x1 _ _ (by
    rewrite [Shape.rowMajor_val_one, Shape.rowMajor_val_two]
    show i.val = i.val * 1 + 0
    omega)

theorem means_apply (x : FVec Ideal S128x256 .f32) (i : Fin 128) :
    means x (ValueIdx.ix2 i (0 : Fin 1)) = mean (fun e => x (ValueIdx.ix2 i e)) :=
  congrArg (Ideal.div · (Ideal.ofBits .f32 0x43800000#32)) ((column (rowSums x) i).trans (rowSums_apply x i))

theorem centred_apply (x : FVec Ideal S128x256 .f32) (i : Fin 128) (e : Fin 256) :
    centred x (ValueIdx.ix2 i e) = x (ValueIdx.ix2 i e) - mean (fun e => x (ValueIdx.ix2 i e)) :=
  congrArg (x (ValueIdx.ix2 i e) - ·) ((perRow (means x) i e).trans (means_apply x i))

theorem standard_apply (x : FVec Ideal S128x256 .f32) (i : Fin 128) (e : Fin 256) :
    standard x (ValueIdx.ix2 i e) = normed (fun e => x (ValueIdx.ix2 i e)) e :=
  congrArg₂ (· * ·) (centred_apply x i e) ((perRow _ i e).trans
    (congrArg (fun m => Ideal.rsqrt (m + Ideal.ofBits .f32 0x358637BD#32)) ((means_apply _ i).trans
      (congrArg mean (funext fun e => congrArg₂ (· * ·) (centred_apply x i e) (centred_apply x i e))))))

/-- The scales, at every row. -/
theorem perColumn (x : FVec Ideal S1x256 .f32) (i : Fin 128) (e : Fin 256) :
    broadcastTo S128x256 x broadcasts_S1x256_S128x256 (ValueIdx.ix2 i e) = x (ValueIdx.ix2 (0 : Fin 1) e) :=
  broadcastTo_apply (s := S1x256) _ broadcasts_S1x256_S128x256 _ _ (fun a => by
    match a with
    | ⟨0, _⟩ => rfl
    | ⟨1, _⟩ => rfl)

theorem pay70_apply (o : FVec Ideal S128x256 .f32) (g0 g1 : Vec Ideal S1x128x128 .bf16) (w : Vec Ideal S1x256 .f32) (i : Fin 128) (e : Fin 256) :
    k0_pay70 (F := Ideal) o g0 g1 w (ValueIdx.ix2 i e)
      = gated (fun e => o (ValueIdx.ix2 i e)) (fun e => w (ValueIdx.ix2 (0 : Fin 1) e))
          (joined (fun l => g0 (ValueIdx.ix3 (0 : Fin 1) i l)) (fun l => g1 (ValueIdx.ix3 (0 : Fin 1) i l))) e := by
  have hz : joined (fun l => g0 (ValueIdx.ix3 (0 : Fin 1) i l)) (fun l => g1 (ValueIdx.ix3 (0 : Fin 1) i l)) e
      = concatenate S128x256 1 [⟨S128x128, shapeCast S128x128 g0 shapeCasts_S1x128x128_S128x128⟩, ⟨S128x128, shapeCast S128x128 g1 shapeCasts_S1x128x128_S128x128⟩]
          concatenates_S128x128_S128x128_S128x256_d1 (ValueIdx.ix2 i e) := by
    rw [halves_apply (φ := .bf16)]
    simp only [← flat_apply]
  have hw : w (ValueIdx.ix2 (0 : Fin 1) e)
      = broadcastTo S128x256 (shapeCast S1x256 w shapeCasts_S1x256_S1x256) broadcasts_S1x256_S128x256 (ValueIdx.ix2 i e) := by
    rw [perColumn, shapeCast_self]
  unfold gated
  rw [hz, ← half_tanh, ← standard_apply o i e]
  show _ = standard o (ValueIdx.ix2 i e) * w (ValueIdx.ix2 (0 : Fin 1) e) * _
  rw [hw]
  unfold k0_pay70
  rfl

section Chunk
variable (lg : EReal) (x1 x2 x3 : Vec Ideal S2x1024x128 .bf16) (x4 x5 : Vec Ideal S1024x128 .f32) (x6 : Vec Ideal S2x1024x128 .f32)
  (x7 : Vec Ideal S2x1024x128 .bf16) (x8 : Vec Ideal S1x256 .f32) (k : Fin 8)
  (T : Vec Ideal S256x256 .f32) (Q O K V Z : Fin 128 → Fin 256 → EReal) (W : Fin 256 → EReal) (S : Fin 256 → Fin 256 → EReal)

/-- The chunk's turned and scaled keys. -/
def keys (i : Fin 128) (d : Fin 256) : EReal :=
  turned (fun l => slab x2 0 k (ValueIdx.ix3 (0 : Fin 1) i l)) (fun l => slab x2 1 k (ValueIdx.ix3 (0 : Fin 1) i l))
    (fun l => rows x4 k (ValueIdx.ix2 i l)) (fun l => rows x5 k (ValueIdx.ix2 i l)) d * Ideal.ofBits .f32 0x3D800000#32
/-- Two slabs of the chunk side by side: its values, its gates. -/
def pair (x : Vec Ideal S2x1024x128 .bf16) (i : Fin 128) : Fin 256 → EReal :=
  joined (fun l => slab x 0 k (ValueIdx.ix3 (0 : Fin 1) i l)) (fun l => slab x 1 k (ValueIdx.ix3 (0 : Fin 1) i l))
/-- The forward pass's sums. -/
def given (i : Fin 128) : Fin 256 → EReal :=
  joined (fun l => slabF x6 0 k (ValueIdx.ix3 (0 : Fin 1) i l)) (fun l => slabF x6 1 k (ValueIdx.ix3 (0 : Fin 1) i l))

/-- The chunk's sums, where its operands and the state are known. -/
theorem sums_apply (hQ : ∀ i d, queries x1 x4 x5 k (ValueIdx.ix2 i d) = Q i d) (hO : ∀ i e, given x6 k i e = O i e)
    (hS : ∀ d e, T (ValueIdx.ix2 d e) = S d e) (i : Fin 128) (e : Fin 256) :
    sums lg x1 x4 x5 x6 k T (ValueIdx.ix2 i e) = sumsOf lg O Q S i e := by
  unfold sums sumsOf
  rw [pay68_apply, ← hO]
  refine congrArg₂ (· + ·) ?_ (Finset.sum_congr rfl fun d _ => ?_)
  · unfold k0_pay12 given
    rw [halves_apply]
    simp only [← flat_apply]
  · rw [hS, ← hQ, ← pay4_apply lg i d]
    rfl

/-- The chunk's output, where they are known. -/
theorem output_apply (hQ : ∀ i d, queries x1 x4 x5 k (ValueIdx.ix2 i d) = Q i d) (hO : ∀ i e, given x6 k i e = O i e)
    (hS : ∀ d e, T (ValueIdx.ix2 d e) = S d e) (hZ : ∀ i e, pair k x7 i e = Z i e) (hW : ∀ e, x8 (ValueIdx.ix2 (0 : Fin 1) e) = W e)
    (i : Fin 128) (e : Fin 256) :
    output lg x1 x4 x5 x6 x7 x8 k T (ValueIdx.ix2 i e) = gated (sumsOf lg O Q S i) W (Z i) e := by
  unfold output
  rw [pay70_apply, funext (sums_apply lg x1 x4 x5 x6 k T Q O S hQ hO hS i), funext hW]
  have hz : joined (fun l => slab x7 0 k (ValueIdx.ix3 (0 : Fin 1) i l)) (fun l => slab x7 1 k (ValueIdx.ix3 (0 : Fin 1) i l)) = Z i := funext (hZ i)
  rw [hz]

/-- The state after the chunk, where they are known. -/
theorem next_apply (hK : ∀ i d, keys x2 x4 x5 k i d = K i d) (hV : ∀ i e, pair k x3 i e = V i e) (hS : ∀ d e, T (ValueIdx.ix2 d e) = S d e)
    (d e : Fin 256) : next lg x2 x3 x4 x5 k T (ValueIdx.ix2 d e) = chunkNext lg (fun i => K i.rev) (fun i => V i.rev) S d e := by
  unfold next chunkNext k0_pay69
  rw [shapeCast_self, chunkAdd_rev, ← decay_apply lg d e, ← hS]
  refine congrArg (broadcastTo S256x256 (k0_pay6 (F := Ideal) lg) broadcasts_S1x1_S256x256 (ValueIdx.ix2 d e) * T (ValueIdx.ix2 d e) + ·) ?_
  unfold adds
  rw [pay11_apply]
  refine Finset.sum_congr rfl fun x _ => ?_
  rw [← hK, ← hV]
  rfl

end Chunk

end Cert.RetBwdIdeal.Retention
end
-- ==== Proof.RetBwdValue.lean ====
/- The retention kernel's backward call, read at the ideal values.

   The grid walks the batches, in each the eight heads and in each of those eight row blocks of eight chunks, from the last
   block to the first. The scratch carries a head's state from one row block to the one before it, so after a row block's
   point it holds `later` at the block's end, and the block written is the one `retained` has there. -/
module

public import proofs.«01_k».proof.Proof.Gen.RetBwdIdeal.Value
public import proofs.«01_k».proof.Proof.RetBwdChunk
public import proofs.«01_k».proof.Proof.RetBwdLoop
public import Idealize.ShloMosaic.Lib.Pipeline.ValueKit.Geometry

@[expose] public section

set_option maxRecDepth 16384

noncomputable section

namespace Cert.RetBwdIdeal.Retention

open Cert.RetBwdIdeal Cert.RetBwdIdeal.Gen Cert.RetBwdIdeal.Value
open Idealize.ShloMosaic Idealize.ShloMosaic.TcCoe Idealize.SL.Sem
open Cert.Proof.RetFwdMath Cert.Proof.RetBwdMath

variable (m : (ℓ : Loc nD τ sig) → Buf (Elt Ideal) ℓ) (c : Dev nD)

/-- The arguments: the projected tokens' slabs, the forward pass's sums, the decays and the scales. -/
abbrev slabsArg : Slabs := m ((c : Thread nD τ).loc main_arg0)
abbrev sumsArg : Sums := m ((c : Thread nD τ).loc main_arg1)
abbrev decaysArg : Rates := m ((c : Thread nD τ).loc main_arg2)
abbrev scalesArg : Scales := m ((c : Thread nD τ).loc main_arg3)
/-- The rates, the cosines and the sines. -/
abbrev ratesOf : Rates := Cert.RetBwdRefIdeal.Operands.L (slabsArg m c) (sumsArg m c) (decaysArg m c)
abbrev cosines : Cert.Proof.RetFwdMath.Table := Cert.RetBwdRefIdeal.Operands.C
abbrev sines : Cert.Proof.RetFwdMath.Table := Cert.RetBwdRefIdeal.Operands.S

/-! ## What the call finds -/

theorem rates_at_entry : V m c main_v5 = ratesOf m c := by
  show StableHlo.after (List.flatten [hostOps0, hostOps0_1, hostOps0_2]) _ (Proc.devRef .tc main_v5) = _
  simp only [List.flatten_cons, List.flatten_nil, List.append_nil, List.cons_append, List.nil_append]
  after_results
  rfl

theorem cosines_at_entry : V m c main_v16 = cosines := by
  show StableHlo.after (List.flatten [hostOps0, hostOps0_1, hostOps0_2]) _ (Proc.devRef .tc main_v16) = _
  simp only [List.flatten_cons, List.flatten_nil, List.append_nil, List.cons_append, List.nil_append]
  after_results
  rfl

theorem sines_at_entry : V m c main_v17 = sines := by
  show StableHlo.after (List.flatten [hostOps0, hostOps0_1, hostOps0_2]) _ (Proc.devRef .tc main_v17) = _
  simp only [List.flatten_cons, List.flatten_nil, List.append_nil, List.cons_append, List.nil_append]
  after_results
  rfl

theorem scales_at_entry : V m c main_v18 = shapeCast S1x2048 (scalesArg m c) shapeCasts_S2048_S1x2048 := by
  show StableHlo.after (List.flatten [hostOps0, hostOps0_1, hostOps0_2]) _ (Proc.devRef .tc main_v18) = _
  simp only [List.flatten_cons, List.flatten_nil, List.append_nil, List.cons_append, List.nil_append]
  after_results
  rfl

/-! ## Where a point is -/

theorem points (t : Fin cfg0.N) : t.val < 128 := lt_of_lt_of_eq t.isLt (show cfg0.N = 128 from N_0)

/-- A point's batch, head, and the chunks of its row block. -/
abbrev batch (t : Fin cfg0.N) : Fin 2 := ⟨t.val / 64, by have := points t; omega⟩
abbrev head (t : Fin cfg0.N) : Fin 8 := ⟨t.val / 8 % 8, by omega⟩
abbrev chunkOf (t : Fin cfg0.N) (k : Fin 8) : Fin 64 := ⟨8 * (7 - t.val % 8) + k.val, by omega⟩

theorem index_facts : ∀ t : Fin cfg0.N,
    (win0_1.index t (0 : Fin 3) = t.val / 8 % 8 ∧ win0_1.index t (1 : Fin 3) = t.val / 64 * 8 + (7 - t.val % 8) ∧ win0_1.index t (2 : Fin 3) = 0)
    ∧ (win0_2.index t (0 : Fin 3) = 8 + t.val / 8 % 8 ∧ win0_2.index t (1 : Fin 3) = t.val / 64 * 8 + (7 - t.val % 8) ∧ win0_2.index t (2 : Fin 3) = 0)
    ∧ (win0_3.index t (0 : Fin 3) = 16 + t.val / 8 % 8 ∧ win0_3.index t (1 : Fin 3) = t.val / 64 * 8 + (7 - t.val % 8) ∧ win0_3.index t (2 : Fin 3) = 0)
    ∧ (win0_4.index t (0 : Fin 2) = 7 - t.val % 8 ∧ win0_4.index t (1 : Fin 2) = 0)
    ∧ (win0_5.index t (0 : Fin 2) = 7 - t.val % 8 ∧ win0_5.index t (1 : Fin 2) = 0)
    ∧ (win0_6.index t (0 : Fin 3) = t.val / 8 % 8 ∧ win0_6.index t (1 : Fin 3) = t.val / 64 * 8 + (7 - t.val % 8) ∧ win0_6.index t (2 : Fin 3) = 0)
    ∧ (grid0.coords t 1).val = t.val / 8 % 8 :=
  (by decide +kernel : ∀ t : Fin grid0.N, _)

theorem index_more : ∀ t : Fin cfg0.N,
    (win0_7.index t (0 : Fin 3) = 24 + t.val / 8 % 8 ∧ win0_7.index t (1 : Fin 3) = t.val / 64 * 8 + (7 - t.val % 8) ∧ win0_7.index t (2 : Fin 3) = 0)
    ∧ (win0_8.index t (0 : Fin 2) = 0 ∧ win0_8.index t (1 : Fin 2) = t.val / 8 % 8)
    ∧ (win0_9.index t (0 : Fin 2) = t.val / 64 * 8 + (7 - t.val % 8) ∧ win0_9.index t (1 : Fin 2) = t.val / 8 % 8) :=
  (by decide +kernel : ∀ t : Fin grid0.N, _)

theorem index_zero : ∀ t : Fin cfg0.N, win0_0.index t (0 : Fin 2) = 0 ∧ win0_0.index t (1 : Fin 2) = 0 :=
  (by decide +kernel : ∀ t : Fin grid0.N, _)

/-! ## The blocks a point sees -/

/-- The table of rates, whole at every point. -/
theorem rates_block (t : Fin cfg0.N) (y : S2x8.Idx) : iblk m c 0 t y = ratesOf m c y := by
  obtain ⟨e0, e1⟩ := index_zero t
  rw [← rates_at_entry m c]
  show V m c main_v5 (((cfg0.win 0).blk t).view.emb y) = _
  refine congrArg _ (funext fun a => Fin.ext ?_)
  match a with
  | ⟨0, _⟩ => show win0_0.index t (0 : Fin 2) * 2 + 1 * (y 0).val = (y 0).val; omega
  | ⟨1, _⟩ => show win0_0.index t (1 : Fin 2) * 8 + 1 * (y 1).val = (y 1).val; omega

/-- The scalar a point loads. -/
theorem rate_apply (t : Fin cfg0.N) (d : Fin 2) : logAt (grid0.coords t) (iblk m c 0 t) d = ratesOf m c (ValueIdx.ix2 d (head t)) := by
  obtain ⟨-, -, -, -, -, -, e⟩ := index_facts t
  rw [logAt_eq, rates_block]
  refine congrArg _ (funext fun a => Fin.ext ?_)
  match a with
  | ⟨0, _⟩ => rfl
  | ⟨1, _⟩ => exact e

theorem q_block (t : Fin cfg0.N) (k : Fin 8) (p : Fin 2) (i l : Fin 128) :
    slab (iblk m c 1 t) p k (ValueIdx.ix3 (0 : Fin 1) i l) = part (slabsArg m c) 0 (by decide) (batch t) (head t) (chunkOf t k) i p l := by
  obtain ⟨⟨e0, e1, e2⟩, -⟩ := index_facts t
  have hk := k.isLt
  rw [slab_apply _ p k i l (ValueIdx.ix3 p (⟨128 * k.val + i.val, by omega⟩ : Fin 1024) l) rfl rfl rfl]
  unfold part
  rw [slabsArg, ← V_main_arg0 m c]
  show V m c main_arg0 (((cfg0.win 1).blk t).view.emb _) = _
  refine congrArg _ (funext fun a => Fin.ext ?_)
  match a with
  | ⟨0, _⟩ => show win0_1.index t (0 : Fin 3) * 2 + 1 * p.val = 0 + 2 * (t.val / 8 % 8) + p.val; omega
  | ⟨1, _⟩ => show win0_1.index t (1 : Fin 3) * 1024 + 1 * (128 * k.val + i.val) = 8192 * (t.val / 64) + 128 * (8 * (7 - t.val % 8) + k.val) + i.val; omega
  | ⟨2, _⟩ => show win0_1.index t (2 : Fin 3) * 128 + 1 * l.val = l.val; omega

theorem k_block (t : Fin cfg0.N) (k : Fin 8) (p : Fin 2) (i l : Fin 128) :
    slab (iblk m c 2 t) p k (ValueIdx.ix3 (0 : Fin 1) i l) = part (slabsArg m c) 16 (by decide) (batch t) (head t) (chunkOf t k) i p l := by
  obtain ⟨-, ⟨e0, e1, e2⟩, -⟩ := index_facts t
  have hk := k.isLt
  rw [slab_apply _ p k i l (ValueIdx.ix3 p (⟨128 * k.val + i.val, by omega⟩ : Fin 1024) l) rfl rfl rfl]
  unfold part
  rw [slabsArg, ← V_main_arg0 m c]
  show V m c main_arg0 (((cfg0.win 2).blk t).view.emb _) = _
  refine congrArg _ (funext fun a => Fin.ext ?_)
  match a with
  | ⟨0, _⟩ => show win0_2.index t (0 : Fin 3) * 2 + 1 * p.val = 16 + 2 * (t.val / 8 % 8) + p.val; omega
  | ⟨1, _⟩ => show win0_2.index t (1 : Fin 3) * 1024 + 1 * (128 * k.val + i.val) = 8192 * (t.val / 64) + 128 * (8 * (7 - t.val % 8) + k.val) + i.val; omega
  | ⟨2, _⟩ => show win0_2.index t (2 : Fin 3) * 128 + 1 * l.val = l.val; omega

theorem v_block (t : Fin cfg0.N) (k : Fin 8) (p : Fin 2) (i l : Fin 128) :
    slab (iblk m c 3 t) p k (ValueIdx.ix3 (0 : Fin 1) i l) = part (slabsArg m c) 32 (by decide) (batch t) (head t) (chunkOf t k) i p l := by
  obtain ⟨-, -, ⟨e0, e1, e2⟩, -⟩ := index_facts t
  have hk := k.isLt
  rw [slab_apply _ p k i l (ValueIdx.ix3 p (⟨128 * k.val + i.val, by omega⟩ : Fin 1024) l) rfl rfl rfl]
  unfold part
  rw [slabsArg, ← V_main_arg0 m c]
  show V m c main_arg0 (((cfg0.win 3).blk t).view.emb _) = _
  refine congrArg _ (funext fun a => Fin.ext ?_)
  match a with
  | ⟨0, _⟩ => show win0_3.index t (0 : Fin 3) * 2 + 1 * p.val = 32 + 2 * (t.val / 8 % 8) + p.val; omega
  | ⟨1, _⟩ => show win0_3.index t (1 : Fin 3) * 1024 + 1 * (128 * k.val + i.val) = 8192 * (t.val / 64) + 128 * (8 * (7 - t.val % 8) + k.val) + i.val; omega
  | ⟨2, _⟩ => show win0_3.index t (2 : Fin 3) * 128 + 1 * l.val = l.val; omega

theorem cos_block (t : Fin cfg0.N) (k : Fin 8) (i l : Fin 128) :
    rows (iblk m c 4 t) k (ValueIdx.ix2 i l) = tableRow cosines (chunkOf t k) i l := by
  obtain ⟨-, -, -, ⟨e0, e1⟩, -⟩ := index_facts t
  have hk := k.isLt
  rw [rows_apply _ k i l (ValueIdx.ix2 (⟨128 * k.val + i.val, by omega⟩ : Fin 1024) l) rfl rfl]
  unfold tableRow
  rw [← cosines_at_entry m c]
  show V m c main_v16 (((cfg0.win 4).blk t).view.emb _) = _
  refine congrArg _ (funext fun a => Fin.ext ?_)
  match a with
  | ⟨0, _⟩ => show win0_4.index t (0 : Fin 2) * 1024 + 1 * (128 * k.val + i.val) = 128 * (8 * (7 - t.val % 8) + k.val) + i.val; omega
  | ⟨1, _⟩ => show win0_4.index t (1 : Fin 2) * 128 + 1 * l.val = l.val; omega

theorem sin_block (t : Fin cfg0.N) (k : Fin 8) (i l : Fin 128) :
    rows (iblk m c 5 t) k (ValueIdx.ix2 i l) = tableRow sines (chunkOf t k) i l := by
  obtain ⟨-, -, -, -, ⟨e0, e1⟩, -⟩ := index_facts t
  have hk := k.isLt
  rw [rows_apply _ k i l (ValueIdx.ix2 (⟨128 * k.val + i.val, by omega⟩ : Fin 1024) l) rfl rfl]
  unfold tableRow
  rw [← sines_at_entry m c]
  show V m c main_v17 (((cfg0.win 5).blk t).view.emb _) = _
  refine congrArg _ (funext fun a => Fin.ext ?_)
  match a with
  | ⟨0, _⟩ => show win0_5.index t (0 : Fin 2) * 1024 + 1 * (128 * k.val + i.val) = 128 * (8 * (7 - t.val % 8) + k.val) + i.val; omega
  | ⟨1, _⟩ => show win0_5.index t (1 : Fin 2) * 128 + 1 * l.val = l.val; omega

theorem o_block (t : Fin cfg0.N) (k : Fin 8) (p : Fin 2) (i l : Fin 128) :
    slabF (iblk m c 6 t) p k (ValueIdx.ix3 (0 : Fin 1) i l) = sumPart (sumsArg m c) (batch t) (head t) (chunkOf t k) i p l := by
  obtain ⟨-, -, -, -, -, ⟨e0, e1, e2⟩, -⟩ := index_facts t
  have hk := k.isLt
  rw [slabF_apply _ p k i l (ValueIdx.ix3 p (⟨128 * k.val + i.val, by omega⟩ : Fin 1024) l) rfl rfl rfl]
  unfold sumPart
  rw [sumsArg, ← V_main_arg1 m c]
  show V m c main_arg1 (((cfg0.win 6).blk t).view.emb _) = _
  refine congrArg _ (funext fun a => Fin.ext ?_)
  match a with
  | ⟨0, _⟩ => show win0_6.index t (0 : Fin 3) * 2 + 1 * p.val = 2 * (t.val / 8 % 8) + p.val; omega
  | ⟨1, _⟩ => show win0_6.index t (1 : Fin 3) * 1024 + 1 * (128 * k.val + i.val) = 8192 * (t.val / 64) + 128 * (8 * (7 - t.val % 8) + k.val) + i.val; omega
  | ⟨2, _⟩ => show win0_6.index t (2 : Fin 3) * 128 + 1 * l.val = l.val; omega

theorem gate_block (t : Fin cfg0.N) (k : Fin 8) (p : Fin 2) (i l : Fin 128) :
    slab (iblk m c 7 t) p k (ValueIdx.ix3 (0 : Fin 1) i l) = gatePart (slabsArg m c) (batch t) (head t) (chunkOf t k) i p l := by
  obtain ⟨⟨e0, e1, e2⟩, -⟩ := index_more t
  have hk := k.isLt
  rw [slab_apply _ p k i l (ValueIdx.ix3 p (⟨128 * k.val + i.val, by omega⟩ : Fin 1024) l) rfl rfl rfl]
  unfold gatePart
  rw [slabsArg, ← V_main_arg0 m c]
  show V m c main_arg0 (((cfg0.win 7).blk t).view.emb _) = _
  refine congrArg _ (funext fun a => Fin.ext ?_)
  match a with
  | ⟨0, _⟩ => show win0_7.index t (0 : Fin 3) * 2 + 1 * p.val = 48 + 2 * (t.val / 8 % 8) + p.val; omega
  | ⟨1, _⟩ => show win0_7.index t (1 : Fin 3) * 1024 + 1 * (128 * k.val + i.val) = 8192 * (t.val / 64) + 128 * (8 * (7 - t.val % 8) + k.val) + i.val; omega
  | ⟨2, _⟩ => show win0_7.index t (2 : Fin 3) * 128 + 1 * l.val = l.val; omega

theorem scale_block (t : Fin cfg0.N) (e : Fin 256) : iblk m c 8 t (ValueIdx.ix2 (0 : Fin 1) e) = ws (scalesArg m c) (head t) e := by
  obtain ⟨-, ⟨e0, e1⟩, -⟩ := index_more t
  have he := e.isLt
  unfold ws
  rw [← shapeCast_apply (scalesArg m c) shapeCasts_S2048_S1x2048 (ValueIdx.ix2 (0 : Fin 1) (⟨256 * (head t).val + e.val, by omega⟩ : Fin 2048))
    (ValueIdx.ix1 (⟨256 * (head t).val + e.val, by omega⟩ : Fin 2048)) (by
    rewrite [Shape.rowMajor_val_one, Shape.rowMajor_val_two]
    show 256 * (t.val / 8 % 8) + e.val = 0 * 2048 + (256 * (t.val / 8 % 8) + e.val)
    omega), ← scales_at_entry m c]
  show V m c main_v18 (((cfg0.win 8).blk t).view.emb _) = _
  refine congrArg _ (funext fun a => Fin.ext ?_)
  match a with
  | ⟨0, _⟩ => show win0_8.index t (0 : Fin 2) * 1 + 1 * 0 = 0; omega
  | ⟨1, _⟩ => show win0_8.index t (1 : Fin 2) * 256 + 1 * e.val = 256 * (t.val / 8 % 8) + e.val; omega

/-! ## A chunk's operands -/

theorem queries_block (t : Fin cfg0.N) (k : Fin 8) (i : Fin 128) (d : Fin 256) :
    queries (iblk m c 1 t) (iblk m c 4 t) (iblk m c 5 t) k (ValueIdx.ix2 i d)
      = qs (slabsArg m c) cosines sines (batch t) (head t) (chunkOf t k) i d := by
  unfold queries qs
  rw [pay9_apply, funext (q_block m c t k 0 i), funext (q_block m c t k 1 i), funext (cos_block m c t k i), funext (sin_block m c t k i)]

theorem keys_block (t : Fin cfg0.N) (k : Fin 8) (i : Fin 128) (d : Fin 256) :
    keys (iblk m c 2 t) (iblk m c 4 t) (iblk m c 5 t) k i d = ks (slabsArg m c) cosines sines (batch t) (head t) (chunkOf t k) i d := by
  unfold keys ks
  rw [funext (k_block m c t k 0 i), funext (k_block m c t k 1 i), funext (cos_block m c t k i), funext (sin_block m c t k i)]

theorem vals_block (t : Fin cfg0.N) (k : Fin 8) (i : Fin 128) (e : Fin 256) :
    pair k (iblk m c 3 t) i e = vs (slabsArg m c) (batch t) (head t) (chunkOf t k) i e := by
  unfold pair vs
  rw [funext (v_block m c t k 0 i), funext (v_block m c t k 1 i)]

theorem gates_block (t : Fin cfg0.N) (k : Fin 8) (i : Fin 128) (e : Fin 256) :
    pair k (iblk m c 7 t) i e = gs (slabsArg m c) (batch t) (head t) (chunkOf t k) i e := by
  unfold pair gs
  rw [funext (gate_block m c t k 0 i), funext (gate_block m c t k 1 i)]

theorem given_block (t : Fin cfg0.N) (k : Fin 8) (i : Fin 128) (e : Fin 256) :
    given (iblk m c 6 t) k i e = os (sumsArg m c) (batch t) (head t) (chunkOf t k) i e := by
  unfold given os
  rw [funext (o_block m c t k 0 i), funext (o_block m c t k 1 i)]

/-! ## The state -/

/-- A head's state after its last `n` chunks. -/
abbrev stateOf (b : Fin 2) (h : Fin 8) (n : ℕ) : Fin 256 → Fin 256 → EReal :=
  later (ratesOf m c (ValueIdx.ix2 (1 : Fin 2) h)) (ks (slabsArg m c) cosines sines b h) (vs (slabsArg m c) b h) n

/-- Inside a row block the state goes on from chunk to chunk. -/
theorem chain_apply (t : Fin cfg0.N) (S : Vec Ideal S256x256 .f32)
    (hS : ∀ d e, S (ValueIdx.ix2 d e) = stateOf m c (batch t) (head t) (8 * (t.val % 8)) d e) (n : ℕ) (hn : n ≤ 8) (d e : Fin 256) :
    chain (logAt (grid0.coords t) (iblk m c 0 t) 1) (iblk m c 2 t) (iblk m c 3 t) (iblk m c 4 t) (iblk m c 5 t) S n (ValueIdx.ix2 d e)
      = stateOf m c (batch t) (head t) (8 * (t.val % 8) + n) d e := by
  induction n generalizing d e with
  | zero => exact hS d e
  | succ n ih =>
    have hn' : n < 8 := by omega
    have ek : Fin.ofNat 8 (7 - n) = ⟨7 - n, by omega⟩ := Fin.ext (Nat.mod_eq_of_lt (by omega))
    have ec : (Fin.ofNat 64 (8 * (t.val % 8) + n)).rev = chunkOf t ⟨7 - n, by omega⟩ := Fin.ext (by
      show 64 - ((8 * (t.val % 8) + n) % 64 + 1) = 8 * (7 - t.val % 8) + (7 - n)
      omega)
    have ih' := ih (by omega)
    unfold chain stateOf later state
    simp only [Nat.add_eq]
    rw [ek, ec, ← rate_apply m c t 1]
    refine next_apply _ _ _ _ _ _ _ _ _ _ (keys_block m c t ⟨7 - n, by omega⟩) (vals_block m c t ⟨7 - n, by omega⟩)
      (fun d e => (ih' d e).trans ?_) d e
    rw [stateOf, later, ← rate_apply m c t 1]

theorem zeros_apply (d e : Fin 256) : k0_pay2 (F := Ideal) (ValueIdx.ix2 d e) = 0 := by
  rw [← Ideal.ofBits_zero_f32]
  unfold k0_pay2
  rfl

/-- After every point the scratch holds the state after the point's row block. -/
theorem scratch_eq : ∀ (n : ℕ) (h : n < cfg0.N) (d e : Fin 256), (outsAt0 m c n h).2 (ValueIdx.ix2 d e)
    = stateOf m c (batch ⟨n, h⟩) (head ⟨n, h⟩) (8 * (n % 8) + 8) d e := by
  intro n
  induction n with
  | zero =>
    intro h d e
    rw [outsAt0_A m c ⟨0, h⟩ (Nat.zero_mod _)]
    dsimp only
    rw [scratch_A]
    exact chain_apply m c ⟨0, h⟩ _ (fun d e => zeros_apply d e) 8 le_rfl d e
  | succ n ih =>
    intro h d e
    by_cases h0 : (n + 1) % 8 = 0
    · rw [outsAt0_A m c ⟨n + 1, h⟩ h0]
      dsimp only
      rw [scratch_A]
      refine chain_apply m c ⟨n + 1, h⟩ _ (fun d e => (zeros_apply d e).trans ?_) 8 le_rfl d e
      show 0 = stateOf m c _ _ (8 * ((n + 1) % 8)) d e
      rw [h0]
      rfl
    · rw [outsAt0_B m c ⟨n + 1, h⟩ h0]
      dsimp only
      rw [scratch_B]
      refine chain_apply m c ⟨n + 1, h⟩ _ (fun d e => (ih (by omega) d e).trans ?_) 8 le_rfl d e
      have eb : batch ⟨n, by omega⟩ = batch ⟨n + 1, h⟩ := Fin.ext (by show n / 64 = (n + 1) / 64; omega)
      have eh : head ⟨n, by omega⟩ = head ⟨n + 1, h⟩ := Fin.ext (by show n / 8 % 8 = (n + 1) / 8 % 8; omega)
      have es : 8 * (n % 8) + 8 = 8 * ((n + 1) % 8) := by omega
      rw [eb, eh, es]

/-- A block of outputs over the state before its row block. -/
theorem blockOut_apply (t : Fin cfg0.N) (S : Vec Ideal S256x256 .f32)
    (hS : ∀ d e, S (ValueIdx.ix2 d e) = stateOf m c (batch t) (head t) (8 * (t.val % 8)) d e) (y : S1024x256.Idx) (z : S16384x2048.Idx)
    (h0 : (z 0).val = 8192 * (t.val / 64) + 1024 * (7 - t.val % 8) + (y 0).val) (h1 : (z 1).val = 256 * (t.val / 8 % 8) + (y 1).val) :
    blockOut (logAt (grid0.coords t) (iblk m c 0 t) 1) (iblk m c 1 t) (iblk m c 2 t) (iblk m c 3 t) (iblk m c 4 t) (iblk m c 5 t) (iblk m c 6 t)
      (iblk m c 7 t) (iblk m c 8 t) S y = Cert.Proof.RetBwdMath.result (slabsArg m c) (sumsArg m c) (ratesOf m c) (scalesArg m c) cosines sines z := by
  have hp := points t
  have y0 : (y 0).val < 1024 := (y 0).isLt
  have y1 : (y 1).val < 256 := (y 1).isLt
  have eb : (⟨(z 0).val / 8192, by omega⟩ : Fin 2) = batch t := Fin.ext (by show (z 0).val / 8192 = t.val / 64; omega)
  have eh : (⟨(z 1).val / 256, by omega⟩ : Fin 8) = head t := Fin.ext (by show (z 1).val / 256 = t.val / 8 % 8; omega)
  have en : (⟨(z 0).val % 8192 / 128, by omega⟩ : Fin 64) = chunkOf t ⟨(y 0).val / 128, by omega⟩ :=
    Fin.ext (by show (z 0).val % 8192 / 128 = 8 * (7 - t.val % 8) + (y 0).val / 128; omega)
  have ei : (⟨(z 0).val % 128, by omega⟩ : Fin 128) = ⟨(y 0).val % 128, by omega⟩ := Fin.ext (by show (z 0).val % 128 = (y 0).val % 128; omega)
  have ee : (⟨(z 1).val % 256, by omega⟩ : Fin 256) = ⟨(y 1).val, y1⟩ := Fin.ext (by show (z 1).val % 256 = (y 1).val; omega)
  have el : 63 - (chunkOf t ⟨(y 0).val / 128, by omega⟩).val = 8 * (t.val % 8) + (7 - (y 0).val / 128) := by
    show 63 - (8 * (7 - t.val % 8) + (y 0).val / 128) = _
    omega
  unfold blockOut Cert.Proof.RetBwdMath.result
  dsimp only
  rw [eb, eh, en, ei, ee]
  unfold retained bothSums
  rw [el, ← rate_apply m c t 1]
  refine output_apply _ _ _ _ _ _ _ _ _ _ _ _ _ _ (queries_block m c t _) (given_block m c t _) (fun d e => (chain_apply m c t S hS _ (by omega) d e).trans ?_)
    (gates_block m c t _) (scale_block m c t) _ _
  rw [stateOf, ← rate_apply m c t 1]

/-- What every point writes. -/
theorem block_eq (n : ℕ) (h : n < cfg0.N) (y : S1024x256.Idx) (z : S16384x2048.Idx)
    (h0 : (z 0).val = 8192 * (n / 64) + 1024 * (7 - n % 8) + (y 0).val) (h1 : (z 1).val = 256 * (n / 8 % 8) + (y 1).val) :
    (outsAt0 m c n h).1 y = Cert.Proof.RetBwdMath.result (slabsArg m c) (sumsArg m c) (ratesOf m c) (scalesArg m c) cosines sines z := by
  by_cases hA : n % 8 = 0
  · rw [outsAt0_A m c ⟨n, h⟩ hA]
    dsimp only
    rw [out_A]
    refine blockOut_apply m c ⟨n, h⟩ _ (fun d e => (zeros_apply d e).trans ?_) y z h0 h1
    show 0 = stateOf m c _ _ (8 * (n % 8)) d e
    rw [hA]
    rfl
  · rw [outsAt0_B m c ⟨n, h⟩ hA]
    dsimp only
    rw [out_B]
    refine blockOut_apply m c ⟨n, h⟩ _ (fun d e => (scratch_eq m c (n - 1) (by omega) d e).trans ?_) y z h0 h1
    have eb : batch ⟨n - 1, by omega⟩ = batch ⟨n, h⟩ := Fin.ext (by show (n - 1) / 64 = n / 64; omega)
    have eh : head ⟨n - 1, by omega⟩ = head ⟨n, h⟩ := Fin.ext (by show (n - 1) / 8 % 8 = n / 8 % 8; omega)
    have es : 8 * ((n - 1) % 8) + 8 = 8 * (n % 8) := by omega
    rw [eb, eh, es]

/-! ## The array -/

theorem covers : (cfg0.win 9).Covers := by decide +kernel

/-- The array the call leaves. -/
theorem array_eq : (dats m 0 c).arrAt 9 cfg0.N = Cert.Proof.RetBwdMath.result (slabsArg m c) (sumsArg m c) (ratesOf m c) (scalesArg m c) cosines sines :=
  (dats m 0 c).arrAt_eq_of_covers 9 _ covers (fun t _ y => by
    obtain ⟨-, -, ⟨e0, e1⟩⟩ := index_more t
    rw [after0_9]
    refine block_eq m c t.val t.isLt _ (((cfg0.win 9).blk t).view.emb y) ?_ ?_
    · show win0_9.index t (0 : Fin 2) * 1024 + 1 * (y 0).val = 8192 * (t.val / 64) + 1024 * (7 - t.val % 8) + (y 0).val; omega
    · show win0_9.index t (1 : Fin 2) * 256 + 1 * (y 1).val = 256 * (t.val / 8 % 8) + (y 1).val; omega)

end Cert.RetBwdIdeal.Retention
end
-- ==== Proof.RetBwdClaims.lean ====
/- The claims about the retention's backward call: the runs, and that the kernel's result is the reference's. -/
module

public import proofs.«01_k».proof.Defs
public import proofs.«01_k».proof.Proof.Gen.RetBwd.Frame
public import proofs.«01_k».proof.Proof.RetBwdEntry
public import proofs.«01_k».proof.Proof.RetBwdNormed
public import proofs.«01_k».proof.Proof.RetBwdValue

@[expose] public section

noncomputable section

namespace Cert.Proof.RetBwdClaims

open Idealize.ShloMosaic Idealize.SL.Sem

/-- The kernel runs at the machine's words and keeps its arguments. -/
theorem frame_kernel : Cert.quiescent_RetBwd := fun m ρ _ => Cert.RetBwd.Gen.frame m ρ

/-- So does its idealized text at the ideal values. -/
theorem frame_ideal : Cert.quiescent_RetBwdIdeal := fun m ρ _ => Cert.RetBwdIdeal.Gen.frame m ρ

section Reference
open Cert.RetBwdRefIdeal

variable (m : (ℓ : Loc nD τ sig) → Buf (Elt Ideal) ℓ) (ρ : Dev nD → PrngReg)

/-- What the reference leaves: the retention of its arguments, normalised and gated. -/
theorem reference_run : θ_run (defs (F := Ideal)) (onTc (τ := τ) (main (F := Ideal))) ⟨m, fun _ => 0, ρ⟩ fun r => ∀ c : Dev nD,
    r.2.mem ((c.tc : Thread nD τ).loc main_v161)
      = Cert.Proof.RetBwdMath.result (m ((c.tc : Thread nD τ).loc main_arg0)) (m ((c.tc : Thread nD τ).loc main_arg1))
          (Operands.L (m ((c.tc : Thread nD τ).loc main_arg0)) (m ((c.tc : Thread nD τ).loc main_arg1)) (m ((c.tc : Thread nD τ).loc main_arg2))) (m ((c.tc : Thread nD τ).loc main_arg3)) Operands.C Operands.S
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun r h c => ⟨(h c).1.trans (Operands.result_eq _ _ _ _), (h c).2⟩)
    (Entry.run_states (F := Ideal) m ρ
      (fun c => Operands.refIter (m ((c.tc : Thread nD τ).loc main_arg0)) (m ((c.tc : Thread nD τ).loc main_arg1)) (m ((c.tc : Thread nD τ).loc main_arg2)))
      (fun _ => rfl) (fun _ _ => rfl))

end Reference

/-- The reference is host operations around a loop and declares no semaphore. -/
theorem frame_reference : Cert.quiescent_RetBwdRefIdeal := fun m ρ _ =>
  (θ_run Cert.RetBwdRefIdeal.defs _ _).mono (fun r h => ⟨fun c => (h c).2, Idealize.ShloMosaic.sem_eq_zero_of_no_sems (by decide) r.2⟩)
    (reference_run m ρ)

/-- The idealization rewrote nothing. -/
theorem preserves : Cert.preserves_RetBwd_RetBwdIdeal := trivial

/-- Over the ideal values the kernel's result array is the reference's. -/
theorem algebraic : Cert.algebraic_RetBwdIdeal_RetBwdRefIdeal := by
  intro m ρ m' ρ' _ hag
  refine ⟨fun c => Cert.Proof.RetBwdMath.result (Cert.RetBwdIdeal.Retention.slabsArg m c) (Cert.RetBwdIdeal.Retention.sumsArg m c)
    (Cert.RetBwdIdeal.Retention.ratesOf m c) (Cert.RetBwdIdeal.Retention.scalesArg m c)
    Cert.RetBwdIdeal.Retention.cosines Cert.RetBwdIdeal.Retention.sines, ?_, ?_⟩
  · exact (θ_run Cert.RetBwdIdeal.defs _ _).mono (fun r h c => ⟨(h c).1.trans (Cert.RetBwdIdeal.Retention.array_eq m c), (h c).2⟩)
      (Cert.RetBwdIdeal.Value.run_blocks (F := Ideal) m ρ)
  · refine (θ_run Cert.RetBwdRefIdeal.defs _ _).mono (fun r h c => ⟨(h c).1.trans ?_, (h c).2⟩) (reference_run m' ρ')
    rw [(hag c).1, (hag c).2.1, (hag c).2.2.1, (hag c).2.2.2]

end Cert.Proof.RetBwdClaims

end
-- ==== Proof.lean ====
/- The certificate: for each call taken, the kernel runs and keeps its arguments, and over the ideal values its result is
   the reference's. Each call's claims are proved in a module of its own. -/
module

public import proofs.«01_k».proof.Defs
public import proofs.«01_k».proof.Proof.EvInClaims
public import proofs.«01_k».proof.Proof.OutProjClaims
public import proofs.«01_k».proof.Proof.OdInClaims
public import proofs.«01_k».proof.Proof.RetFwdClaims
public import proofs.«01_k».proof.Proof.RetBwdClaims

@[expose] public section

noncomputable section

namespace Cert.Proof

open Idealize.ShloMosaic Idealize.SL.Sem

theorem claim : Cert.Claim := ⟨Cert.EvIn.Gen.facts, Cert.EvInIdeal.Gen.facts, Cert.EvInRefIdeal.Gen.facts, Cert.OutProj.Gen.facts, Cert.OutProjIdeal.Gen.facts, Cert.OutProjRefIdeal.Gen.facts, Cert.OdIn.Gen.facts, Cert.OdInIdeal.Gen.facts, Cert.OdInRefIdeal.Gen.facts, Cert.RetFwd.Gen.facts, Cert.RetFwdIdeal.Gen.facts, Cert.RetFwdRefIdeal.Gen.facts, Cert.RetBwd.Gen.facts, Cert.RetBwdIdeal.Gen.facts, Cert.RetBwdRefIdeal.Gen.facts,
  Cert.Proof.EvInClaims.frame_kernel, Cert.Proof.EvInClaims.frame_ideal, Cert.Proof.EvInClaims.frame_reference,
  Cert.Proof.OutProjClaims.frame_kernel, Cert.Proof.OutProjClaims.frame_ideal, Cert.Proof.OutProjClaims.frame_reference,
  Cert.Proof.OdInClaims.frame_kernel, Cert.Proof.OdInClaims.frame_ideal, Cert.Proof.OdInClaims.frame_reference,
  Cert.Proof.RetFwdClaims.frame_kernel, Cert.Proof.RetFwdClaims.frame_ideal, Cert.Proof.RetFwdClaims.frame_reference,
  Cert.Proof.RetBwdClaims.frame_kernel, Cert.Proof.RetBwdClaims.frame_ideal, Cert.Proof.RetBwdClaims.frame_reference,
  Cert.Proof.EvInClaims.preserves, Cert.Proof.EvInClaims.algebraic,
  Cert.Proof.OutProjClaims.preserves, Cert.Proof.OutProjClaims.algebraic,
  Cert.Proof.OdInClaims.preserves, Cert.Proof.OdInClaims.algebraic,
  Cert.Proof.RetFwdClaims.preserves, Cert.Proof.RetFwdClaims.algebraic,
  Cert.Proof.RetBwdClaims.preserves, Cert.Proof.RetBwdClaims.algebraic⟩

end Cert.Proof

end
